-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S2x128x2048 : Shape := ⟨3, ![2, 128, 2048]⟩
abbrev S2 : Shape := ⟨1, ![2]⟩
abbrev S_ : Shape := ⟨0, ![]⟩
abbrev S128x128 : Shape := ⟨2, ![128, 128]⟩
abbrev S128x2048 : Shape := ⟨2, ![128, 2048]⟩
abbrev S1x128x2048 : Shape := ⟨3, ![1, 128, 2048]⟩
abbrev S1 : Shape := ⟨1, ![1]⟩

abbrev nBuf : Space → Nat
  | .hbm => 3
  | .vmem => 11
  | .smem => 0
  | _ => 0

abbrev bufTy : (tb : Table) → Fin (tcTables nBuf tb) → BufTy
  | .hbm, ⟨0, _⟩ => ⟨S4096x128, .bf16⟩
  | .hbm, ⟨1, _⟩ => ⟨S128x8192, .bf16⟩
  | .hbm, ⟨2, _⟩ => ⟨S128x8192, .f32⟩
  | .local _ .vmem, ⟨0, _⟩ => ⟨S4096x128, .bf16⟩
  | .local _ .vmem, ⟨1, _⟩ => ⟨S128x8192, .bf16⟩
  | .local _ .vmem, ⟨2, _⟩ => ⟨S128x8192, .f32⟩
  | .local _ .vmem, ⟨3, _⟩ => ⟨S2x128x2048, .bf16⟩
  | .local _ .vmem, ⟨4, _⟩ => ⟨S2x128x2048, .bf16⟩
  | .local _ .vmem, ⟨5, _⟩ => ⟨S2x128x2048, .bf16⟩
  | .local _ .vmem, ⟨6, _⟩ => ⟨S2x128x2048, .bf16⟩
  | .local _ .vmem, ⟨7, _⟩ => ⟨S2x128x2048, .bf16⟩
  | .local _ .vmem, ⟨8, _⟩ => ⟨S2x128x2048, .bf16⟩
  | .local _ .vmem, ⟨9, _⟩ => ⟨S2x128x2048, .bf16⟩
  | .local _ .vmem, ⟨10, _⟩ => ⟨S2x128x2048, .bf16⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 5 19 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 4

abbrev nD : Nat := 32
abbrev τ : Topo := Topo.v7x

variable {F : FTy → Type} [FloatOps F]

abbrev grid0 : Pipeline.Grid := .none

def k0_dev1 (d0 : Dev nD) : Nat :=
  let c0_i32_155 : BitVec 32 := 0#32
  let c8_i32_143 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_104 : BitVec 32 := 1#32
  let v205 : BitVec 32 := Scalar.subi v114 c1_i32_104
  let c64_i32_105 : BitVec 32 := 64#32
  let v206 : BitVec 32 := Scalar.addi v205 c64_i32_105
  let c32_i32_106 : BitVec 32 := 32#32
  let v207 : BitVec 32 := Scalar.remsi v206 c32_i32_106
  let c16_i32_114 : BitVec 32 := 16#32
  let c0_i32_115 : BitVec 32 := 0#32
  let v225 : BitVec 1 := Scalar.cmpi .eq c16_i32_114 c0_i32_115
  let c1_i32_116 : BitVec 32 := 1#32
  let v226 : BitVec 32 := Scalar.select v225 c1_i32_116 c16_i32_114
  let v227 : BitVec 32 := Scalar.remsi v207 v226
  let c0_i32_118 : BitVec 32 := 0#32
  let v229 : BitVec 1 := Scalar.cmpi .slt v227 c0_i32_118
  let c0_i32_119 : BitVec 32 := 0#32
  let v230 : BitVec 1 := Scalar.cmpi .slt v226 c0_i32_119
  let v231 : BitVec 1 := Scalar.xori v229 v230
  let c0_i32_117 : BitVec 32 := 0#32
  let v228 : BitVec 1 := Scalar.cmpi .ne v227 c0_i32_117
  let v232 : BitVec 1 := Scalar.andi v231 v228
  let v233 : BitVec 32 := Scalar.addi v227 v226
  let v234 : BitVec 32 := Scalar.select v232 v233 v227
  let c0_i32_121 : BitVec 32 := 0#32
  let v236 : BitVec 1 := Scalar.cmpi .sgt v234 c0_i32_121
  let v237 : BitVec 32 := Scalar.extui v236
  let c0_i32_122 : BitVec 32 := 0#32
  let v238 : BitVec 1 := Scalar.cmpi .slt v234 c0_i32_122
  let v239 : BitVec 32 := Scalar.extui v238
  let v240 : BitVec 32 := Scalar.subi v237 v239
  let c4_i32_120 : BitVec 32 := 4#32
  let c0_i32_123 : BitVec 32 := 0#32
  let v241 : BitVec 1 := Scalar.cmpi .sgt c4_i32_120 c0_i32_123
  let v242 : BitVec 32 := Scalar.extui v241
  let c0_i32_124 : BitVec 32 := 0#32
  let v243 : BitVec 1 := Scalar.cmpi .slt c4_i32_120 c0_i32_124
  let v244 : BitVec 32 := Scalar.extui v243
  let v245 : BitVec 32 := Scalar.subi v242 v244
  let v246 : BitVec 1 := Scalar.cmpi .ne v240 v245
  let v247 : BitVec 32 := Scalar.remsi v234 c4_i32_120
  let c0_i32_125 : BitVec 32 := 0#32
  let v248 : BitVec 1 := Scalar.cmpi .ne v247 c0_i32_125
  let v249 : BitVec 1 := Scalar.andi v246 v248
  let v235 : BitVec 32 := Scalar.divsi v234 c4_i32_120
  let c1_i32_126 : BitVec 32 := 1#32
  let v250 : BitVec 32 := Scalar.subi v235 c1_i32_126
  let v251 : BitVec 32 := Scalar.select v249 v250 v235
  let c2_i32_135 : BitVec 32 := 2#32
  let c0_i32_136 : BitVec 32 := 0#32
  let v265 : BitVec 1 := Scalar.cmpi .eq c2_i32_135 c0_i32_136
  let c1_i32_137 : BitVec 32 := 1#32
  let v266 : BitVec 32 := Scalar.select v265 c1_i32_137 c2_i32_135
  let v267 : BitVec 32 := Scalar.remsi v251 v266
  let c0_i32_139 : BitVec 32 := 0#32
  let v269 : BitVec 1 := Scalar.cmpi .slt v267 c0_i32_139
  let c0_i32_140 : BitVec 32 := 0#32
  let v270 : BitVec 1 := Scalar.cmpi .slt v266 c0_i32_140
  let v271 : BitVec 1 := Scalar.xori v269 v270
  let c0_i32_138 : BitVec 32 := 0#32
  let v268 : BitVec 1 := Scalar.cmpi .ne v267 c0_i32_138
  let v272 : BitVec 1 := Scalar.andi v271 v268
  let v273 : BitVec 32 := Scalar.addi v267 v266
  let v274 : BitVec 32 := Scalar.select v272 v273 v267
  let c0_i32_141 : BitVec 32 := 0#32
  let v275 : BitVec 1 := Scalar.cmpi .eq v274 c0_i32_141
  let c4_i32_127 : BitVec 32 := 4#32
  let c0_i32_128 : BitVec 32 := 0#32
  let v252 : BitVec 1 := Scalar.cmpi .eq c4_i32_127 c0_i32_128
  let c1_i32_129 : BitVec 32 := 1#32
  let v253 : BitVec 32 := Scalar.select v252 c1_i32_129 c4_i32_127
  let v254 : BitVec 32 := Scalar.remsi v234 v253
  let c0_i32_131 : BitVec 32 := 0#32
  let v256 : BitVec 1 := Scalar.cmpi .slt v254 c0_i32_131
  let c0_i32_132 : BitVec 32 := 0#32
  let v257 : BitVec 1 := Scalar.cmpi .slt v253 c0_i32_132
  let v258 : BitVec 1 := Scalar.xori v256 v257
  let c0_i32_130 : BitVec 32 := 0#32
  let v255 : BitVec 1 := Scalar.cmpi .ne v254 c0_i32_130
  let v259 : BitVec 1 := Scalar.andi v258 v255
  let v260 : BitVec 32 := Scalar.addi v254 v253
  let v261 : BitVec 32 := Scalar.select v259 v260 v254
  let c3_i32_142 : BitVec 32 := 3#32
  let v276 : BitVec 32 := Scalar.subi c3_i32_142 v261
  let v277 : BitVec 32 := Scalar.select v275 v261 v276
  let v278 : BitVec 32 := Scalar.muli c8_i32_143 v277
  let c2_i32_144 : BitVec 32 := 2#32
  let c0_i32_108 : BitVec 32 := 0#32
  let v209 : BitVec 1 := Scalar.cmpi .sgt v207 c0_i32_108
  let v210 : BitVec 32 := Scalar.extui v209
  let c0_i32_109 : BitVec 32 := 0#32
  let v211 : BitVec 1 := Scalar.cmpi .slt v207 c0_i32_109
  let v212 : BitVec 32 := Scalar.extui v211
  let v213 : BitVec 32 := Scalar.subi v210 v212
  let c16_i32_107 : BitVec 32 := 16#32
  let c0_i32_110 : BitVec 32 := 0#32
  let v214 : BitVec 1 := Scalar.cmpi .sgt c16_i32_107 c0_i32_110
  let v215 : BitVec 32 := Scalar.extui v214
  let c0_i32_111 : BitVec 32 := 0#32
  let v216 : BitVec 1 := Scalar.cmpi .slt c16_i32_107 c0_i32_111
  let v217 : BitVec 32 := Scalar.extui v216
  let v218 : BitVec 32 := Scalar.subi v215 v217
  let v219 : BitVec 1 := Scalar.cmpi .ne v213 v218
  let v220 : BitVec 32 := Scalar.remsi v207 c16_i32_107
  let c0_i32_112 : BitVec 32 := 0#32
  let v221 : BitVec 1 := Scalar.cmpi .ne v220 c0_i32_112
  let v222 : BitVec 1 := Scalar.andi v219 v221
  let v208 : BitVec 32 := Scalar.divsi v207 c16_i32_107
  let c1_i32_113 : BitVec 32 := 1#32
  let v223 : BitVec 32 := Scalar.subi v208 c1_i32_113
  let v224 : BitVec 32 := Scalar.select v222 v223 v208
  let c0_i32_133 : BitVec 32 := 0#32
  let v262 : BitVec 1 := Scalar.cmpi .eq v224 c0_i32_133
  let c3_i32_134 : BitVec 32 := 3#32
  let v263 : BitVec 32 := Scalar.subi c3_i32_134 v251
  let v264 : BitVec 32 := Scalar.select v262 v251 v263
  let v279 : BitVec 32 := Scalar.muli c2_i32_144 v264
  let v280 : BitVec 32 := Scalar.addi v278 v279
  let c2_i32_145 : BitVec 32 := 2#32
  let c0_i32_146 : BitVec 32 := 0#32
  let v281 : BitVec 1 := Scalar.cmpi .eq c2_i32_145 c0_i32_146
  let c1_i32_147 : BitVec 32 := 1#32
  let v282 : BitVec 32 := Scalar.select v281 c1_i32_147 c2_i32_145
  let v283 : BitVec 32 := Scalar.remsi v264 v282
  let c0_i32_149 : BitVec 32 := 0#32
  let v285 : BitVec 1 := Scalar.cmpi .slt v283 c0_i32_149
  let c0_i32_150 : BitVec 32 := 0#32
  let v286 : BitVec 1 := Scalar.cmpi .slt v282 c0_i32_150
  let v287 : BitVec 1 := Scalar.xori v285 v286
  let c0_i32_148 : BitVec 32 := 0#32
  let v284 : BitVec 1 := Scalar.cmpi .ne v283 c0_i32_148
  let v288 : BitVec 1 := Scalar.andi v287 v284
  let v289 : BitVec 32 := Scalar.addi v283 v282
  let v290 : BitVec 32 := Scalar.select v288 v289 v283
  let c0_i32_151 : BitVec 32 := 0#32
  let v291 : BitVec 1 := Scalar.cmpi .eq v290 c0_i32_151
  let c1_i32_152 : BitVec 32 := 1#32
  let v292 : BitVec 32 := Scalar.subi c1_i32_152 v224
  let v293 : BitVec 32 := Scalar.select v291 v224 v292
  let v294 : BitVec 32 := Scalar.addi v280 v293
  let c1_i32_154 : BitVec 32 := 1#32
  let v296 : BitVec 32 := Scalar.muli v294 c1_i32_154
  let v297 : BitVec 32 := Scalar.addi c0_i32_155 v296
  v297.toNat
def k0_dev2 (d0 : Dev nD) : Nat :=
  let c0_i32_158 : BitVec 32 := 0#32
  let c8_i32_94 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_56 : BitVec 32 := 1#32
  let v115 : BitVec 32 := Scalar.addi v114 c1_i32_56
  let c64_i32 : BitVec 32 := 64#32
  let v116 : BitVec 32 := Scalar.addi v115 c64_i32
  let c32_i32_57 : BitVec 32 := 32#32
  let v117 : BitVec 32 := Scalar.remsi v116 c32_i32_57
  let c16_i32_65 : BitVec 32 := 16#32
  let c0_i32_66 : BitVec 32 := 0#32
  let v135 : BitVec 1 := Scalar.cmpi .eq c16_i32_65 c0_i32_66
  let c1_i32_67 : BitVec 32 := 1#32
  let v136 : BitVec 32 := Scalar.select v135 c1_i32_67 c16_i32_65
  let v137 : BitVec 32 := Scalar.remsi v117 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let c0_i32_72 : BitVec 32 := 0#32
  let v146 : BitVec 1 := Scalar.cmpi .sgt v144 c0_i32_72
  let v147 : BitVec 32 := Scalar.extui v146
  let c0_i32_73 : BitVec 32 := 0#32
  let v148 : BitVec 1 := Scalar.cmpi .slt v144 c0_i32_73
  let v149 : BitVec 32 := Scalar.extui v148
  let v150 : BitVec 32 := Scalar.subi v147 v149
  let c4_i32_71 : BitVec 32 := 4#32
  let c0_i32_74 : BitVec 32 := 0#32
  let v151 : BitVec 1 := Scalar.cmpi .sgt c4_i32_71 c0_i32_74
  let v152 : BitVec 32 := Scalar.extui v151
  let c0_i32_75 : BitVec 32 := 0#32
  let v153 : BitVec 1 := Scalar.cmpi .slt c4_i32_71 c0_i32_75
  let v154 : BitVec 32 := Scalar.extui v153
  let v155 : BitVec 32 := Scalar.subi v152 v154
  let v156 : BitVec 1 := Scalar.cmpi .ne v150 v155
  let v157 : BitVec 32 := Scalar.remsi v144 c4_i32_71
  let c0_i32_76 : BitVec 32 := 0#32
  let v158 : BitVec 1 := Scalar.cmpi .ne v157 c0_i32_76
  let v159 : BitVec 1 := Scalar.andi v156 v158
  let v145 : BitVec 32 := Scalar.divsi v144 c4_i32_71
  let c1_i32_77 : BitVec 32 := 1#32
  let v160 : BitVec 32 := Scalar.subi v145 c1_i32_77
  let v161 : BitVec 32 := Scalar.select v159 v160 v145
  let c2_i32_86 : BitVec 32 := 2#32
  let c0_i32_87 : BitVec 32 := 0#32
  let v175 : BitVec 1 := Scalar.cmpi .eq c2_i32_86 c0_i32_87
  let c1_i32_88 : BitVec 32 := 1#32
  let v176 : BitVec 32 := Scalar.select v175 c1_i32_88 c2_i32_86
  let v177 : BitVec 32 := Scalar.remsi v161 v176
  let c0_i32_90 : BitVec 32 := 0#32
  let v179 : BitVec 1 := Scalar.cmpi .slt v177 c0_i32_90
  let c0_i32_91 : BitVec 32 := 0#32
  let v180 : BitVec 1 := Scalar.cmpi .slt v176 c0_i32_91
  let v181 : BitVec 1 := Scalar.xori v179 v180
  let c0_i32_89 : BitVec 32 := 0#32
  let v178 : BitVec 1 := Scalar.cmpi .ne v177 c0_i32_89
  let v182 : BitVec 1 := Scalar.andi v181 v178
  let v183 : BitVec 32 := Scalar.addi v177 v176
  let v184 : BitVec 32 := Scalar.select v182 v183 v177
  let c0_i32_92 : BitVec 32 := 0#32
  let v185 : BitVec 1 := Scalar.cmpi .eq v184 c0_i32_92
  let c4_i32_78 : BitVec 32 := 4#32
  let c0_i32_79 : BitVec 32 := 0#32
  let v162 : BitVec 1 := Scalar.cmpi .eq c4_i32_78 c0_i32_79
  let c1_i32_80 : BitVec 32 := 1#32
  let v163 : BitVec 32 := Scalar.select v162 c1_i32_80 c4_i32_78
  let v164 : BitVec 32 := Scalar.remsi v144 v163
  let c0_i32_82 : BitVec 32 := 0#32
  let v166 : BitVec 1 := Scalar.cmpi .slt v164 c0_i32_82
  let c0_i32_83 : BitVec 32 := 0#32
  let v167 : BitVec 1 := Scalar.cmpi .slt v163 c0_i32_83
  let v168 : BitVec 1 := Scalar.xori v166 v167
  let c0_i32_81 : BitVec 32 := 0#32
  let v165 : BitVec 1 := Scalar.cmpi .ne v164 c0_i32_81
  let v169 : BitVec 1 := Scalar.andi v168 v165
  let v170 : BitVec 32 := Scalar.addi v164 v163
  let v171 : BitVec 32 := Scalar.select v169 v170 v164
  let c3_i32_93 : BitVec 32 := 3#32
  let v186 : BitVec 32 := Scalar.subi c3_i32_93 v171
  let v187 : BitVec 32 := Scalar.select v185 v171 v186
  let v188 : BitVec 32 := Scalar.muli c8_i32_94 v187
  let c2_i32_95 : BitVec 32 := 2#32
  let c0_i32_59 : BitVec 32 := 0#32
  let v119 : BitVec 1 := Scalar.cmpi .sgt v117 c0_i32_59
  let v120 : BitVec 32 := Scalar.extui v119
  let c0_i32_60 : BitVec 32 := 0#32
  let v121 : BitVec 1 := Scalar.cmpi .slt v117 c0_i32_60
  let v122 : BitVec 32 := Scalar.extui v121
  let v123 : BitVec 32 := Scalar.subi v120 v122
  let c16_i32_58 : BitVec 32 := 16#32
  let c0_i32_61 : BitVec 32 := 0#32
  let v124 : BitVec 1 := Scalar.cmpi .sgt c16_i32_58 c0_i32_61
  let v125 : BitVec 32 := Scalar.extui v124
  let c0_i32_62 : BitVec 32 := 0#32
  let v126 : BitVec 1 := Scalar.cmpi .slt c16_i32_58 c0_i32_62
  let v127 : BitVec 32 := Scalar.extui v126
  let v128 : BitVec 32 := Scalar.subi v125 v127
  let v129 : BitVec 1 := Scalar.cmpi .ne v123 v128
  let v130 : BitVec 32 := Scalar.remsi v117 c16_i32_58
  let c0_i32_63 : BitVec 32 := 0#32
  let v131 : BitVec 1 := Scalar.cmpi .ne v130 c0_i32_63
  let v132 : BitVec 1 := Scalar.andi v129 v131
  let v118 : BitVec 32 := Scalar.divsi v117 c16_i32_58
  let c1_i32_64 : BitVec 32 := 1#32
  let v133 : BitVec 32 := Scalar.subi v118 c1_i32_64
  let v134 : BitVec 32 := Scalar.select v132 v133 v118
  let c0_i32_84 : BitVec 32 := 0#32
  let v172 : BitVec 1 := Scalar.cmpi .eq v134 c0_i32_84
  let c3_i32_85 : BitVec 32 := 3#32
  let v173 : BitVec 32 := Scalar.subi c3_i32_85 v161
  let v174 : BitVec 32 := Scalar.select v172 v161 v173
  let v189 : BitVec 32 := Scalar.muli c2_i32_95 v174
  let v190 : BitVec 32 := Scalar.addi v188 v189
  let c2_i32_96 : BitVec 32 := 2#32
  let c0_i32_97 : BitVec 32 := 0#32
  let v191 : BitVec 1 := Scalar.cmpi .eq c2_i32_96 c0_i32_97
  let c1_i32_98 : BitVec 32 := 1#32
  let v192 : BitVec 32 := Scalar.select v191 c1_i32_98 c2_i32_96
  let v193 : BitVec 32 := Scalar.remsi v174 v192
  let c0_i32_100 : BitVec 32 := 0#32
  let v195 : BitVec 1 := Scalar.cmpi .slt v193 c0_i32_100
  let c0_i32_101 : BitVec 32 := 0#32
  let v196 : BitVec 1 := Scalar.cmpi .slt v192 c0_i32_101
  let v197 : BitVec 1 := Scalar.xori v195 v196
  let c0_i32_99 : BitVec 32 := 0#32
  let v194 : BitVec 1 := Scalar.cmpi .ne v193 c0_i32_99
  let v198 : BitVec 1 := Scalar.andi v197 v194
  let v199 : BitVec 32 := Scalar.addi v193 v192
  let v200 : BitVec 32 := Scalar.select v198 v199 v193
  let c0_i32_102 : BitVec 32 := 0#32
  let v201 : BitVec 1 := Scalar.cmpi .eq v200 c0_i32_102
  let c1_i32_103 : BitVec 32 := 1#32
  let v202 : BitVec 32 := Scalar.subi c1_i32_103 v134
  let v203 : BitVec 32 := Scalar.select v201 v134 v202
  let v204 : BitVec 32 := Scalar.addi v190 v203
  let c1_i32_157 : BitVec 32 := 1#32
  let v298 : BitVec 32 := Scalar.muli v204 c1_i32_157
  let v299 : BitVec 32 := Scalar.addi c0_i32_158 v298
  v299.toNat
def k0_off1 (d0 : Dev nD) (true_164 : BitVec 1) (c0_i32_161 : BitVec 32) (c0_i32_163 : BitVec 32) : Fin 2 → Nat :=
  let c8_i32_203 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_160 : BitVec 32 := 1#32
  let v300 : BitVec 32 := Scalar.subi v114 c1_i32_160
  let v301 : BitVec 32 := Scalar.subi v300 c0_i32_161
  let c1_i32_162 : BitVec 32 := 1#32
  let v302 : BitVec 32 := Scalar.addi v114 c1_i32_162
  let v303 : BitVec 32 := Scalar.addi v302 c0_i32_163
  let v304 : BitVec 32 := Scalar.select true_164 v301 v303
  let c64_i32_165 : BitVec 32 := 64#32
  let v305 : BitVec 32 := Scalar.addi v304 c64_i32_165
  let c32_i32_166 : BitVec 32 := 32#32
  let v306 : BitVec 32 := Scalar.remsi v305 c32_i32_166
  let c16_i32_174 : BitVec 32 := 16#32
  let c0_i32_175 : BitVec 32 := 0#32
  let v324 : BitVec 1 := Scalar.cmpi .eq c16_i32_174 c0_i32_175
  let c1_i32_176 : BitVec 32 := 1#32
  let v325 : BitVec 32 := Scalar.select v324 c1_i32_176 c16_i32_174
  let v326 : BitVec 32 := Scalar.remsi v306 v325
  let c0_i32_178 : BitVec 32 := 0#32
  let v328 : BitVec 1 := Scalar.cmpi .slt v326 c0_i32_178
  let c0_i32_179 : BitVec 32 := 0#32
  let v329 : BitVec 1 := Scalar.cmpi .slt v325 c0_i32_179
  let v330 : BitVec 1 := Scalar.xori v328 v329
  let c0_i32_177 : BitVec 32 := 0#32
  let v327 : BitVec 1 := Scalar.cmpi .ne v326 c0_i32_177
  let v331 : BitVec 1 := Scalar.andi v330 v327
  let v332 : BitVec 32 := Scalar.addi v326 v325
  let v333 : BitVec 32 := Scalar.select v331 v332 v326
  let c0_i32_181 : BitVec 32 := 0#32
  let v335 : BitVec 1 := Scalar.cmpi .sgt v333 c0_i32_181
  let v336 : BitVec 32 := Scalar.extui v335
  let c0_i32_182 : BitVec 32 := 0#32
  let v337 : BitVec 1 := Scalar.cmpi .slt v333 c0_i32_182
  let v338 : BitVec 32 := Scalar.extui v337
  let v339 : BitVec 32 := Scalar.subi v336 v338
  let c4_i32_180 : BitVec 32 := 4#32
  let c0_i32_183 : BitVec 32 := 0#32
  let v340 : BitVec 1 := Scalar.cmpi .sgt c4_i32_180 c0_i32_183
  let v341 : BitVec 32 := Scalar.extui v340
  let c0_i32_184 : BitVec 32 := 0#32
  let v342 : BitVec 1 := Scalar.cmpi .slt c4_i32_180 c0_i32_184
  let v343 : BitVec 32 := Scalar.extui v342
  let v344 : BitVec 32 := Scalar.subi v341 v343
  let v345 : BitVec 1 := Scalar.cmpi .ne v339 v344
  let v346 : BitVec 32 := Scalar.remsi v333 c4_i32_180
  let c0_i32_185 : BitVec 32 := 0#32
  let v347 : BitVec 1 := Scalar.cmpi .ne v346 c0_i32_185
  let v348 : BitVec 1 := Scalar.andi v345 v347
  let v334 : BitVec 32 := Scalar.divsi v333 c4_i32_180
  let c1_i32_186 : BitVec 32 := 1#32
  let v349 : BitVec 32 := Scalar.subi v334 c1_i32_186
  let v350 : BitVec 32 := Scalar.select v348 v349 v334
  let c2_i32_195 : BitVec 32 := 2#32
  let c0_i32_196 : BitVec 32 := 0#32
  let v364 : BitVec 1 := Scalar.cmpi .eq c2_i32_195 c0_i32_196
  let c1_i32_197 : BitVec 32 := 1#32
  let v365 : BitVec 32 := Scalar.select v364 c1_i32_197 c2_i32_195
  let v366 : BitVec 32 := Scalar.remsi v350 v365
  let c0_i32_199 : BitVec 32 := 0#32
  let v368 : BitVec 1 := Scalar.cmpi .slt v366 c0_i32_199
  let c0_i32_200 : BitVec 32 := 0#32
  let v369 : BitVec 1 := Scalar.cmpi .slt v365 c0_i32_200
  let v370 : BitVec 1 := Scalar.xori v368 v369
  let c0_i32_198 : BitVec 32 := 0#32
  let v367 : BitVec 1 := Scalar.cmpi .ne v366 c0_i32_198
  let v371 : BitVec 1 := Scalar.andi v370 v367
  let v372 : BitVec 32 := Scalar.addi v366 v365
  let v373 : BitVec 32 := Scalar.select v371 v372 v366
  let c0_i32_201 : BitVec 32 := 0#32
  let v374 : BitVec 1 := Scalar.cmpi .eq v373 c0_i32_201
  let c4_i32_187 : BitVec 32 := 4#32
  let c0_i32_188 : BitVec 32 := 0#32
  let v351 : BitVec 1 := Scalar.cmpi .eq c4_i32_187 c0_i32_188
  let c1_i32_189 : BitVec 32 := 1#32
  let v352 : BitVec 32 := Scalar.select v351 c1_i32_189 c4_i32_187
  let v353 : BitVec 32 := Scalar.remsi v333 v352
  let c0_i32_191 : BitVec 32 := 0#32
  let v355 : BitVec 1 := Scalar.cmpi .slt v353 c0_i32_191
  let c0_i32_192 : BitVec 32 := 0#32
  let v356 : BitVec 1 := Scalar.cmpi .slt v352 c0_i32_192
  let v357 : BitVec 1 := Scalar.xori v355 v356
  let c0_i32_190 : BitVec 32 := 0#32
  let v354 : BitVec 1 := Scalar.cmpi .ne v353 c0_i32_190
  let v358 : BitVec 1 := Scalar.andi v357 v354
  let v359 : BitVec 32 := Scalar.addi v353 v352
  let v360 : BitVec 32 := Scalar.select v358 v359 v353
  let c3_i32_202 : BitVec 32 := 3#32
  let v375 : BitVec 32 := Scalar.subi c3_i32_202 v360
  let v376 : BitVec 32 := Scalar.select v374 v360 v375
  let v377 : BitVec 32 := Scalar.muli c8_i32_203 v376
  let c2_i32_204 : BitVec 32 := 2#32
  let c0_i32_168 : BitVec 32 := 0#32
  let v308 : BitVec 1 := Scalar.cmpi .sgt v306 c0_i32_168
  let v309 : BitVec 32 := Scalar.extui v308
  let c0_i32_169 : BitVec 32 := 0#32
  let v310 : BitVec 1 := Scalar.cmpi .slt v306 c0_i32_169
  let v311 : BitVec 32 := Scalar.extui v310
  let v312 : BitVec 32 := Scalar.subi v309 v311
  let c16_i32_167 : BitVec 32 := 16#32
  let c0_i32_170 : BitVec 32 := 0#32
  let v313 : BitVec 1 := Scalar.cmpi .sgt c16_i32_167 c0_i32_170
  let v314 : BitVec 32 := Scalar.extui v313
  let c0_i32_171 : BitVec 32 := 0#32
  let v315 : BitVec 1 := Scalar.cmpi .slt c16_i32_167 c0_i32_171
  let v316 : BitVec 32 := Scalar.extui v315
  let v317 : BitVec 32 := Scalar.subi v314 v316
  let v318 : BitVec 1 := Scalar.cmpi .ne v312 v317
  let v319 : BitVec 32 := Scalar.remsi v306 c16_i32_167
  let c0_i32_172 : BitVec 32 := 0#32
  let v320 : BitVec 1 := Scalar.cmpi .ne v319 c0_i32_172
  let v321 : BitVec 1 := Scalar.andi v318 v320
  let v307 : BitVec 32 := Scalar.divsi v306 c16_i32_167
  let c1_i32_173 : BitVec 32 := 1#32
  let v322 : BitVec 32 := Scalar.subi v307 c1_i32_173
  let v323 : BitVec 32 := Scalar.select v321 v322 v307
  let c0_i32_193 : BitVec 32 := 0#32
  let v361 : BitVec 1 := Scalar.cmpi .eq v323 c0_i32_193
  let c3_i32_194 : BitVec 32 := 3#32
  let v362 : BitVec 32 := Scalar.subi c3_i32_194 v350
  let v363 : BitVec 32 := Scalar.select v361 v350 v362
  let v378 : BitVec 32 := Scalar.muli c2_i32_204 v363
  let v379 : BitVec 32 := Scalar.addi v377 v378
  let c2_i32_205 : BitVec 32 := 2#32
  let c0_i32_206 : BitVec 32 := 0#32
  let v380 : BitVec 1 := Scalar.cmpi .eq c2_i32_205 c0_i32_206
  let c1_i32_207 : BitVec 32 := 1#32
  let v381 : BitVec 32 := Scalar.select v380 c1_i32_207 c2_i32_205
  let v382 : BitVec 32 := Scalar.remsi v363 v381
  let c0_i32_209 : BitVec 32 := 0#32
  let v384 : BitVec 1 := Scalar.cmpi .slt v382 c0_i32_209
  let c0_i32_210 : BitVec 32 := 0#32
  let v385 : BitVec 1 := Scalar.cmpi .slt v381 c0_i32_210
  let v386 : BitVec 1 := Scalar.xori v384 v385
  let c0_i32_208 : BitVec 32 := 0#32
  let v383 : BitVec 1 := Scalar.cmpi .ne v382 c0_i32_208
  let v387 : BitVec 1 := Scalar.andi v386 v383
  let v388 : BitVec 32 := Scalar.addi v382 v381
  let v389 : BitVec 32 := Scalar.select v387 v388 v382
  let c0_i32_211 : BitVec 32 := 0#32
  let v390 : BitVec 1 := Scalar.cmpi .eq v389 c0_i32_211
  let c1_i32_212 : BitVec 32 := 1#32
  let v391 : BitVec 32 := Scalar.subi c1_i32_212 v323
  let v392 : BitVec 32 := Scalar.select v390 v323 v391
  let v393 : BitVec 32 := Scalar.addi v379 v392
  let c128_i32 : BitVec 32 := 128#32
  let v394 : BitVec 32 := Scalar.muli v393 c128_i32
  let v395 : Index := Scalar.indexCast v394
  let c0 : Index := 0#32
  ![v395.toNat, 0]
def k0_off1_at (r : Fin 6) : BitVec 1 × BitVec 32 × BitVec 32 :=
  if r.val < 3 then
    if r.val < 1 then
      (1#1, 0#32, 0#32)
    else
      if r.val < 2 then
        (0#1, 0#32, 0#32)
      else
        (1#1, 1#32, 1#32)
  else
    if r.val < 4 then
      (0#1, 1#32, 1#32)
    else
      if r.val < 5 then
        (1#1, 31#32, 31#32)
      else
        (0#1, 31#32, 31#32)
def k0_dev3 (d0 : Dev nD) : Nat :=
  let c0_i32_223 : BitVec 32 := 0#32
  let c8_i32_94 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_56 : BitVec 32 := 1#32
  let v115 : BitVec 32 := Scalar.addi v114 c1_i32_56
  let c64_i32 : BitVec 32 := 64#32
  let v116 : BitVec 32 := Scalar.addi v115 c64_i32
  let c32_i32_57 : BitVec 32 := 32#32
  let v117 : BitVec 32 := Scalar.remsi v116 c32_i32_57
  let c16_i32_65 : BitVec 32 := 16#32
  let c0_i32_66 : BitVec 32 := 0#32
  let v135 : BitVec 1 := Scalar.cmpi .eq c16_i32_65 c0_i32_66
  let c1_i32_67 : BitVec 32 := 1#32
  let v136 : BitVec 32 := Scalar.select v135 c1_i32_67 c16_i32_65
  let v137 : BitVec 32 := Scalar.remsi v117 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let c0_i32_72 : BitVec 32 := 0#32
  let v146 : BitVec 1 := Scalar.cmpi .sgt v144 c0_i32_72
  let v147 : BitVec 32 := Scalar.extui v146
  let c0_i32_73 : BitVec 32 := 0#32
  let v148 : BitVec 1 := Scalar.cmpi .slt v144 c0_i32_73
  let v149 : BitVec 32 := Scalar.extui v148
  let v150 : BitVec 32 := Scalar.subi v147 v149
  let c4_i32_71 : BitVec 32 := 4#32
  let c0_i32_74 : BitVec 32 := 0#32
  let v151 : BitVec 1 := Scalar.cmpi .sgt c4_i32_71 c0_i32_74
  let v152 : BitVec 32 := Scalar.extui v151
  let c0_i32_75 : BitVec 32 := 0#32
  let v153 : BitVec 1 := Scalar.cmpi .slt c4_i32_71 c0_i32_75
  let v154 : BitVec 32 := Scalar.extui v153
  let v155 : BitVec 32 := Scalar.subi v152 v154
  let v156 : BitVec 1 := Scalar.cmpi .ne v150 v155
  let v157 : BitVec 32 := Scalar.remsi v144 c4_i32_71
  let c0_i32_76 : BitVec 32 := 0#32
  let v158 : BitVec 1 := Scalar.cmpi .ne v157 c0_i32_76
  let v159 : BitVec 1 := Scalar.andi v156 v158
  let v145 : BitVec 32 := Scalar.divsi v144 c4_i32_71
  let c1_i32_77 : BitVec 32 := 1#32
  let v160 : BitVec 32 := Scalar.subi v145 c1_i32_77
  let v161 : BitVec 32 := Scalar.select v159 v160 v145
  let c2_i32_86 : BitVec 32 := 2#32
  let c0_i32_87 : BitVec 32 := 0#32
  let v175 : BitVec 1 := Scalar.cmpi .eq c2_i32_86 c0_i32_87
  let c1_i32_88 : BitVec 32 := 1#32
  let v176 : BitVec 32 := Scalar.select v175 c1_i32_88 c2_i32_86
  let v177 : BitVec 32 := Scalar.remsi v161 v176
  let c0_i32_90 : BitVec 32 := 0#32
  let v179 : BitVec 1 := Scalar.cmpi .slt v177 c0_i32_90
  let c0_i32_91 : BitVec 32 := 0#32
  let v180 : BitVec 1 := Scalar.cmpi .slt v176 c0_i32_91
  let v181 : BitVec 1 := Scalar.xori v179 v180
  let c0_i32_89 : BitVec 32 := 0#32
  let v178 : BitVec 1 := Scalar.cmpi .ne v177 c0_i32_89
  let v182 : BitVec 1 := Scalar.andi v181 v178
  let v183 : BitVec 32 := Scalar.addi v177 v176
  let v184 : BitVec 32 := Scalar.select v182 v183 v177
  let c0_i32_92 : BitVec 32 := 0#32
  let v185 : BitVec 1 := Scalar.cmpi .eq v184 c0_i32_92
  let c4_i32_78 : BitVec 32 := 4#32
  let c0_i32_79 : BitVec 32 := 0#32
  let v162 : BitVec 1 := Scalar.cmpi .eq c4_i32_78 c0_i32_79
  let c1_i32_80 : BitVec 32 := 1#32
  let v163 : BitVec 32 := Scalar.select v162 c1_i32_80 c4_i32_78
  let v164 : BitVec 32 := Scalar.remsi v144 v163
  let c0_i32_82 : BitVec 32 := 0#32
  let v166 : BitVec 1 := Scalar.cmpi .slt v164 c0_i32_82
  let c0_i32_83 : BitVec 32 := 0#32
  let v167 : BitVec 1 := Scalar.cmpi .slt v163 c0_i32_83
  let v168 : BitVec 1 := Scalar.xori v166 v167
  let c0_i32_81 : BitVec 32 := 0#32
  let v165 : BitVec 1 := Scalar.cmpi .ne v164 c0_i32_81
  let v169 : BitVec 1 := Scalar.andi v168 v165
  let v170 : BitVec 32 := Scalar.addi v164 v163
  let v171 : BitVec 32 := Scalar.select v169 v170 v164
  let c3_i32_93 : BitVec 32 := 3#32
  let v186 : BitVec 32 := Scalar.subi c3_i32_93 v171
  let v187 : BitVec 32 := Scalar.select v185 v171 v186
  let v188 : BitVec 32 := Scalar.muli c8_i32_94 v187
  let c2_i32_95 : BitVec 32 := 2#32
  let c0_i32_59 : BitVec 32 := 0#32
  let v119 : BitVec 1 := Scalar.cmpi .sgt v117 c0_i32_59
  let v120 : BitVec 32 := Scalar.extui v119
  let c0_i32_60 : BitVec 32 := 0#32
  let v121 : BitVec 1 := Scalar.cmpi .slt v117 c0_i32_60
  let v122 : BitVec 32 := Scalar.extui v121
  let v123 : BitVec 32 := Scalar.subi v120 v122
  let c16_i32_58 : BitVec 32 := 16#32
  let c0_i32_61 : BitVec 32 := 0#32
  let v124 : BitVec 1 := Scalar.cmpi .sgt c16_i32_58 c0_i32_61
  let v125 : BitVec 32 := Scalar.extui v124
  let c0_i32_62 : BitVec 32 := 0#32
  let v126 : BitVec 1 := Scalar.cmpi .slt c16_i32_58 c0_i32_62
  let v127 : BitVec 32 := Scalar.extui v126
  let v128 : BitVec 32 := Scalar.subi v125 v127
  let v129 : BitVec 1 := Scalar.cmpi .ne v123 v128
  let v130 : BitVec 32 := Scalar.remsi v117 c16_i32_58
  let c0_i32_63 : BitVec 32 := 0#32
  let v131 : BitVec 1 := Scalar.cmpi .ne v130 c0_i32_63
  let v132 : BitVec 1 := Scalar.andi v129 v131
  let v118 : BitVec 32 := Scalar.divsi v117 c16_i32_58
  let c1_i32_64 : BitVec 32 := 1#32
  let v133 : BitVec 32 := Scalar.subi v118 c1_i32_64
  let v134 : BitVec 32 := Scalar.select v132 v133 v118
  let c0_i32_84 : BitVec 32 := 0#32
  let v172 : BitVec 1 := Scalar.cmpi .eq v134 c0_i32_84
  let c3_i32_85 : BitVec 32 := 3#32
  let v173 : BitVec 32 := Scalar.subi c3_i32_85 v161
  let v174 : BitVec 32 := Scalar.select v172 v161 v173
  let v189 : BitVec 32 := Scalar.muli c2_i32_95 v174
  let v190 : BitVec 32 := Scalar.addi v188 v189
  let c2_i32_96 : BitVec 32 := 2#32
  let c0_i32_97 : BitVec 32 := 0#32
  let v191 : BitVec 1 := Scalar.cmpi .eq c2_i32_96 c0_i32_97
  let c1_i32_98 : BitVec 32 := 1#32
  let v192 : BitVec 32 := Scalar.select v191 c1_i32_98 c2_i32_96
  let v193 : BitVec 32 := Scalar.remsi v174 v192
  let c0_i32_100 : BitVec 32 := 0#32
  let v195 : BitVec 1 := Scalar.cmpi .slt v193 c0_i32_100
  let c0_i32_101 : BitVec 32 := 0#32
  let v196 : BitVec 1 := Scalar.cmpi .slt v192 c0_i32_101
  let v197 : BitVec 1 := Scalar.xori v195 v196
  let c0_i32_99 : BitVec 32 := 0#32
  let v194 : BitVec 1 := Scalar.cmpi .ne v193 c0_i32_99
  let v198 : BitVec 1 := Scalar.andi v197 v194
  let v199 : BitVec 32 := Scalar.addi v193 v192
  let v200 : BitVec 32 := Scalar.select v198 v199 v193
  let c0_i32_102 : BitVec 32 := 0#32
  let v201 : BitVec 1 := Scalar.cmpi .eq v200 c0_i32_102
  let c1_i32_103 : BitVec 32 := 1#32
  let v202 : BitVec 32 := Scalar.subi c1_i32_103 v134
  let v203 : BitVec 32 := Scalar.select v201 v134 v202
  let v204 : BitVec 32 := Scalar.addi v190 v203
  let c1_i32_222 : BitVec 32 := 1#32
  let v405 : BitVec 32 := Scalar.muli v204 c1_i32_222
  let v406 : BitVec 32 := Scalar.addi c0_i32_223 v405
  v406.toNat
def k0_dev4 (d0 : Dev nD) : Nat :=
  let c0_i32_292 : BitVec 32 := 0#32
  let c8_i32_143 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_104 : BitVec 32 := 1#32
  let v205 : BitVec 32 := Scalar.subi v114 c1_i32_104
  let c64_i32_105 : BitVec 32 := 64#32
  let v206 : BitVec 32 := Scalar.addi v205 c64_i32_105
  let c32_i32_106 : BitVec 32 := 32#32
  let v207 : BitVec 32 := Scalar.remsi v206 c32_i32_106
  let c16_i32_114 : BitVec 32 := 16#32
  let c0_i32_115 : BitVec 32 := 0#32
  let v225 : BitVec 1 := Scalar.cmpi .eq c16_i32_114 c0_i32_115
  let c1_i32_116 : BitVec 32 := 1#32
  let v226 : BitVec 32 := Scalar.select v225 c1_i32_116 c16_i32_114
  let v227 : BitVec 32 := Scalar.remsi v207 v226
  let c0_i32_118 : BitVec 32 := 0#32
  let v229 : BitVec 1 := Scalar.cmpi .slt v227 c0_i32_118
  let c0_i32_119 : BitVec 32 := 0#32
  let v230 : BitVec 1 := Scalar.cmpi .slt v226 c0_i32_119
  let v231 : BitVec 1 := Scalar.xori v229 v230
  let c0_i32_117 : BitVec 32 := 0#32
  let v228 : BitVec 1 := Scalar.cmpi .ne v227 c0_i32_117
  let v232 : BitVec 1 := Scalar.andi v231 v228
  let v233 : BitVec 32 := Scalar.addi v227 v226
  let v234 : BitVec 32 := Scalar.select v232 v233 v227
  let c0_i32_121 : BitVec 32 := 0#32
  let v236 : BitVec 1 := Scalar.cmpi .sgt v234 c0_i32_121
  let v237 : BitVec 32 := Scalar.extui v236
  let c0_i32_122 : BitVec 32 := 0#32
  let v238 : BitVec 1 := Scalar.cmpi .slt v234 c0_i32_122
  let v239 : BitVec 32 := Scalar.extui v238
  let v240 : BitVec 32 := Scalar.subi v237 v239
  let c4_i32_120 : BitVec 32 := 4#32
  let c0_i32_123 : BitVec 32 := 0#32
  let v241 : BitVec 1 := Scalar.cmpi .sgt c4_i32_120 c0_i32_123
  let v242 : BitVec 32 := Scalar.extui v241
  let c0_i32_124 : BitVec 32 := 0#32
  let v243 : BitVec 1 := Scalar.cmpi .slt c4_i32_120 c0_i32_124
  let v244 : BitVec 32 := Scalar.extui v243
  let v245 : BitVec 32 := Scalar.subi v242 v244
  let v246 : BitVec 1 := Scalar.cmpi .ne v240 v245
  let v247 : BitVec 32 := Scalar.remsi v234 c4_i32_120
  let c0_i32_125 : BitVec 32 := 0#32
  let v248 : BitVec 1 := Scalar.cmpi .ne v247 c0_i32_125
  let v249 : BitVec 1 := Scalar.andi v246 v248
  let v235 : BitVec 32 := Scalar.divsi v234 c4_i32_120
  let c1_i32_126 : BitVec 32 := 1#32
  let v250 : BitVec 32 := Scalar.subi v235 c1_i32_126
  let v251 : BitVec 32 := Scalar.select v249 v250 v235
  let c2_i32_135 : BitVec 32 := 2#32
  let c0_i32_136 : BitVec 32 := 0#32
  let v265 : BitVec 1 := Scalar.cmpi .eq c2_i32_135 c0_i32_136
  let c1_i32_137 : BitVec 32 := 1#32
  let v266 : BitVec 32 := Scalar.select v265 c1_i32_137 c2_i32_135
  let v267 : BitVec 32 := Scalar.remsi v251 v266
  let c0_i32_139 : BitVec 32 := 0#32
  let v269 : BitVec 1 := Scalar.cmpi .slt v267 c0_i32_139
  let c0_i32_140 : BitVec 32 := 0#32
  let v270 : BitVec 1 := Scalar.cmpi .slt v266 c0_i32_140
  let v271 : BitVec 1 := Scalar.xori v269 v270
  let c0_i32_138 : BitVec 32 := 0#32
  let v268 : BitVec 1 := Scalar.cmpi .ne v267 c0_i32_138
  let v272 : BitVec 1 := Scalar.andi v271 v268
  let v273 : BitVec 32 := Scalar.addi v267 v266
  let v274 : BitVec 32 := Scalar.select v272 v273 v267
  let c0_i32_141 : BitVec 32 := 0#32
  let v275 : BitVec 1 := Scalar.cmpi .eq v274 c0_i32_141
  let c4_i32_127 : BitVec 32 := 4#32
  let c0_i32_128 : BitVec 32 := 0#32
  let v252 : BitVec 1 := Scalar.cmpi .eq c4_i32_127 c0_i32_128
  let c1_i32_129 : BitVec 32 := 1#32
  let v253 : BitVec 32 := Scalar.select v252 c1_i32_129 c4_i32_127
  let v254 : BitVec 32 := Scalar.remsi v234 v253
  let c0_i32_131 : BitVec 32 := 0#32
  let v256 : BitVec 1 := Scalar.cmpi .slt v254 c0_i32_131
  let c0_i32_132 : BitVec 32 := 0#32
  let v257 : BitVec 1 := Scalar.cmpi .slt v253 c0_i32_132
  let v258 : BitVec 1 := Scalar.xori v256 v257
  let c0_i32_130 : BitVec 32 := 0#32
  let v255 : BitVec 1 := Scalar.cmpi .ne v254 c0_i32_130
  let v259 : BitVec 1 := Scalar.andi v258 v255
  let v260 : BitVec 32 := Scalar.addi v254 v253
  let v261 : BitVec 32 := Scalar.select v259 v260 v254
  let c3_i32_142 : BitVec 32 := 3#32
  let v276 : BitVec 32 := Scalar.subi c3_i32_142 v261
  let v277 : BitVec 32 := Scalar.select v275 v261 v276
  let v278 : BitVec 32 := Scalar.muli c8_i32_143 v277
  let c2_i32_144 : BitVec 32 := 2#32
  let c0_i32_108 : BitVec 32 := 0#32
  let v209 : BitVec 1 := Scalar.cmpi .sgt v207 c0_i32_108
  let v210 : BitVec 32 := Scalar.extui v209
  let c0_i32_109 : BitVec 32 := 0#32
  let v211 : BitVec 1 := Scalar.cmpi .slt v207 c0_i32_109
  let v212 : BitVec 32 := Scalar.extui v211
  let v213 : BitVec 32 := Scalar.subi v210 v212
  let c16_i32_107 : BitVec 32 := 16#32
  let c0_i32_110 : BitVec 32 := 0#32
  let v214 : BitVec 1 := Scalar.cmpi .sgt c16_i32_107 c0_i32_110
  let v215 : BitVec 32 := Scalar.extui v214
  let c0_i32_111 : BitVec 32 := 0#32
  let v216 : BitVec 1 := Scalar.cmpi .slt c16_i32_107 c0_i32_111
  let v217 : BitVec 32 := Scalar.extui v216
  let v218 : BitVec 32 := Scalar.subi v215 v217
  let v219 : BitVec 1 := Scalar.cmpi .ne v213 v218
  let v220 : BitVec 32 := Scalar.remsi v207 c16_i32_107
  let c0_i32_112 : BitVec 32 := 0#32
  let v221 : BitVec 1 := Scalar.cmpi .ne v220 c0_i32_112
  let v222 : BitVec 1 := Scalar.andi v219 v221
  let v208 : BitVec 32 := Scalar.divsi v207 c16_i32_107
  let c1_i32_113 : BitVec 32 := 1#32
  let v223 : BitVec 32 := Scalar.subi v208 c1_i32_113
  let v224 : BitVec 32 := Scalar.select v222 v223 v208
  let c0_i32_133 : BitVec 32 := 0#32
  let v262 : BitVec 1 := Scalar.cmpi .eq v224 c0_i32_133
  let c3_i32_134 : BitVec 32 := 3#32
  let v263 : BitVec 32 := Scalar.subi c3_i32_134 v251
  let v264 : BitVec 32 := Scalar.select v262 v251 v263
  let v279 : BitVec 32 := Scalar.muli c2_i32_144 v264
  let v280 : BitVec 32 := Scalar.addi v278 v279
  let c2_i32_145 : BitVec 32 := 2#32
  let c0_i32_146 : BitVec 32 := 0#32
  let v281 : BitVec 1 := Scalar.cmpi .eq c2_i32_145 c0_i32_146
  let c1_i32_147 : BitVec 32 := 1#32
  let v282 : BitVec 32 := Scalar.select v281 c1_i32_147 c2_i32_145
  let v283 : BitVec 32 := Scalar.remsi v264 v282
  let c0_i32_149 : BitVec 32 := 0#32
  let v285 : BitVec 1 := Scalar.cmpi .slt v283 c0_i32_149
  let c0_i32_150 : BitVec 32 := 0#32
  let v286 : BitVec 1 := Scalar.cmpi .slt v282 c0_i32_150
  let v287 : BitVec 1 := Scalar.xori v285 v286
  let c0_i32_148 : BitVec 32 := 0#32
  let v284 : BitVec 1 := Scalar.cmpi .ne v283 c0_i32_148
  let v288 : BitVec 1 := Scalar.andi v287 v284
  let v289 : BitVec 32 := Scalar.addi v283 v282
  let v290 : BitVec 32 := Scalar.select v288 v289 v283
  let c0_i32_151 : BitVec 32 := 0#32
  let v291 : BitVec 1 := Scalar.cmpi .eq v290 c0_i32_151
  let c1_i32_152 : BitVec 32 := 1#32
  let v292 : BitVec 32 := Scalar.subi c1_i32_152 v224
  let v293 : BitVec 32 := Scalar.select v291 v224 v292
  let v294 : BitVec 32 := Scalar.addi v280 v293
  let c1_i32_291 : BitVec 32 := 1#32
  let v520 : BitVec 32 := Scalar.muli v294 c1_i32_291
  let v521 : BitVec 32 := Scalar.addi c0_i32_292 v520
  v521.toNat
def k0_dev5 (d0 : Dev nD) : Nat :=
  let c0_i32_362 : BitVec 32 := 0#32
  let c8_i32_94 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_56 : BitVec 32 := 1#32
  let v115 : BitVec 32 := Scalar.addi v114 c1_i32_56
  let c64_i32 : BitVec 32 := 64#32
  let v116 : BitVec 32 := Scalar.addi v115 c64_i32
  let c32_i32_57 : BitVec 32 := 32#32
  let v117 : BitVec 32 := Scalar.remsi v116 c32_i32_57
  let c16_i32_65 : BitVec 32 := 16#32
  let c0_i32_66 : BitVec 32 := 0#32
  let v135 : BitVec 1 := Scalar.cmpi .eq c16_i32_65 c0_i32_66
  let c1_i32_67 : BitVec 32 := 1#32
  let v136 : BitVec 32 := Scalar.select v135 c1_i32_67 c16_i32_65
  let v137 : BitVec 32 := Scalar.remsi v117 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let c0_i32_72 : BitVec 32 := 0#32
  let v146 : BitVec 1 := Scalar.cmpi .sgt v144 c0_i32_72
  let v147 : BitVec 32 := Scalar.extui v146
  let c0_i32_73 : BitVec 32 := 0#32
  let v148 : BitVec 1 := Scalar.cmpi .slt v144 c0_i32_73
  let v149 : BitVec 32 := Scalar.extui v148
  let v150 : BitVec 32 := Scalar.subi v147 v149
  let c4_i32_71 : BitVec 32 := 4#32
  let c0_i32_74 : BitVec 32 := 0#32
  let v151 : BitVec 1 := Scalar.cmpi .sgt c4_i32_71 c0_i32_74
  let v152 : BitVec 32 := Scalar.extui v151
  let c0_i32_75 : BitVec 32 := 0#32
  let v153 : BitVec 1 := Scalar.cmpi .slt c4_i32_71 c0_i32_75
  let v154 : BitVec 32 := Scalar.extui v153
  let v155 : BitVec 32 := Scalar.subi v152 v154
  let v156 : BitVec 1 := Scalar.cmpi .ne v150 v155
  let v157 : BitVec 32 := Scalar.remsi v144 c4_i32_71
  let c0_i32_76 : BitVec 32 := 0#32
  let v158 : BitVec 1 := Scalar.cmpi .ne v157 c0_i32_76
  let v159 : BitVec 1 := Scalar.andi v156 v158
  let v145 : BitVec 32 := Scalar.divsi v144 c4_i32_71
  let c1_i32_77 : BitVec 32 := 1#32
  let v160 : BitVec 32 := Scalar.subi v145 c1_i32_77
  let v161 : BitVec 32 := Scalar.select v159 v160 v145
  let c2_i32_86 : BitVec 32 := 2#32
  let c0_i32_87 : BitVec 32 := 0#32
  let v175 : BitVec 1 := Scalar.cmpi .eq c2_i32_86 c0_i32_87
  let c1_i32_88 : BitVec 32 := 1#32
  let v176 : BitVec 32 := Scalar.select v175 c1_i32_88 c2_i32_86
  let v177 : BitVec 32 := Scalar.remsi v161 v176
  let c0_i32_90 : BitVec 32 := 0#32
  let v179 : BitVec 1 := Scalar.cmpi .slt v177 c0_i32_90
  let c0_i32_91 : BitVec 32 := 0#32
  let v180 : BitVec 1 := Scalar.cmpi .slt v176 c0_i32_91
  let v181 : BitVec 1 := Scalar.xori v179 v180
  let c0_i32_89 : BitVec 32 := 0#32
  let v178 : BitVec 1 := Scalar.cmpi .ne v177 c0_i32_89
  let v182 : BitVec 1 := Scalar.andi v181 v178
  let v183 : BitVec 32 := Scalar.addi v177 v176
  let v184 : BitVec 32 := Scalar.select v182 v183 v177
  let c0_i32_92 : BitVec 32 := 0#32
  let v185 : BitVec 1 := Scalar.cmpi .eq v184 c0_i32_92
  let c4_i32_78 : BitVec 32 := 4#32
  let c0_i32_79 : BitVec 32 := 0#32
  let v162 : BitVec 1 := Scalar.cmpi .eq c4_i32_78 c0_i32_79
  let c1_i32_80 : BitVec 32 := 1#32
  let v163 : BitVec 32 := Scalar.select v162 c1_i32_80 c4_i32_78
  let v164 : BitVec 32 := Scalar.remsi v144 v163
  let c0_i32_82 : BitVec 32 := 0#32
  let v166 : BitVec 1 := Scalar.cmpi .slt v164 c0_i32_82
  let c0_i32_83 : BitVec 32 := 0#32
  let v167 : BitVec 1 := Scalar.cmpi .slt v163 c0_i32_83
  let v168 : BitVec 1 := Scalar.xori v166 v167
  let c0_i32_81 : BitVec 32 := 0#32
  let v165 : BitVec 1 := Scalar.cmpi .ne v164 c0_i32_81
  let v169 : BitVec 1 := Scalar.andi v168 v165
  let v170 : BitVec 32 := Scalar.addi v164 v163
  let v171 : BitVec 32 := Scalar.select v169 v170 v164
  let c3_i32_93 : BitVec 32 := 3#32
  let v186 : BitVec 32 := Scalar.subi c3_i32_93 v171
  let v187 : BitVec 32 := Scalar.select v185 v171 v186
  let v188 : BitVec 32 := Scalar.muli c8_i32_94 v187
  let c2_i32_95 : BitVec 32 := 2#32
  let c0_i32_59 : BitVec 32 := 0#32
  let v119 : BitVec 1 := Scalar.cmpi .sgt v117 c0_i32_59
  let v120 : BitVec 32 := Scalar.extui v119
  let c0_i32_60 : BitVec 32 := 0#32
  let v121 : BitVec 1 := Scalar.cmpi .slt v117 c0_i32_60
  let v122 : BitVec 32 := Scalar.extui v121
  let v123 : BitVec 32 := Scalar.subi v120 v122
  let c16_i32_58 : BitVec 32 := 16#32
  let c0_i32_61 : BitVec 32 := 0#32
  let v124 : BitVec 1 := Scalar.cmpi .sgt c16_i32_58 c0_i32_61
  let v125 : BitVec 32 := Scalar.extui v124
  let c0_i32_62 : BitVec 32 := 0#32
  let v126 : BitVec 1 := Scalar.cmpi .slt c16_i32_58 c0_i32_62
  let v127 : BitVec 32 := Scalar.extui v126
  let v128 : BitVec 32 := Scalar.subi v125 v127
  let v129 : BitVec 1 := Scalar.cmpi .ne v123 v128
  let v130 : BitVec 32 := Scalar.remsi v117 c16_i32_58
  let c0_i32_63 : BitVec 32 := 0#32
  let v131 : BitVec 1 := Scalar.cmpi .ne v130 c0_i32_63
  let v132 : BitVec 1 := Scalar.andi v129 v131
  let v118 : BitVec 32 := Scalar.divsi v117 c16_i32_58
  let c1_i32_64 : BitVec 32 := 1#32
  let v133 : BitVec 32 := Scalar.subi v118 c1_i32_64
  let v134 : BitVec 32 := Scalar.select v132 v133 v118
  let c0_i32_84 : BitVec 32 := 0#32
  let v172 : BitVec 1 := Scalar.cmpi .eq v134 c0_i32_84
  let c3_i32_85 : BitVec 32 := 3#32
  let v173 : BitVec 32 := Scalar.subi c3_i32_85 v161
  let v174 : BitVec 32 := Scalar.select v172 v161 v173
  let v189 : BitVec 32 := Scalar.muli c2_i32_95 v174
  let v190 : BitVec 32 := Scalar.addi v188 v189
  let c2_i32_96 : BitVec 32 := 2#32
  let c0_i32_97 : BitVec 32 := 0#32
  let v191 : BitVec 1 := Scalar.cmpi .eq c2_i32_96 c0_i32_97
  let c1_i32_98 : BitVec 32 := 1#32
  let v192 : BitVec 32 := Scalar.select v191 c1_i32_98 c2_i32_96
  let v193 : BitVec 32 := Scalar.remsi v174 v192
  let c0_i32_100 : BitVec 32 := 0#32
  let v195 : BitVec 1 := Scalar.cmpi .slt v193 c0_i32_100
  let c0_i32_101 : BitVec 32 := 0#32
  let v196 : BitVec 1 := Scalar.cmpi .slt v192 c0_i32_101
  let v197 : BitVec 1 := Scalar.xori v195 v196
  let c0_i32_99 : BitVec 32 := 0#32
  let v194 : BitVec 1 := Scalar.cmpi .ne v193 c0_i32_99
  let v198 : BitVec 1 := Scalar.andi v197 v194
  let v199 : BitVec 32 := Scalar.addi v193 v192
  let v200 : BitVec 32 := Scalar.select v198 v199 v193
  let c0_i32_102 : BitVec 32 := 0#32
  let v201 : BitVec 1 := Scalar.cmpi .eq v200 c0_i32_102
  let c1_i32_103 : BitVec 32 := 1#32
  let v202 : BitVec 32 := Scalar.subi c1_i32_103 v134
  let v203 : BitVec 32 := Scalar.select v201 v134 v202
  let v204 : BitVec 32 := Scalar.addi v190 v203
  let c1_i32_361 : BitVec 32 := 1#32
  let v635 : BitVec 32 := Scalar.muli v204 c1_i32_361
  let v636 : BitVec 32 := Scalar.addi c0_i32_362 v635
  v636.toNat
def k0_dev6 (d0 : Dev nD) : Nat :=
  let c0_i32_432 : BitVec 32 := 0#32
  let c8_i32_143 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_104 : BitVec 32 := 1#32
  let v205 : BitVec 32 := Scalar.subi v114 c1_i32_104
  let c64_i32_105 : BitVec 32 := 64#32
  let v206 : BitVec 32 := Scalar.addi v205 c64_i32_105
  let c32_i32_106 : BitVec 32 := 32#32
  let v207 : BitVec 32 := Scalar.remsi v206 c32_i32_106
  let c16_i32_114 : BitVec 32 := 16#32
  let c0_i32_115 : BitVec 32 := 0#32
  let v225 : BitVec 1 := Scalar.cmpi .eq c16_i32_114 c0_i32_115
  let c1_i32_116 : BitVec 32 := 1#32
  let v226 : BitVec 32 := Scalar.select v225 c1_i32_116 c16_i32_114
  let v227 : BitVec 32 := Scalar.remsi v207 v226
  let c0_i32_118 : BitVec 32 := 0#32
  let v229 : BitVec 1 := Scalar.cmpi .slt v227 c0_i32_118
  let c0_i32_119 : BitVec 32 := 0#32
  let v230 : BitVec 1 := Scalar.cmpi .slt v226 c0_i32_119
  let v231 : BitVec 1 := Scalar.xori v229 v230
  let c0_i32_117 : BitVec 32 := 0#32
  let v228 : BitVec 1 := Scalar.cmpi .ne v227 c0_i32_117
  let v232 : BitVec 1 := Scalar.andi v231 v228
  let v233 : BitVec 32 := Scalar.addi v227 v226
  let v234 : BitVec 32 := Scalar.select v232 v233 v227
  let c0_i32_121 : BitVec 32 := 0#32
  let v236 : BitVec 1 := Scalar.cmpi .sgt v234 c0_i32_121
  let v237 : BitVec 32 := Scalar.extui v236
  let c0_i32_122 : BitVec 32 := 0#32
  let v238 : BitVec 1 := Scalar.cmpi .slt v234 c0_i32_122
  let v239 : BitVec 32 := Scalar.extui v238
  let v240 : BitVec 32 := Scalar.subi v237 v239
  let c4_i32_120 : BitVec 32 := 4#32
  let c0_i32_123 : BitVec 32 := 0#32
  let v241 : BitVec 1 := Scalar.cmpi .sgt c4_i32_120 c0_i32_123
  let v242 : BitVec 32 := Scalar.extui v241
  let c0_i32_124 : BitVec 32 := 0#32
  let v243 : BitVec 1 := Scalar.cmpi .slt c4_i32_120 c0_i32_124
  let v244 : BitVec 32 := Scalar.extui v243
  let v245 : BitVec 32 := Scalar.subi v242 v244
  let v246 : BitVec 1 := Scalar.cmpi .ne v240 v245
  let v247 : BitVec 32 := Scalar.remsi v234 c4_i32_120
  let c0_i32_125 : BitVec 32 := 0#32
  let v248 : BitVec 1 := Scalar.cmpi .ne v247 c0_i32_125
  let v249 : BitVec 1 := Scalar.andi v246 v248
  let v235 : BitVec 32 := Scalar.divsi v234 c4_i32_120
  let c1_i32_126 : BitVec 32 := 1#32
  let v250 : BitVec 32 := Scalar.subi v235 c1_i32_126
  let v251 : BitVec 32 := Scalar.select v249 v250 v235
  let c2_i32_135 : BitVec 32 := 2#32
  let c0_i32_136 : BitVec 32 := 0#32
  let v265 : BitVec 1 := Scalar.cmpi .eq c2_i32_135 c0_i32_136
  let c1_i32_137 : BitVec 32 := 1#32
  let v266 : BitVec 32 := Scalar.select v265 c1_i32_137 c2_i32_135
  let v267 : BitVec 32 := Scalar.remsi v251 v266
  let c0_i32_139 : BitVec 32 := 0#32
  let v269 : BitVec 1 := Scalar.cmpi .slt v267 c0_i32_139
  let c0_i32_140 : BitVec 32 := 0#32
  let v270 : BitVec 1 := Scalar.cmpi .slt v266 c0_i32_140
  let v271 : BitVec 1 := Scalar.xori v269 v270
  let c0_i32_138 : BitVec 32 := 0#32
  let v268 : BitVec 1 := Scalar.cmpi .ne v267 c0_i32_138
  let v272 : BitVec 1 := Scalar.andi v271 v268
  let v273 : BitVec 32 := Scalar.addi v267 v266
  let v274 : BitVec 32 := Scalar.select v272 v273 v267
  let c0_i32_141 : BitVec 32 := 0#32
  let v275 : BitVec 1 := Scalar.cmpi .eq v274 c0_i32_141
  let c4_i32_127 : BitVec 32 := 4#32
  let c0_i32_128 : BitVec 32 := 0#32
  let v252 : BitVec 1 := Scalar.cmpi .eq c4_i32_127 c0_i32_128
  let c1_i32_129 : BitVec 32 := 1#32
  let v253 : BitVec 32 := Scalar.select v252 c1_i32_129 c4_i32_127
  let v254 : BitVec 32 := Scalar.remsi v234 v253
  let c0_i32_131 : BitVec 32 := 0#32
  let v256 : BitVec 1 := Scalar.cmpi .slt v254 c0_i32_131
  let c0_i32_132 : BitVec 32 := 0#32
  let v257 : BitVec 1 := Scalar.cmpi .slt v253 c0_i32_132
  let v258 : BitVec 1 := Scalar.xori v256 v257
  let c0_i32_130 : BitVec 32 := 0#32
  let v255 : BitVec 1 := Scalar.cmpi .ne v254 c0_i32_130
  let v259 : BitVec 1 := Scalar.andi v258 v255
  let v260 : BitVec 32 := Scalar.addi v254 v253
  let v261 : BitVec 32 := Scalar.select v259 v260 v254
  let c3_i32_142 : BitVec 32 := 3#32
  let v276 : BitVec 32 := Scalar.subi c3_i32_142 v261
  let v277 : BitVec 32 := Scalar.select v275 v261 v276
  let v278 : BitVec 32 := Scalar.muli c8_i32_143 v277
  let c2_i32_144 : BitVec 32 := 2#32
  let c0_i32_108 : BitVec 32 := 0#32
  let v209 : BitVec 1 := Scalar.cmpi .sgt v207 c0_i32_108
  let v210 : BitVec 32 := Scalar.extui v209
  let c0_i32_109 : BitVec 32 := 0#32
  let v211 : BitVec 1 := Scalar.cmpi .slt v207 c0_i32_109
  let v212 : BitVec 32 := Scalar.extui v211
  let v213 : BitVec 32 := Scalar.subi v210 v212
  let c16_i32_107 : BitVec 32 := 16#32
  let c0_i32_110 : BitVec 32 := 0#32
  let v214 : BitVec 1 := Scalar.cmpi .sgt c16_i32_107 c0_i32_110
  let v215 : BitVec 32 := Scalar.extui v214
  let c0_i32_111 : BitVec 32 := 0#32
  let v216 : BitVec 1 := Scalar.cmpi .slt c16_i32_107 c0_i32_111
  let v217 : BitVec 32 := Scalar.extui v216
  let v218 : BitVec 32 := Scalar.subi v215 v217
  let v219 : BitVec 1 := Scalar.cmpi .ne v213 v218
  let v220 : BitVec 32 := Scalar.remsi v207 c16_i32_107
  let c0_i32_112 : BitVec 32 := 0#32
  let v221 : BitVec 1 := Scalar.cmpi .ne v220 c0_i32_112
  let v222 : BitVec 1 := Scalar.andi v219 v221
  let v208 : BitVec 32 := Scalar.divsi v207 c16_i32_107
  let c1_i32_113 : BitVec 32 := 1#32
  let v223 : BitVec 32 := Scalar.subi v208 c1_i32_113
  let v224 : BitVec 32 := Scalar.select v222 v223 v208
  let c0_i32_133 : BitVec 32 := 0#32
  let v262 : BitVec 1 := Scalar.cmpi .eq v224 c0_i32_133
  let c3_i32_134 : BitVec 32 := 3#32
  let v263 : BitVec 32 := Scalar.subi c3_i32_134 v251
  let v264 : BitVec 32 := Scalar.select v262 v251 v263
  let v279 : BitVec 32 := Scalar.muli c2_i32_144 v264
  let v280 : BitVec 32 := Scalar.addi v278 v279
  let c2_i32_145 : BitVec 32 := 2#32
  let c0_i32_146 : BitVec 32 := 0#32
  let v281 : BitVec 1 := Scalar.cmpi .eq c2_i32_145 c0_i32_146
  let c1_i32_147 : BitVec 32 := 1#32
  let v282 : BitVec 32 := Scalar.select v281 c1_i32_147 c2_i32_145
  let v283 : BitVec 32 := Scalar.remsi v264 v282
  let c0_i32_149 : BitVec 32 := 0#32
  let v285 : BitVec 1 := Scalar.cmpi .slt v283 c0_i32_149
  let c0_i32_150 : BitVec 32 := 0#32
  let v286 : BitVec 1 := Scalar.cmpi .slt v282 c0_i32_150
  let v287 : BitVec 1 := Scalar.xori v285 v286
  let c0_i32_148 : BitVec 32 := 0#32
  let v284 : BitVec 1 := Scalar.cmpi .ne v283 c0_i32_148
  let v288 : BitVec 1 := Scalar.andi v287 v284
  let v289 : BitVec 32 := Scalar.addi v283 v282
  let v290 : BitVec 32 := Scalar.select v288 v289 v283
  let c0_i32_151 : BitVec 32 := 0#32
  let v291 : BitVec 1 := Scalar.cmpi .eq v290 c0_i32_151
  let c1_i32_152 : BitVec 32 := 1#32
  let v292 : BitVec 32 := Scalar.subi c1_i32_152 v224
  let v293 : BitVec 32 := Scalar.select v291 v224 v292
  let v294 : BitVec 32 := Scalar.addi v280 v293
  let c1_i32_431 : BitVec 32 := 1#32
  let v750 : BitVec 32 := Scalar.muli v294 c1_i32_431
  let v751 : BitVec 32 := Scalar.addi c0_i32_432 v750
  v751.toNat
def k0_dev7 (d0 : Dev nD) : Nat :=
  let c0_i32_512 : BitVec 32 := 0#32
  let c8_i32_143 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_104 : BitVec 32 := 1#32
  let v205 : BitVec 32 := Scalar.subi v114 c1_i32_104
  let c64_i32_105 : BitVec 32 := 64#32
  let v206 : BitVec 32 := Scalar.addi v205 c64_i32_105
  let c32_i32_106 : BitVec 32 := 32#32
  let v207 : BitVec 32 := Scalar.remsi v206 c32_i32_106
  let c16_i32_114 : BitVec 32 := 16#32
  let c0_i32_115 : BitVec 32 := 0#32
  let v225 : BitVec 1 := Scalar.cmpi .eq c16_i32_114 c0_i32_115
  let c1_i32_116 : BitVec 32 := 1#32
  let v226 : BitVec 32 := Scalar.select v225 c1_i32_116 c16_i32_114
  let v227 : BitVec 32 := Scalar.remsi v207 v226
  let c0_i32_118 : BitVec 32 := 0#32
  let v229 : BitVec 1 := Scalar.cmpi .slt v227 c0_i32_118
  let c0_i32_119 : BitVec 32 := 0#32
  let v230 : BitVec 1 := Scalar.cmpi .slt v226 c0_i32_119
  let v231 : BitVec 1 := Scalar.xori v229 v230
  let c0_i32_117 : BitVec 32 := 0#32
  let v228 : BitVec 1 := Scalar.cmpi .ne v227 c0_i32_117
  let v232 : BitVec 1 := Scalar.andi v231 v228
  let v233 : BitVec 32 := Scalar.addi v227 v226
  let v234 : BitVec 32 := Scalar.select v232 v233 v227
  let c0_i32_121 : BitVec 32 := 0#32
  let v236 : BitVec 1 := Scalar.cmpi .sgt v234 c0_i32_121
  let v237 : BitVec 32 := Scalar.extui v236
  let c0_i32_122 : BitVec 32 := 0#32
  let v238 : BitVec 1 := Scalar.cmpi .slt v234 c0_i32_122
  let v239 : BitVec 32 := Scalar.extui v238
  let v240 : BitVec 32 := Scalar.subi v237 v239
  let c4_i32_120 : BitVec 32 := 4#32
  let c0_i32_123 : BitVec 32 := 0#32
  let v241 : BitVec 1 := Scalar.cmpi .sgt c4_i32_120 c0_i32_123
  let v242 : BitVec 32 := Scalar.extui v241
  let c0_i32_124 : BitVec 32 := 0#32
  let v243 : BitVec 1 := Scalar.cmpi .slt c4_i32_120 c0_i32_124
  let v244 : BitVec 32 := Scalar.extui v243
  let v245 : BitVec 32 := Scalar.subi v242 v244
  let v246 : BitVec 1 := Scalar.cmpi .ne v240 v245
  let v247 : BitVec 32 := Scalar.remsi v234 c4_i32_120
  let c0_i32_125 : BitVec 32 := 0#32
  let v248 : BitVec 1 := Scalar.cmpi .ne v247 c0_i32_125
  let v249 : BitVec 1 := Scalar.andi v246 v248
  let v235 : BitVec 32 := Scalar.divsi v234 c4_i32_120
  let c1_i32_126 : BitVec 32 := 1#32
  let v250 : BitVec 32 := Scalar.subi v235 c1_i32_126
  let v251 : BitVec 32 := Scalar.select v249 v250 v235
  let c2_i32_135 : BitVec 32 := 2#32
  let c0_i32_136 : BitVec 32 := 0#32
  let v265 : BitVec 1 := Scalar.cmpi .eq c2_i32_135 c0_i32_136
  let c1_i32_137 : BitVec 32 := 1#32
  let v266 : BitVec 32 := Scalar.select v265 c1_i32_137 c2_i32_135
  let v267 : BitVec 32 := Scalar.remsi v251 v266
  let c0_i32_139 : BitVec 32 := 0#32
  let v269 : BitVec 1 := Scalar.cmpi .slt v267 c0_i32_139
  let c0_i32_140 : BitVec 32 := 0#32
  let v270 : BitVec 1 := Scalar.cmpi .slt v266 c0_i32_140
  let v271 : BitVec 1 := Scalar.xori v269 v270
  let c0_i32_138 : BitVec 32 := 0#32
  let v268 : BitVec 1 := Scalar.cmpi .ne v267 c0_i32_138
  let v272 : BitVec 1 := Scalar.andi v271 v268
  let v273 : BitVec 32 := Scalar.addi v267 v266
  let v274 : BitVec 32 := Scalar.select v272 v273 v267
  let c0_i32_141 : BitVec 32 := 0#32
  let v275 : BitVec 1 := Scalar.cmpi .eq v274 c0_i32_141
  let c4_i32_127 : BitVec 32 := 4#32
  let c0_i32_128 : BitVec 32 := 0#32
  let v252 : BitVec 1 := Scalar.cmpi .eq c4_i32_127 c0_i32_128
  let c1_i32_129 : BitVec 32 := 1#32
  let v253 : BitVec 32 := Scalar.select v252 c1_i32_129 c4_i32_127
  let v254 : BitVec 32 := Scalar.remsi v234 v253
  let c0_i32_131 : BitVec 32 := 0#32
  let v256 : BitVec 1 := Scalar.cmpi .slt v254 c0_i32_131
  let c0_i32_132 : BitVec 32 := 0#32
  let v257 : BitVec 1 := Scalar.cmpi .slt v253 c0_i32_132
  let v258 : BitVec 1 := Scalar.xori v256 v257
  let c0_i32_130 : BitVec 32 := 0#32
  let v255 : BitVec 1 := Scalar.cmpi .ne v254 c0_i32_130
  let v259 : BitVec 1 := Scalar.andi v258 v255
  let v260 : BitVec 32 := Scalar.addi v254 v253
  let v261 : BitVec 32 := Scalar.select v259 v260 v254
  let c3_i32_142 : BitVec 32 := 3#32
  let v276 : BitVec 32 := Scalar.subi c3_i32_142 v261
  let v277 : BitVec 32 := Scalar.select v275 v261 v276
  let v278 : BitVec 32 := Scalar.muli c8_i32_143 v277
  let c2_i32_144 : BitVec 32 := 2#32
  let c0_i32_108 : BitVec 32 := 0#32
  let v209 : BitVec 1 := Scalar.cmpi .sgt v207 c0_i32_108
  let v210 : BitVec 32 := Scalar.extui v209
  let c0_i32_109 : BitVec 32 := 0#32
  let v211 : BitVec 1 := Scalar.cmpi .slt v207 c0_i32_109
  let v212 : BitVec 32 := Scalar.extui v211
  let v213 : BitVec 32 := Scalar.subi v210 v212
  let c16_i32_107 : BitVec 32 := 16#32
  let c0_i32_110 : BitVec 32 := 0#32
  let v214 : BitVec 1 := Scalar.cmpi .sgt c16_i32_107 c0_i32_110
  let v215 : BitVec 32 := Scalar.extui v214
  let c0_i32_111 : BitVec 32 := 0#32
  let v216 : BitVec 1 := Scalar.cmpi .slt c16_i32_107 c0_i32_111
  let v217 : BitVec 32 := Scalar.extui v216
  let v218 : BitVec 32 := Scalar.subi v215 v217
  let v219 : BitVec 1 := Scalar.cmpi .ne v213 v218
  let v220 : BitVec 32 := Scalar.remsi v207 c16_i32_107
  let c0_i32_112 : BitVec 32 := 0#32
  let v221 : BitVec 1 := Scalar.cmpi .ne v220 c0_i32_112
  let v222 : BitVec 1 := Scalar.andi v219 v221
  let v208 : BitVec 32 := Scalar.divsi v207 c16_i32_107
  let c1_i32_113 : BitVec 32 := 1#32
  let v223 : BitVec 32 := Scalar.subi v208 c1_i32_113
  let v224 : BitVec 32 := Scalar.select v222 v223 v208
  let c0_i32_133 : BitVec 32 := 0#32
  let v262 : BitVec 1 := Scalar.cmpi .eq v224 c0_i32_133
  let c3_i32_134 : BitVec 32 := 3#32
  let v263 : BitVec 32 := Scalar.subi c3_i32_134 v251
  let v264 : BitVec 32 := Scalar.select v262 v251 v263
  let v279 : BitVec 32 := Scalar.muli c2_i32_144 v264
  let v280 : BitVec 32 := Scalar.addi v278 v279
  let c2_i32_145 : BitVec 32 := 2#32
  let c0_i32_146 : BitVec 32 := 0#32
  let v281 : BitVec 1 := Scalar.cmpi .eq c2_i32_145 c0_i32_146
  let c1_i32_147 : BitVec 32 := 1#32
  let v282 : BitVec 32 := Scalar.select v281 c1_i32_147 c2_i32_145
  let v283 : BitVec 32 := Scalar.remsi v264 v282
  let c0_i32_149 : BitVec 32 := 0#32
  let v285 : BitVec 1 := Scalar.cmpi .slt v283 c0_i32_149
  let c0_i32_150 : BitVec 32 := 0#32
  let v286 : BitVec 1 := Scalar.cmpi .slt v282 c0_i32_150
  let v287 : BitVec 1 := Scalar.xori v285 v286
  let c0_i32_148 : BitVec 32 := 0#32
  let v284 : BitVec 1 := Scalar.cmpi .ne v283 c0_i32_148
  let v288 : BitVec 1 := Scalar.andi v287 v284
  let v289 : BitVec 32 := Scalar.addi v283 v282
  let v290 : BitVec 32 := Scalar.select v288 v289 v283
  let c0_i32_151 : BitVec 32 := 0#32
  let v291 : BitVec 1 := Scalar.cmpi .eq v290 c0_i32_151
  let c1_i32_152 : BitVec 32 := 1#32
  let v292 : BitVec 32 := Scalar.subi c1_i32_152 v224
  let v293 : BitVec 32 := Scalar.select v291 v224 v292
  let v294 : BitVec 32 := Scalar.addi v280 v293
  let c1_i32_511 : BitVec 32 := 1#32
  let v877 : BitVec 32 := Scalar.muli v294 c1_i32_511
  let v878 : BitVec 32 := Scalar.addi c0_i32_512 v877
  v878.toNat
def k0_dev8 (d0 : Dev nD) : Nat :=
  let c0_i32_518 : BitVec 32 := 0#32
  let c8_i32_94 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_56 : BitVec 32 := 1#32
  let v115 : BitVec 32 := Scalar.addi v114 c1_i32_56
  let c64_i32 : BitVec 32 := 64#32
  let v116 : BitVec 32 := Scalar.addi v115 c64_i32
  let c32_i32_57 : BitVec 32 := 32#32
  let v117 : BitVec 32 := Scalar.remsi v116 c32_i32_57
  let c16_i32_65 : BitVec 32 := 16#32
  let c0_i32_66 : BitVec 32 := 0#32
  let v135 : BitVec 1 := Scalar.cmpi .eq c16_i32_65 c0_i32_66
  let c1_i32_67 : BitVec 32 := 1#32
  let v136 : BitVec 32 := Scalar.select v135 c1_i32_67 c16_i32_65
  let v137 : BitVec 32 := Scalar.remsi v117 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let c0_i32_72 : BitVec 32 := 0#32
  let v146 : BitVec 1 := Scalar.cmpi .sgt v144 c0_i32_72
  let v147 : BitVec 32 := Scalar.extui v146
  let c0_i32_73 : BitVec 32 := 0#32
  let v148 : BitVec 1 := Scalar.cmpi .slt v144 c0_i32_73
  let v149 : BitVec 32 := Scalar.extui v148
  let v150 : BitVec 32 := Scalar.subi v147 v149
  let c4_i32_71 : BitVec 32 := 4#32
  let c0_i32_74 : BitVec 32 := 0#32
  let v151 : BitVec 1 := Scalar.cmpi .sgt c4_i32_71 c0_i32_74
  let v152 : BitVec 32 := Scalar.extui v151
  let c0_i32_75 : BitVec 32 := 0#32
  let v153 : BitVec 1 := Scalar.cmpi .slt c4_i32_71 c0_i32_75
  let v154 : BitVec 32 := Scalar.extui v153
  let v155 : BitVec 32 := Scalar.subi v152 v154
  let v156 : BitVec 1 := Scalar.cmpi .ne v150 v155
  let v157 : BitVec 32 := Scalar.remsi v144 c4_i32_71
  let c0_i32_76 : BitVec 32 := 0#32
  let v158 : BitVec 1 := Scalar.cmpi .ne v157 c0_i32_76
  let v159 : BitVec 1 := Scalar.andi v156 v158
  let v145 : BitVec 32 := Scalar.divsi v144 c4_i32_71
  let c1_i32_77 : BitVec 32 := 1#32
  let v160 : BitVec 32 := Scalar.subi v145 c1_i32_77
  let v161 : BitVec 32 := Scalar.select v159 v160 v145
  let c2_i32_86 : BitVec 32 := 2#32
  let c0_i32_87 : BitVec 32 := 0#32
  let v175 : BitVec 1 := Scalar.cmpi .eq c2_i32_86 c0_i32_87
  let c1_i32_88 : BitVec 32 := 1#32
  let v176 : BitVec 32 := Scalar.select v175 c1_i32_88 c2_i32_86
  let v177 : BitVec 32 := Scalar.remsi v161 v176
  let c0_i32_90 : BitVec 32 := 0#32
  let v179 : BitVec 1 := Scalar.cmpi .slt v177 c0_i32_90
  let c0_i32_91 : BitVec 32 := 0#32
  let v180 : BitVec 1 := Scalar.cmpi .slt v176 c0_i32_91
  let v181 : BitVec 1 := Scalar.xori v179 v180
  let c0_i32_89 : BitVec 32 := 0#32
  let v178 : BitVec 1 := Scalar.cmpi .ne v177 c0_i32_89
  let v182 : BitVec 1 := Scalar.andi v181 v178
  let v183 : BitVec 32 := Scalar.addi v177 v176
  let v184 : BitVec 32 := Scalar.select v182 v183 v177
  let c0_i32_92 : BitVec 32 := 0#32
  let v185 : BitVec 1 := Scalar.cmpi .eq v184 c0_i32_92
  let c4_i32_78 : BitVec 32 := 4#32
  let c0_i32_79 : BitVec 32 := 0#32
  let v162 : BitVec 1 := Scalar.cmpi .eq c4_i32_78 c0_i32_79
  let c1_i32_80 : BitVec 32 := 1#32
  let v163 : BitVec 32 := Scalar.select v162 c1_i32_80 c4_i32_78
  let v164 : BitVec 32 := Scalar.remsi v144 v163
  let c0_i32_82 : BitVec 32 := 0#32
  let v166 : BitVec 1 := Scalar.cmpi .slt v164 c0_i32_82
  let c0_i32_83 : BitVec 32 := 0#32
  let v167 : BitVec 1 := Scalar.cmpi .slt v163 c0_i32_83
  let v168 : BitVec 1 := Scalar.xori v166 v167
  let c0_i32_81 : BitVec 32 := 0#32
  let v165 : BitVec 1 := Scalar.cmpi .ne v164 c0_i32_81
  let v169 : BitVec 1 := Scalar.andi v168 v165
  let v170 : BitVec 32 := Scalar.addi v164 v163
  let v171 : BitVec 32 := Scalar.select v169 v170 v164
  let c3_i32_93 : BitVec 32 := 3#32
  let v186 : BitVec 32 := Scalar.subi c3_i32_93 v171
  let v187 : BitVec 32 := Scalar.select v185 v171 v186
  let v188 : BitVec 32 := Scalar.muli c8_i32_94 v187
  let c2_i32_95 : BitVec 32 := 2#32
  let c0_i32_59 : BitVec 32 := 0#32
  let v119 : BitVec 1 := Scalar.cmpi .sgt v117 c0_i32_59
  let v120 : BitVec 32 := Scalar.extui v119
  let c0_i32_60 : BitVec 32 := 0#32
  let v121 : BitVec 1 := Scalar.cmpi .slt v117 c0_i32_60
  let v122 : BitVec 32 := Scalar.extui v121
  let v123 : BitVec 32 := Scalar.subi v120 v122
  let c16_i32_58 : BitVec 32 := 16#32
  let c0_i32_61 : BitVec 32 := 0#32
  let v124 : BitVec 1 := Scalar.cmpi .sgt c16_i32_58 c0_i32_61
  let v125 : BitVec 32 := Scalar.extui v124
  let c0_i32_62 : BitVec 32 := 0#32
  let v126 : BitVec 1 := Scalar.cmpi .slt c16_i32_58 c0_i32_62
  let v127 : BitVec 32 := Scalar.extui v126
  let v128 : BitVec 32 := Scalar.subi v125 v127
  let v129 : BitVec 1 := Scalar.cmpi .ne v123 v128
  let v130 : BitVec 32 := Scalar.remsi v117 c16_i32_58
  let c0_i32_63 : BitVec 32 := 0#32
  let v131 : BitVec 1 := Scalar.cmpi .ne v130 c0_i32_63
  let v132 : BitVec 1 := Scalar.andi v129 v131
  let v118 : BitVec 32 := Scalar.divsi v117 c16_i32_58
  let c1_i32_64 : BitVec 32 := 1#32
  let v133 : BitVec 32 := Scalar.subi v118 c1_i32_64
  let v134 : BitVec 32 := Scalar.select v132 v133 v118
  let c0_i32_84 : BitVec 32 := 0#32
  let v172 : BitVec 1 := Scalar.cmpi .eq v134 c0_i32_84
  let c3_i32_85 : BitVec 32 := 3#32
  let v173 : BitVec 32 := Scalar.subi c3_i32_85 v161
  let v174 : BitVec 32 := Scalar.select v172 v161 v173
  let v189 : BitVec 32 := Scalar.muli c2_i32_95 v174
  let v190 : BitVec 32 := Scalar.addi v188 v189
  let c2_i32_96 : BitVec 32 := 2#32
  let c0_i32_97 : BitVec 32 := 0#32
  let v191 : BitVec 1 := Scalar.cmpi .eq c2_i32_96 c0_i32_97
  let c1_i32_98 : BitVec 32 := 1#32
  let v192 : BitVec 32 := Scalar.select v191 c1_i32_98 c2_i32_96
  let v193 : BitVec 32 := Scalar.remsi v174 v192
  let c0_i32_100 : BitVec 32 := 0#32
  let v195 : BitVec 1 := Scalar.cmpi .slt v193 c0_i32_100
  let c0_i32_101 : BitVec 32 := 0#32
  let v196 : BitVec 1 := Scalar.cmpi .slt v192 c0_i32_101
  let v197 : BitVec 1 := Scalar.xori v195 v196
  let c0_i32_99 : BitVec 32 := 0#32
  let v194 : BitVec 1 := Scalar.cmpi .ne v193 c0_i32_99
  let v198 : BitVec 1 := Scalar.andi v197 v194
  let v199 : BitVec 32 := Scalar.addi v193 v192
  let v200 : BitVec 32 := Scalar.select v198 v199 v193
  let c0_i32_102 : BitVec 32 := 0#32
  let v201 : BitVec 1 := Scalar.cmpi .eq v200 c0_i32_102
  let c1_i32_103 : BitVec 32 := 1#32
  let v202 : BitVec 32 := Scalar.subi c1_i32_103 v134
  let v203 : BitVec 32 := Scalar.select v201 v134 v202
  let v204 : BitVec 32 := Scalar.addi v190 v203
  let c1_i32_517 : BitVec 32 := 1#32
  let v879 : BitVec 32 := Scalar.muli v204 c1_i32_517
  let v880 : BitVec 32 := Scalar.addi c0_i32_518 v879
  v880.toNat
def k0_dev9 (d0 : Dev nD) : Nat :=
  let c0_i32_599 : BitVec 32 := 0#32
  let c8_i32_94 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_56 : BitVec 32 := 1#32
  let v115 : BitVec 32 := Scalar.addi v114 c1_i32_56
  let c64_i32 : BitVec 32 := 64#32
  let v116 : BitVec 32 := Scalar.addi v115 c64_i32
  let c32_i32_57 : BitVec 32 := 32#32
  let v117 : BitVec 32 := Scalar.remsi v116 c32_i32_57
  let c16_i32_65 : BitVec 32 := 16#32
  let c0_i32_66 : BitVec 32 := 0#32
  let v135 : BitVec 1 := Scalar.cmpi .eq c16_i32_65 c0_i32_66
  let c1_i32_67 : BitVec 32 := 1#32
  let v136 : BitVec 32 := Scalar.select v135 c1_i32_67 c16_i32_65
  let v137 : BitVec 32 := Scalar.remsi v117 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let c0_i32_72 : BitVec 32 := 0#32
  let v146 : BitVec 1 := Scalar.cmpi .sgt v144 c0_i32_72
  let v147 : BitVec 32 := Scalar.extui v146
  let c0_i32_73 : BitVec 32 := 0#32
  let v148 : BitVec 1 := Scalar.cmpi .slt v144 c0_i32_73
  let v149 : BitVec 32 := Scalar.extui v148
  let v150 : BitVec 32 := Scalar.subi v147 v149
  let c4_i32_71 : BitVec 32 := 4#32
  let c0_i32_74 : BitVec 32 := 0#32
  let v151 : BitVec 1 := Scalar.cmpi .sgt c4_i32_71 c0_i32_74
  let v152 : BitVec 32 := Scalar.extui v151
  let c0_i32_75 : BitVec 32 := 0#32
  let v153 : BitVec 1 := Scalar.cmpi .slt c4_i32_71 c0_i32_75
  let v154 : BitVec 32 := Scalar.extui v153
  let v155 : BitVec 32 := Scalar.subi v152 v154
  let v156 : BitVec 1 := Scalar.cmpi .ne v150 v155
  let v157 : BitVec 32 := Scalar.remsi v144 c4_i32_71
  let c0_i32_76 : BitVec 32 := 0#32
  let v158 : BitVec 1 := Scalar.cmpi .ne v157 c0_i32_76
  let v159 : BitVec 1 := Scalar.andi v156 v158
  let v145 : BitVec 32 := Scalar.divsi v144 c4_i32_71
  let c1_i32_77 : BitVec 32 := 1#32
  let v160 : BitVec 32 := Scalar.subi v145 c1_i32_77
  let v161 : BitVec 32 := Scalar.select v159 v160 v145
  let c2_i32_86 : BitVec 32 := 2#32
  let c0_i32_87 : BitVec 32 := 0#32
  let v175 : BitVec 1 := Scalar.cmpi .eq c2_i32_86 c0_i32_87
  let c1_i32_88 : BitVec 32 := 1#32
  let v176 : BitVec 32 := Scalar.select v175 c1_i32_88 c2_i32_86
  let v177 : BitVec 32 := Scalar.remsi v161 v176
  let c0_i32_90 : BitVec 32 := 0#32
  let v179 : BitVec 1 := Scalar.cmpi .slt v177 c0_i32_90
  let c0_i32_91 : BitVec 32 := 0#32
  let v180 : BitVec 1 := Scalar.cmpi .slt v176 c0_i32_91
  let v181 : BitVec 1 := Scalar.xori v179 v180
  let c0_i32_89 : BitVec 32 := 0#32
  let v178 : BitVec 1 := Scalar.cmpi .ne v177 c0_i32_89
  let v182 : BitVec 1 := Scalar.andi v181 v178
  let v183 : BitVec 32 := Scalar.addi v177 v176
  let v184 : BitVec 32 := Scalar.select v182 v183 v177
  let c0_i32_92 : BitVec 32 := 0#32
  let v185 : BitVec 1 := Scalar.cmpi .eq v184 c0_i32_92
  let c4_i32_78 : BitVec 32 := 4#32
  let c0_i32_79 : BitVec 32 := 0#32
  let v162 : BitVec 1 := Scalar.cmpi .eq c4_i32_78 c0_i32_79
  let c1_i32_80 : BitVec 32 := 1#32
  let v163 : BitVec 32 := Scalar.select v162 c1_i32_80 c4_i32_78
  let v164 : BitVec 32 := Scalar.remsi v144 v163
  let c0_i32_82 : BitVec 32 := 0#32
  let v166 : BitVec 1 := Scalar.cmpi .slt v164 c0_i32_82
  let c0_i32_83 : BitVec 32 := 0#32
  let v167 : BitVec 1 := Scalar.cmpi .slt v163 c0_i32_83
  let v168 : BitVec 1 := Scalar.xori v166 v167
  let c0_i32_81 : BitVec 32 := 0#32
  let v165 : BitVec 1 := Scalar.cmpi .ne v164 c0_i32_81
  let v169 : BitVec 1 := Scalar.andi v168 v165
  let v170 : BitVec 32 := Scalar.addi v164 v163
  let v171 : BitVec 32 := Scalar.select v169 v170 v164
  let c3_i32_93 : BitVec 32 := 3#32
  let v186 : BitVec 32 := Scalar.subi c3_i32_93 v171
  let v187 : BitVec 32 := Scalar.select v185 v171 v186
  let v188 : BitVec 32 := Scalar.muli c8_i32_94 v187
  let c2_i32_95 : BitVec 32 := 2#32
  let c0_i32_59 : BitVec 32 := 0#32
  let v119 : BitVec 1 := Scalar.cmpi .sgt v117 c0_i32_59
  let v120 : BitVec 32 := Scalar.extui v119
  let c0_i32_60 : BitVec 32 := 0#32
  let v121 : BitVec 1 := Scalar.cmpi .slt v117 c0_i32_60
  let v122 : BitVec 32 := Scalar.extui v121
  let v123 : BitVec 32 := Scalar.subi v120 v122
  let c16_i32_58 : BitVec 32 := 16#32
  let c0_i32_61 : BitVec 32 := 0#32
  let v124 : BitVec 1 := Scalar.cmpi .sgt c16_i32_58 c0_i32_61
  let v125 : BitVec 32 := Scalar.extui v124
  let c0_i32_62 : BitVec 32 := 0#32
  let v126 : BitVec 1 := Scalar.cmpi .slt c16_i32_58 c0_i32_62
  let v127 : BitVec 32 := Scalar.extui v126
  let v128 : BitVec 32 := Scalar.subi v125 v127
  let v129 : BitVec 1 := Scalar.cmpi .ne v123 v128
  let v130 : BitVec 32 := Scalar.remsi v117 c16_i32_58
  let c0_i32_63 : BitVec 32 := 0#32
  let v131 : BitVec 1 := Scalar.cmpi .ne v130 c0_i32_63
  let v132 : BitVec 1 := Scalar.andi v129 v131
  let v118 : BitVec 32 := Scalar.divsi v117 c16_i32_58
  let c1_i32_64 : BitVec 32 := 1#32
  let v133 : BitVec 32 := Scalar.subi v118 c1_i32_64
  let v134 : BitVec 32 := Scalar.select v132 v133 v118
  let c0_i32_84 : BitVec 32 := 0#32
  let v172 : BitVec 1 := Scalar.cmpi .eq v134 c0_i32_84
  let c3_i32_85 : BitVec 32 := 3#32
  let v173 : BitVec 32 := Scalar.subi c3_i32_85 v161
  let v174 : BitVec 32 := Scalar.select v172 v161 v173
  let v189 : BitVec 32 := Scalar.muli c2_i32_95 v174
  let v190 : BitVec 32 := Scalar.addi v188 v189
  let c2_i32_96 : BitVec 32 := 2#32
  let c0_i32_97 : BitVec 32 := 0#32
  let v191 : BitVec 1 := Scalar.cmpi .eq c2_i32_96 c0_i32_97
  let c1_i32_98 : BitVec 32 := 1#32
  let v192 : BitVec 32 := Scalar.select v191 c1_i32_98 c2_i32_96
  let v193 : BitVec 32 := Scalar.remsi v174 v192
  let c0_i32_100 : BitVec 32 := 0#32
  let v195 : BitVec 1 := Scalar.cmpi .slt v193 c0_i32_100
  let c0_i32_101 : BitVec 32 := 0#32
  let v196 : BitVec 1 := Scalar.cmpi .slt v192 c0_i32_101
  let v197 : BitVec 1 := Scalar.xori v195 v196
  let c0_i32_99 : BitVec 32 := 0#32
  let v194 : BitVec 1 := Scalar.cmpi .ne v193 c0_i32_99
  let v198 : BitVec 1 := Scalar.andi v197 v194
  let v199 : BitVec 32 := Scalar.addi v193 v192
  let v200 : BitVec 32 := Scalar.select v198 v199 v193
  let c0_i32_102 : BitVec 32 := 0#32
  let v201 : BitVec 1 := Scalar.cmpi .eq v200 c0_i32_102
  let c1_i32_103 : BitVec 32 := 1#32
  let v202 : BitVec 32 := Scalar.subi c1_i32_103 v134
  let v203 : BitVec 32 := Scalar.select v201 v134 v202
  let v204 : BitVec 32 := Scalar.addi v190 v203
  let c1_i32_598 : BitVec 32 := 1#32
  let v1006 : BitVec 32 := Scalar.muli v204 c1_i32_598
  let v1007 : BitVec 32 := Scalar.addi c0_i32_599 v1006
  v1007.toNat
def k0_dev10 (d0 : Dev nD) : Nat :=
  let c0_i32_605 : BitVec 32 := 0#32
  let c8_i32_143 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_104 : BitVec 32 := 1#32
  let v205 : BitVec 32 := Scalar.subi v114 c1_i32_104
  let c64_i32_105 : BitVec 32 := 64#32
  let v206 : BitVec 32 := Scalar.addi v205 c64_i32_105
  let c32_i32_106 : BitVec 32 := 32#32
  let v207 : BitVec 32 := Scalar.remsi v206 c32_i32_106
  let c16_i32_114 : BitVec 32 := 16#32
  let c0_i32_115 : BitVec 32 := 0#32
  let v225 : BitVec 1 := Scalar.cmpi .eq c16_i32_114 c0_i32_115
  let c1_i32_116 : BitVec 32 := 1#32
  let v226 : BitVec 32 := Scalar.select v225 c1_i32_116 c16_i32_114
  let v227 : BitVec 32 := Scalar.remsi v207 v226
  let c0_i32_118 : BitVec 32 := 0#32
  let v229 : BitVec 1 := Scalar.cmpi .slt v227 c0_i32_118
  let c0_i32_119 : BitVec 32 := 0#32
  let v230 : BitVec 1 := Scalar.cmpi .slt v226 c0_i32_119
  let v231 : BitVec 1 := Scalar.xori v229 v230
  let c0_i32_117 : BitVec 32 := 0#32
  let v228 : BitVec 1 := Scalar.cmpi .ne v227 c0_i32_117
  let v232 : BitVec 1 := Scalar.andi v231 v228
  let v233 : BitVec 32 := Scalar.addi v227 v226
  let v234 : BitVec 32 := Scalar.select v232 v233 v227
  let c0_i32_121 : BitVec 32 := 0#32
  let v236 : BitVec 1 := Scalar.cmpi .sgt v234 c0_i32_121
  let v237 : BitVec 32 := Scalar.extui v236
  let c0_i32_122 : BitVec 32 := 0#32
  let v238 : BitVec 1 := Scalar.cmpi .slt v234 c0_i32_122
  let v239 : BitVec 32 := Scalar.extui v238
  let v240 : BitVec 32 := Scalar.subi v237 v239
  let c4_i32_120 : BitVec 32 := 4#32
  let c0_i32_123 : BitVec 32 := 0#32
  let v241 : BitVec 1 := Scalar.cmpi .sgt c4_i32_120 c0_i32_123
  let v242 : BitVec 32 := Scalar.extui v241
  let c0_i32_124 : BitVec 32 := 0#32
  let v243 : BitVec 1 := Scalar.cmpi .slt c4_i32_120 c0_i32_124
  let v244 : BitVec 32 := Scalar.extui v243
  let v245 : BitVec 32 := Scalar.subi v242 v244
  let v246 : BitVec 1 := Scalar.cmpi .ne v240 v245
  let v247 : BitVec 32 := Scalar.remsi v234 c4_i32_120
  let c0_i32_125 : BitVec 32 := 0#32
  let v248 : BitVec 1 := Scalar.cmpi .ne v247 c0_i32_125
  let v249 : BitVec 1 := Scalar.andi v246 v248
  let v235 : BitVec 32 := Scalar.divsi v234 c4_i32_120
  let c1_i32_126 : BitVec 32 := 1#32
  let v250 : BitVec 32 := Scalar.subi v235 c1_i32_126
  let v251 : BitVec 32 := Scalar.select v249 v250 v235
  let c2_i32_135 : BitVec 32 := 2#32
  let c0_i32_136 : BitVec 32 := 0#32
  let v265 : BitVec 1 := Scalar.cmpi .eq c2_i32_135 c0_i32_136
  let c1_i32_137 : BitVec 32 := 1#32
  let v266 : BitVec 32 := Scalar.select v265 c1_i32_137 c2_i32_135
  let v267 : BitVec 32 := Scalar.remsi v251 v266
  let c0_i32_139 : BitVec 32 := 0#32
  let v269 : BitVec 1 := Scalar.cmpi .slt v267 c0_i32_139
  let c0_i32_140 : BitVec 32 := 0#32
  let v270 : BitVec 1 := Scalar.cmpi .slt v266 c0_i32_140
  let v271 : BitVec 1 := Scalar.xori v269 v270
  let c0_i32_138 : BitVec 32 := 0#32
  let v268 : BitVec 1 := Scalar.cmpi .ne v267 c0_i32_138
  let v272 : BitVec 1 := Scalar.andi v271 v268
  let v273 : BitVec 32 := Scalar.addi v267 v266
  let v274 : BitVec 32 := Scalar.select v272 v273 v267
  let c0_i32_141 : BitVec 32 := 0#32
  let v275 : BitVec 1 := Scalar.cmpi .eq v274 c0_i32_141
  let c4_i32_127 : BitVec 32 := 4#32
  let c0_i32_128 : BitVec 32 := 0#32
  let v252 : BitVec 1 := Scalar.cmpi .eq c4_i32_127 c0_i32_128
  let c1_i32_129 : BitVec 32 := 1#32
  let v253 : BitVec 32 := Scalar.select v252 c1_i32_129 c4_i32_127
  let v254 : BitVec 32 := Scalar.remsi v234 v253
  let c0_i32_131 : BitVec 32 := 0#32
  let v256 : BitVec 1 := Scalar.cmpi .slt v254 c0_i32_131
  let c0_i32_132 : BitVec 32 := 0#32
  let v257 : BitVec 1 := Scalar.cmpi .slt v253 c0_i32_132
  let v258 : BitVec 1 := Scalar.xori v256 v257
  let c0_i32_130 : BitVec 32 := 0#32
  let v255 : BitVec 1 := Scalar.cmpi .ne v254 c0_i32_130
  let v259 : BitVec 1 := Scalar.andi v258 v255
  let v260 : BitVec 32 := Scalar.addi v254 v253
  let v261 : BitVec 32 := Scalar.select v259 v260 v254
  let c3_i32_142 : BitVec 32 := 3#32
  let v276 : BitVec 32 := Scalar.subi c3_i32_142 v261
  let v277 : BitVec 32 := Scalar.select v275 v261 v276
  let v278 : BitVec 32 := Scalar.muli c8_i32_143 v277
  let c2_i32_144 : BitVec 32 := 2#32
  let c0_i32_108 : BitVec 32 := 0#32
  let v209 : BitVec 1 := Scalar.cmpi .sgt v207 c0_i32_108
  let v210 : BitVec 32 := Scalar.extui v209
  let c0_i32_109 : BitVec 32 := 0#32
  let v211 : BitVec 1 := Scalar.cmpi .slt v207 c0_i32_109
  let v212 : BitVec 32 := Scalar.extui v211
  let v213 : BitVec 32 := Scalar.subi v210 v212
  let c16_i32_107 : BitVec 32 := 16#32
  let c0_i32_110 : BitVec 32 := 0#32
  let v214 : BitVec 1 := Scalar.cmpi .sgt c16_i32_107 c0_i32_110
  let v215 : BitVec 32 := Scalar.extui v214
  let c0_i32_111 : BitVec 32 := 0#32
  let v216 : BitVec 1 := Scalar.cmpi .slt c16_i32_107 c0_i32_111
  let v217 : BitVec 32 := Scalar.extui v216
  let v218 : BitVec 32 := Scalar.subi v215 v217
  let v219 : BitVec 1 := Scalar.cmpi .ne v213 v218
  let v220 : BitVec 32 := Scalar.remsi v207 c16_i32_107
  let c0_i32_112 : BitVec 32 := 0#32
  let v221 : BitVec 1 := Scalar.cmpi .ne v220 c0_i32_112
  let v222 : BitVec 1 := Scalar.andi v219 v221
  let v208 : BitVec 32 := Scalar.divsi v207 c16_i32_107
  let c1_i32_113 : BitVec 32 := 1#32
  let v223 : BitVec 32 := Scalar.subi v208 c1_i32_113
  let v224 : BitVec 32 := Scalar.select v222 v223 v208
  let c0_i32_133 : BitVec 32 := 0#32
  let v262 : BitVec 1 := Scalar.cmpi .eq v224 c0_i32_133
  let c3_i32_134 : BitVec 32 := 3#32
  let v263 : BitVec 32 := Scalar.subi c3_i32_134 v251
  let v264 : BitVec 32 := Scalar.select v262 v251 v263
  let v279 : BitVec 32 := Scalar.muli c2_i32_144 v264
  let v280 : BitVec 32 := Scalar.addi v278 v279
  let c2_i32_145 : BitVec 32 := 2#32
  let c0_i32_146 : BitVec 32 := 0#32
  let v281 : BitVec 1 := Scalar.cmpi .eq c2_i32_145 c0_i32_146
  let c1_i32_147 : BitVec 32 := 1#32
  let v282 : BitVec 32 := Scalar.select v281 c1_i32_147 c2_i32_145
  let v283 : BitVec 32 := Scalar.remsi v264 v282
  let c0_i32_149 : BitVec 32 := 0#32
  let v285 : BitVec 1 := Scalar.cmpi .slt v283 c0_i32_149
  let c0_i32_150 : BitVec 32 := 0#32
  let v286 : BitVec 1 := Scalar.cmpi .slt v282 c0_i32_150
  let v287 : BitVec 1 := Scalar.xori v285 v286
  let c0_i32_148 : BitVec 32 := 0#32
  let v284 : BitVec 1 := Scalar.cmpi .ne v283 c0_i32_148
  let v288 : BitVec 1 := Scalar.andi v287 v284
  let v289 : BitVec 32 := Scalar.addi v283 v282
  let v290 : BitVec 32 := Scalar.select v288 v289 v283
  let c0_i32_151 : BitVec 32 := 0#32
  let v291 : BitVec 1 := Scalar.cmpi .eq v290 c0_i32_151
  let c1_i32_152 : BitVec 32 := 1#32
  let v292 : BitVec 32 := Scalar.subi c1_i32_152 v224
  let v293 : BitVec 32 := Scalar.select v291 v224 v292
  let v294 : BitVec 32 := Scalar.addi v280 v293
  let c1_i32_604 : BitVec 32 := 1#32
  let v1008 : BitVec 32 := Scalar.muli v294 c1_i32_604
  let v1009 : BitVec 32 := Scalar.addi c0_i32_605 v1008
  v1009.toNat
def k0_dev11 (d0 : Dev nD) : Nat :=
  let c0_i32_686 : BitVec 32 := 0#32
  let c8_i32_143 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_104 : BitVec 32 := 1#32
  let v205 : BitVec 32 := Scalar.subi v114 c1_i32_104
  let c64_i32_105 : BitVec 32 := 64#32
  let v206 : BitVec 32 := Scalar.addi v205 c64_i32_105
  let c32_i32_106 : BitVec 32 := 32#32
  let v207 : BitVec 32 := Scalar.remsi v206 c32_i32_106
  let c16_i32_114 : BitVec 32 := 16#32
  let c0_i32_115 : BitVec 32 := 0#32
  let v225 : BitVec 1 := Scalar.cmpi .eq c16_i32_114 c0_i32_115
  let c1_i32_116 : BitVec 32 := 1#32
  let v226 : BitVec 32 := Scalar.select v225 c1_i32_116 c16_i32_114
  let v227 : BitVec 32 := Scalar.remsi v207 v226
  let c0_i32_118 : BitVec 32 := 0#32
  let v229 : BitVec 1 := Scalar.cmpi .slt v227 c0_i32_118
  let c0_i32_119 : BitVec 32 := 0#32
  let v230 : BitVec 1 := Scalar.cmpi .slt v226 c0_i32_119
  let v231 : BitVec 1 := Scalar.xori v229 v230
  let c0_i32_117 : BitVec 32 := 0#32
  let v228 : BitVec 1 := Scalar.cmpi .ne v227 c0_i32_117
  let v232 : BitVec 1 := Scalar.andi v231 v228
  let v233 : BitVec 32 := Scalar.addi v227 v226
  let v234 : BitVec 32 := Scalar.select v232 v233 v227
  let c0_i32_121 : BitVec 32 := 0#32
  let v236 : BitVec 1 := Scalar.cmpi .sgt v234 c0_i32_121
  let v237 : BitVec 32 := Scalar.extui v236
  let c0_i32_122 : BitVec 32 := 0#32
  let v238 : BitVec 1 := Scalar.cmpi .slt v234 c0_i32_122
  let v239 : BitVec 32 := Scalar.extui v238
  let v240 : BitVec 32 := Scalar.subi v237 v239
  let c4_i32_120 : BitVec 32 := 4#32
  let c0_i32_123 : BitVec 32 := 0#32
  let v241 : BitVec 1 := Scalar.cmpi .sgt c4_i32_120 c0_i32_123
  let v242 : BitVec 32 := Scalar.extui v241
  let c0_i32_124 : BitVec 32 := 0#32
  let v243 : BitVec 1 := Scalar.cmpi .slt c4_i32_120 c0_i32_124
  let v244 : BitVec 32 := Scalar.extui v243
  let v245 : BitVec 32 := Scalar.subi v242 v244
  let v246 : BitVec 1 := Scalar.cmpi .ne v240 v245
  let v247 : BitVec 32 := Scalar.remsi v234 c4_i32_120
  let c0_i32_125 : BitVec 32 := 0#32
  let v248 : BitVec 1 := Scalar.cmpi .ne v247 c0_i32_125
  let v249 : BitVec 1 := Scalar.andi v246 v248
  let v235 : BitVec 32 := Scalar.divsi v234 c4_i32_120
  let c1_i32_126 : BitVec 32 := 1#32
  let v250 : BitVec 32 := Scalar.subi v235 c1_i32_126
  let v251 : BitVec 32 := Scalar.select v249 v250 v235
  let c2_i32_135 : BitVec 32 := 2#32
  let c0_i32_136 : BitVec 32 := 0#32
  let v265 : BitVec 1 := Scalar.cmpi .eq c2_i32_135 c0_i32_136
  let c1_i32_137 : BitVec 32 := 1#32
  let v266 : BitVec 32 := Scalar.select v265 c1_i32_137 c2_i32_135
  let v267 : BitVec 32 := Scalar.remsi v251 v266
  let c0_i32_139 : BitVec 32 := 0#32
  let v269 : BitVec 1 := Scalar.cmpi .slt v267 c0_i32_139
  let c0_i32_140 : BitVec 32 := 0#32
  let v270 : BitVec 1 := Scalar.cmpi .slt v266 c0_i32_140
  let v271 : BitVec 1 := Scalar.xori v269 v270
  let c0_i32_138 : BitVec 32 := 0#32
  let v268 : BitVec 1 := Scalar.cmpi .ne v267 c0_i32_138
  let v272 : BitVec 1 := Scalar.andi v271 v268
  let v273 : BitVec 32 := Scalar.addi v267 v266
  let v274 : BitVec 32 := Scalar.select v272 v273 v267
  let c0_i32_141 : BitVec 32 := 0#32
  let v275 : BitVec 1 := Scalar.cmpi .eq v274 c0_i32_141
  let c4_i32_127 : BitVec 32 := 4#32
  let c0_i32_128 : BitVec 32 := 0#32
  let v252 : BitVec 1 := Scalar.cmpi .eq c4_i32_127 c0_i32_128
  let c1_i32_129 : BitVec 32 := 1#32
  let v253 : BitVec 32 := Scalar.select v252 c1_i32_129 c4_i32_127
  let v254 : BitVec 32 := Scalar.remsi v234 v253
  let c0_i32_131 : BitVec 32 := 0#32
  let v256 : BitVec 1 := Scalar.cmpi .slt v254 c0_i32_131
  let c0_i32_132 : BitVec 32 := 0#32
  let v257 : BitVec 1 := Scalar.cmpi .slt v253 c0_i32_132
  let v258 : BitVec 1 := Scalar.xori v256 v257
  let c0_i32_130 : BitVec 32 := 0#32
  let v255 : BitVec 1 := Scalar.cmpi .ne v254 c0_i32_130
  let v259 : BitVec 1 := Scalar.andi v258 v255
  let v260 : BitVec 32 := Scalar.addi v254 v253
  let v261 : BitVec 32 := Scalar.select v259 v260 v254
  let c3_i32_142 : BitVec 32 := 3#32
  let v276 : BitVec 32 := Scalar.subi c3_i32_142 v261
  let v277 : BitVec 32 := Scalar.select v275 v261 v276
  let v278 : BitVec 32 := Scalar.muli c8_i32_143 v277
  let c2_i32_144 : BitVec 32 := 2#32
  let c0_i32_108 : BitVec 32 := 0#32
  let v209 : BitVec 1 := Scalar.cmpi .sgt v207 c0_i32_108
  let v210 : BitVec 32 := Scalar.extui v209
  let c0_i32_109 : BitVec 32 := 0#32
  let v211 : BitVec 1 := Scalar.cmpi .slt v207 c0_i32_109
  let v212 : BitVec 32 := Scalar.extui v211
  let v213 : BitVec 32 := Scalar.subi v210 v212
  let c16_i32_107 : BitVec 32 := 16#32
  let c0_i32_110 : BitVec 32 := 0#32
  let v214 : BitVec 1 := Scalar.cmpi .sgt c16_i32_107 c0_i32_110
  let v215 : BitVec 32 := Scalar.extui v214
  let c0_i32_111 : BitVec 32 := 0#32
  let v216 : BitVec 1 := Scalar.cmpi .slt c16_i32_107 c0_i32_111
  let v217 : BitVec 32 := Scalar.extui v216
  let v218 : BitVec 32 := Scalar.subi v215 v217
  let v219 : BitVec 1 := Scalar.cmpi .ne v213 v218
  let v220 : BitVec 32 := Scalar.remsi v207 c16_i32_107
  let c0_i32_112 : BitVec 32 := 0#32
  let v221 : BitVec 1 := Scalar.cmpi .ne v220 c0_i32_112
  let v222 : BitVec 1 := Scalar.andi v219 v221
  let v208 : BitVec 32 := Scalar.divsi v207 c16_i32_107
  let c1_i32_113 : BitVec 32 := 1#32
  let v223 : BitVec 32 := Scalar.subi v208 c1_i32_113
  let v224 : BitVec 32 := Scalar.select v222 v223 v208
  let c0_i32_133 : BitVec 32 := 0#32
  let v262 : BitVec 1 := Scalar.cmpi .eq v224 c0_i32_133
  let c3_i32_134 : BitVec 32 := 3#32
  let v263 : BitVec 32 := Scalar.subi c3_i32_134 v251
  let v264 : BitVec 32 := Scalar.select v262 v251 v263
  let v279 : BitVec 32 := Scalar.muli c2_i32_144 v264
  let v280 : BitVec 32 := Scalar.addi v278 v279
  let c2_i32_145 : BitVec 32 := 2#32
  let c0_i32_146 : BitVec 32 := 0#32
  let v281 : BitVec 1 := Scalar.cmpi .eq c2_i32_145 c0_i32_146
  let c1_i32_147 : BitVec 32 := 1#32
  let v282 : BitVec 32 := Scalar.select v281 c1_i32_147 c2_i32_145
  let v283 : BitVec 32 := Scalar.remsi v264 v282
  let c0_i32_149 : BitVec 32 := 0#32
  let v285 : BitVec 1 := Scalar.cmpi .slt v283 c0_i32_149
  let c0_i32_150 : BitVec 32 := 0#32
  let v286 : BitVec 1 := Scalar.cmpi .slt v282 c0_i32_150
  let v287 : BitVec 1 := Scalar.xori v285 v286
  let c0_i32_148 : BitVec 32 := 0#32
  let v284 : BitVec 1 := Scalar.cmpi .ne v283 c0_i32_148
  let v288 : BitVec 1 := Scalar.andi v287 v284
  let v289 : BitVec 32 := Scalar.addi v283 v282
  let v290 : BitVec 32 := Scalar.select v288 v289 v283
  let c0_i32_151 : BitVec 32 := 0#32
  let v291 : BitVec 1 := Scalar.cmpi .eq v290 c0_i32_151
  let c1_i32_152 : BitVec 32 := 1#32
  let v292 : BitVec 32 := Scalar.subi c1_i32_152 v224
  let v293 : BitVec 32 := Scalar.select v291 v224 v292
  let v294 : BitVec 32 := Scalar.addi v280 v293
  let c1_i32_685 : BitVec 32 := 1#32
  let v1135 : BitVec 32 := Scalar.muli v294 c1_i32_685
  let v1136 : BitVec 32 := Scalar.addi c0_i32_686 v1135
  v1136.toNat
def k0_dev12 (d0 : Dev nD) : Nat :=
  let c0_i32_692 : BitVec 32 := 0#32
  let c8_i32_94 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_56 : BitVec 32 := 1#32
  let v115 : BitVec 32 := Scalar.addi v114 c1_i32_56
  let c64_i32 : BitVec 32 := 64#32
  let v116 : BitVec 32 := Scalar.addi v115 c64_i32
  let c32_i32_57 : BitVec 32 := 32#32
  let v117 : BitVec 32 := Scalar.remsi v116 c32_i32_57
  let c16_i32_65 : BitVec 32 := 16#32
  let c0_i32_66 : BitVec 32 := 0#32
  let v135 : BitVec 1 := Scalar.cmpi .eq c16_i32_65 c0_i32_66
  let c1_i32_67 : BitVec 32 := 1#32
  let v136 : BitVec 32 := Scalar.select v135 c1_i32_67 c16_i32_65
  let v137 : BitVec 32 := Scalar.remsi v117 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let c0_i32_72 : BitVec 32 := 0#32
  let v146 : BitVec 1 := Scalar.cmpi .sgt v144 c0_i32_72
  let v147 : BitVec 32 := Scalar.extui v146
  let c0_i32_73 : BitVec 32 := 0#32
  let v148 : BitVec 1 := Scalar.cmpi .slt v144 c0_i32_73
  let v149 : BitVec 32 := Scalar.extui v148
  let v150 : BitVec 32 := Scalar.subi v147 v149
  let c4_i32_71 : BitVec 32 := 4#32
  let c0_i32_74 : BitVec 32 := 0#32
  let v151 : BitVec 1 := Scalar.cmpi .sgt c4_i32_71 c0_i32_74
  let v152 : BitVec 32 := Scalar.extui v151
  let c0_i32_75 : BitVec 32 := 0#32
  let v153 : BitVec 1 := Scalar.cmpi .slt c4_i32_71 c0_i32_75
  let v154 : BitVec 32 := Scalar.extui v153
  let v155 : BitVec 32 := Scalar.subi v152 v154
  let v156 : BitVec 1 := Scalar.cmpi .ne v150 v155
  let v157 : BitVec 32 := Scalar.remsi v144 c4_i32_71
  let c0_i32_76 : BitVec 32 := 0#32
  let v158 : BitVec 1 := Scalar.cmpi .ne v157 c0_i32_76
  let v159 : BitVec 1 := Scalar.andi v156 v158
  let v145 : BitVec 32 := Scalar.divsi v144 c4_i32_71
  let c1_i32_77 : BitVec 32 := 1#32
  let v160 : BitVec 32 := Scalar.subi v145 c1_i32_77
  let v161 : BitVec 32 := Scalar.select v159 v160 v145
  let c2_i32_86 : BitVec 32 := 2#32
  let c0_i32_87 : BitVec 32 := 0#32
  let v175 : BitVec 1 := Scalar.cmpi .eq c2_i32_86 c0_i32_87
  let c1_i32_88 : BitVec 32 := 1#32
  let v176 : BitVec 32 := Scalar.select v175 c1_i32_88 c2_i32_86
  let v177 : BitVec 32 := Scalar.remsi v161 v176
  let c0_i32_90 : BitVec 32 := 0#32
  let v179 : BitVec 1 := Scalar.cmpi .slt v177 c0_i32_90
  let c0_i32_91 : BitVec 32 := 0#32
  let v180 : BitVec 1 := Scalar.cmpi .slt v176 c0_i32_91
  let v181 : BitVec 1 := Scalar.xori v179 v180
  let c0_i32_89 : BitVec 32 := 0#32
  let v178 : BitVec 1 := Scalar.cmpi .ne v177 c0_i32_89
  let v182 : BitVec 1 := Scalar.andi v181 v178
  let v183 : BitVec 32 := Scalar.addi v177 v176
  let v184 : BitVec 32 := Scalar.select v182 v183 v177
  let c0_i32_92 : BitVec 32 := 0#32
  let v185 : BitVec 1 := Scalar.cmpi .eq v184 c0_i32_92
  let c4_i32_78 : BitVec 32 := 4#32
  let c0_i32_79 : BitVec 32 := 0#32
  let v162 : BitVec 1 := Scalar.cmpi .eq c4_i32_78 c0_i32_79
  let c1_i32_80 : BitVec 32 := 1#32
  let v163 : BitVec 32 := Scalar.select v162 c1_i32_80 c4_i32_78
  let v164 : BitVec 32 := Scalar.remsi v144 v163
  let c0_i32_82 : BitVec 32 := 0#32
  let v166 : BitVec 1 := Scalar.cmpi .slt v164 c0_i32_82
  let c0_i32_83 : BitVec 32 := 0#32
  let v167 : BitVec 1 := Scalar.cmpi .slt v163 c0_i32_83
  let v168 : BitVec 1 := Scalar.xori v166 v167
  let c0_i32_81 : BitVec 32 := 0#32
  let v165 : BitVec 1 := Scalar.cmpi .ne v164 c0_i32_81
  let v169 : BitVec 1 := Scalar.andi v168 v165
  let v170 : BitVec 32 := Scalar.addi v164 v163
  let v171 : BitVec 32 := Scalar.select v169 v170 v164
  let c3_i32_93 : BitVec 32 := 3#32
  let v186 : BitVec 32 := Scalar.subi c3_i32_93 v171
  let v187 : BitVec 32 := Scalar.select v185 v171 v186
  let v188 : BitVec 32 := Scalar.muli c8_i32_94 v187
  let c2_i32_95 : BitVec 32 := 2#32
  let c0_i32_59 : BitVec 32 := 0#32
  let v119 : BitVec 1 := Scalar.cmpi .sgt v117 c0_i32_59
  let v120 : BitVec 32 := Scalar.extui v119
  let c0_i32_60 : BitVec 32 := 0#32
  let v121 : BitVec 1 := Scalar.cmpi .slt v117 c0_i32_60
  let v122 : BitVec 32 := Scalar.extui v121
  let v123 : BitVec 32 := Scalar.subi v120 v122
  let c16_i32_58 : BitVec 32 := 16#32
  let c0_i32_61 : BitVec 32 := 0#32
  let v124 : BitVec 1 := Scalar.cmpi .sgt c16_i32_58 c0_i32_61
  let v125 : BitVec 32 := Scalar.extui v124
  let c0_i32_62 : BitVec 32 := 0#32
  let v126 : BitVec 1 := Scalar.cmpi .slt c16_i32_58 c0_i32_62
  let v127 : BitVec 32 := Scalar.extui v126
  let v128 : BitVec 32 := Scalar.subi v125 v127
  let v129 : BitVec 1 := Scalar.cmpi .ne v123 v128
  let v130 : BitVec 32 := Scalar.remsi v117 c16_i32_58
  let c0_i32_63 : BitVec 32 := 0#32
  let v131 : BitVec 1 := Scalar.cmpi .ne v130 c0_i32_63
  let v132 : BitVec 1 := Scalar.andi v129 v131
  let v118 : BitVec 32 := Scalar.divsi v117 c16_i32_58
  let c1_i32_64 : BitVec 32 := 1#32
  let v133 : BitVec 32 := Scalar.subi v118 c1_i32_64
  let v134 : BitVec 32 := Scalar.select v132 v133 v118
  let c0_i32_84 : BitVec 32 := 0#32
  let v172 : BitVec 1 := Scalar.cmpi .eq v134 c0_i32_84
  let c3_i32_85 : BitVec 32 := 3#32
  let v173 : BitVec 32 := Scalar.subi c3_i32_85 v161
  let v174 : BitVec 32 := Scalar.select v172 v161 v173
  let v189 : BitVec 32 := Scalar.muli c2_i32_95 v174
  let v190 : BitVec 32 := Scalar.addi v188 v189
  let c2_i32_96 : BitVec 32 := 2#32
  let c0_i32_97 : BitVec 32 := 0#32
  let v191 : BitVec 1 := Scalar.cmpi .eq c2_i32_96 c0_i32_97
  let c1_i32_98 : BitVec 32 := 1#32
  let v192 : BitVec 32 := Scalar.select v191 c1_i32_98 c2_i32_96
  let v193 : BitVec 32 := Scalar.remsi v174 v192
  let c0_i32_100 : BitVec 32 := 0#32
  let v195 : BitVec 1 := Scalar.cmpi .slt v193 c0_i32_100
  let c0_i32_101 : BitVec 32 := 0#32
  let v196 : BitVec 1 := Scalar.cmpi .slt v192 c0_i32_101
  let v197 : BitVec 1 := Scalar.xori v195 v196
  let c0_i32_99 : BitVec 32 := 0#32
  let v194 : BitVec 1 := Scalar.cmpi .ne v193 c0_i32_99
  let v198 : BitVec 1 := Scalar.andi v197 v194
  let v199 : BitVec 32 := Scalar.addi v193 v192
  let v200 : BitVec 32 := Scalar.select v198 v199 v193
  let c0_i32_102 : BitVec 32 := 0#32
  let v201 : BitVec 1 := Scalar.cmpi .eq v200 c0_i32_102
  let c1_i32_103 : BitVec 32 := 1#32
  let v202 : BitVec 32 := Scalar.subi c1_i32_103 v134
  let v203 : BitVec 32 := Scalar.select v201 v134 v202
  let v204 : BitVec 32 := Scalar.addi v190 v203
  let c1_i32_691 : BitVec 32 := 1#32
  let v1137 : BitVec 32 := Scalar.muli v204 c1_i32_691
  let v1138 : BitVec 32 := Scalar.addi c0_i32_692 v1137
  v1138.toNat
def k0_dev13 (d0 : Dev nD) : Nat :=
  let c0_i32_773 : BitVec 32 := 0#32
  let c8_i32_94 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_56 : BitVec 32 := 1#32
  let v115 : BitVec 32 := Scalar.addi v114 c1_i32_56
  let c64_i32 : BitVec 32 := 64#32
  let v116 : BitVec 32 := Scalar.addi v115 c64_i32
  let c32_i32_57 : BitVec 32 := 32#32
  let v117 : BitVec 32 := Scalar.remsi v116 c32_i32_57
  let c16_i32_65 : BitVec 32 := 16#32
  let c0_i32_66 : BitVec 32 := 0#32
  let v135 : BitVec 1 := Scalar.cmpi .eq c16_i32_65 c0_i32_66
  let c1_i32_67 : BitVec 32 := 1#32
  let v136 : BitVec 32 := Scalar.select v135 c1_i32_67 c16_i32_65
  let v137 : BitVec 32 := Scalar.remsi v117 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let c0_i32_72 : BitVec 32 := 0#32
  let v146 : BitVec 1 := Scalar.cmpi .sgt v144 c0_i32_72
  let v147 : BitVec 32 := Scalar.extui v146
  let c0_i32_73 : BitVec 32 := 0#32
  let v148 : BitVec 1 := Scalar.cmpi .slt v144 c0_i32_73
  let v149 : BitVec 32 := Scalar.extui v148
  let v150 : BitVec 32 := Scalar.subi v147 v149
  let c4_i32_71 : BitVec 32 := 4#32
  let c0_i32_74 : BitVec 32 := 0#32
  let v151 : BitVec 1 := Scalar.cmpi .sgt c4_i32_71 c0_i32_74
  let v152 : BitVec 32 := Scalar.extui v151
  let c0_i32_75 : BitVec 32 := 0#32
  let v153 : BitVec 1 := Scalar.cmpi .slt c4_i32_71 c0_i32_75
  let v154 : BitVec 32 := Scalar.extui v153
  let v155 : BitVec 32 := Scalar.subi v152 v154
  let v156 : BitVec 1 := Scalar.cmpi .ne v150 v155
  let v157 : BitVec 32 := Scalar.remsi v144 c4_i32_71
  let c0_i32_76 : BitVec 32 := 0#32
  let v158 : BitVec 1 := Scalar.cmpi .ne v157 c0_i32_76
  let v159 : BitVec 1 := Scalar.andi v156 v158
  let v145 : BitVec 32 := Scalar.divsi v144 c4_i32_71
  let c1_i32_77 : BitVec 32 := 1#32
  let v160 : BitVec 32 := Scalar.subi v145 c1_i32_77
  let v161 : BitVec 32 := Scalar.select v159 v160 v145
  let c2_i32_86 : BitVec 32 := 2#32
  let c0_i32_87 : BitVec 32 := 0#32
  let v175 : BitVec 1 := Scalar.cmpi .eq c2_i32_86 c0_i32_87
  let c1_i32_88 : BitVec 32 := 1#32
  let v176 : BitVec 32 := Scalar.select v175 c1_i32_88 c2_i32_86
  let v177 : BitVec 32 := Scalar.remsi v161 v176
  let c0_i32_90 : BitVec 32 := 0#32
  let v179 : BitVec 1 := Scalar.cmpi .slt v177 c0_i32_90
  let c0_i32_91 : BitVec 32 := 0#32
  let v180 : BitVec 1 := Scalar.cmpi .slt v176 c0_i32_91
  let v181 : BitVec 1 := Scalar.xori v179 v180
  let c0_i32_89 : BitVec 32 := 0#32
  let v178 : BitVec 1 := Scalar.cmpi .ne v177 c0_i32_89
  let v182 : BitVec 1 := Scalar.andi v181 v178
  let v183 : BitVec 32 := Scalar.addi v177 v176
  let v184 : BitVec 32 := Scalar.select v182 v183 v177
  let c0_i32_92 : BitVec 32 := 0#32
  let v185 : BitVec 1 := Scalar.cmpi .eq v184 c0_i32_92
  let c4_i32_78 : BitVec 32 := 4#32
  let c0_i32_79 : BitVec 32 := 0#32
  let v162 : BitVec 1 := Scalar.cmpi .eq c4_i32_78 c0_i32_79
  let c1_i32_80 : BitVec 32 := 1#32
  let v163 : BitVec 32 := Scalar.select v162 c1_i32_80 c4_i32_78
  let v164 : BitVec 32 := Scalar.remsi v144 v163
  let c0_i32_82 : BitVec 32 := 0#32
  let v166 : BitVec 1 := Scalar.cmpi .slt v164 c0_i32_82
  let c0_i32_83 : BitVec 32 := 0#32
  let v167 : BitVec 1 := Scalar.cmpi .slt v163 c0_i32_83
  let v168 : BitVec 1 := Scalar.xori v166 v167
  let c0_i32_81 : BitVec 32 := 0#32
  let v165 : BitVec 1 := Scalar.cmpi .ne v164 c0_i32_81
  let v169 : BitVec 1 := Scalar.andi v168 v165
  let v170 : BitVec 32 := Scalar.addi v164 v163
  let v171 : BitVec 32 := Scalar.select v169 v170 v164
  let c3_i32_93 : BitVec 32 := 3#32
  let v186 : BitVec 32 := Scalar.subi c3_i32_93 v171
  let v187 : BitVec 32 := Scalar.select v185 v171 v186
  let v188 : BitVec 32 := Scalar.muli c8_i32_94 v187
  let c2_i32_95 : BitVec 32 := 2#32
  let c0_i32_59 : BitVec 32 := 0#32
  let v119 : BitVec 1 := Scalar.cmpi .sgt v117 c0_i32_59
  let v120 : BitVec 32 := Scalar.extui v119
  let c0_i32_60 : BitVec 32 := 0#32
  let v121 : BitVec 1 := Scalar.cmpi .slt v117 c0_i32_60
  let v122 : BitVec 32 := Scalar.extui v121
  let v123 : BitVec 32 := Scalar.subi v120 v122
  let c16_i32_58 : BitVec 32 := 16#32
  let c0_i32_61 : BitVec 32 := 0#32
  let v124 : BitVec 1 := Scalar.cmpi .sgt c16_i32_58 c0_i32_61
  let v125 : BitVec 32 := Scalar.extui v124
  let c0_i32_62 : BitVec 32 := 0#32
  let v126 : BitVec 1 := Scalar.cmpi .slt c16_i32_58 c0_i32_62
  let v127 : BitVec 32 := Scalar.extui v126
  let v128 : BitVec 32 := Scalar.subi v125 v127
  let v129 : BitVec 1 := Scalar.cmpi .ne v123 v128
  let v130 : BitVec 32 := Scalar.remsi v117 c16_i32_58
  let c0_i32_63 : BitVec 32 := 0#32
  let v131 : BitVec 1 := Scalar.cmpi .ne v130 c0_i32_63
  let v132 : BitVec 1 := Scalar.andi v129 v131
  let v118 : BitVec 32 := Scalar.divsi v117 c16_i32_58
  let c1_i32_64 : BitVec 32 := 1#32
  let v133 : BitVec 32 := Scalar.subi v118 c1_i32_64
  let v134 : BitVec 32 := Scalar.select v132 v133 v118
  let c0_i32_84 : BitVec 32 := 0#32
  let v172 : BitVec 1 := Scalar.cmpi .eq v134 c0_i32_84
  let c3_i32_85 : BitVec 32 := 3#32
  let v173 : BitVec 32 := Scalar.subi c3_i32_85 v161
  let v174 : BitVec 32 := Scalar.select v172 v161 v173
  let v189 : BitVec 32 := Scalar.muli c2_i32_95 v174
  let v190 : BitVec 32 := Scalar.addi v188 v189
  let c2_i32_96 : BitVec 32 := 2#32
  let c0_i32_97 : BitVec 32 := 0#32
  let v191 : BitVec 1 := Scalar.cmpi .eq c2_i32_96 c0_i32_97
  let c1_i32_98 : BitVec 32 := 1#32
  let v192 : BitVec 32 := Scalar.select v191 c1_i32_98 c2_i32_96
  let v193 : BitVec 32 := Scalar.remsi v174 v192
  let c0_i32_100 : BitVec 32 := 0#32
  let v195 : BitVec 1 := Scalar.cmpi .slt v193 c0_i32_100
  let c0_i32_101 : BitVec 32 := 0#32
  let v196 : BitVec 1 := Scalar.cmpi .slt v192 c0_i32_101
  let v197 : BitVec 1 := Scalar.xori v195 v196
  let c0_i32_99 : BitVec 32 := 0#32
  let v194 : BitVec 1 := Scalar.cmpi .ne v193 c0_i32_99
  let v198 : BitVec 1 := Scalar.andi v197 v194
  let v199 : BitVec 32 := Scalar.addi v193 v192
  let v200 : BitVec 32 := Scalar.select v198 v199 v193
  let c0_i32_102 : BitVec 32 := 0#32
  let v201 : BitVec 1 := Scalar.cmpi .eq v200 c0_i32_102
  let c1_i32_103 : BitVec 32 := 1#32
  let v202 : BitVec 32 := Scalar.subi c1_i32_103 v134
  let v203 : BitVec 32 := Scalar.select v201 v134 v202
  let v204 : BitVec 32 := Scalar.addi v190 v203
  let c1_i32_772 : BitVec 32 := 1#32
  let v1264 : BitVec 32 := Scalar.muli v204 c1_i32_772
  let v1265 : BitVec 32 := Scalar.addi c0_i32_773 v1264
  v1265.toNat
def k0_dev14 (d0 : Dev nD) : Nat :=
  let c0_i32_779 : BitVec 32 := 0#32
  let c8_i32_143 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_104 : BitVec 32 := 1#32
  let v205 : BitVec 32 := Scalar.subi v114 c1_i32_104
  let c64_i32_105 : BitVec 32 := 64#32
  let v206 : BitVec 32 := Scalar.addi v205 c64_i32_105
  let c32_i32_106 : BitVec 32 := 32#32
  let v207 : BitVec 32 := Scalar.remsi v206 c32_i32_106
  let c16_i32_114 : BitVec 32 := 16#32
  let c0_i32_115 : BitVec 32 := 0#32
  let v225 : BitVec 1 := Scalar.cmpi .eq c16_i32_114 c0_i32_115
  let c1_i32_116 : BitVec 32 := 1#32
  let v226 : BitVec 32 := Scalar.select v225 c1_i32_116 c16_i32_114
  let v227 : BitVec 32 := Scalar.remsi v207 v226
  let c0_i32_118 : BitVec 32 := 0#32
  let v229 : BitVec 1 := Scalar.cmpi .slt v227 c0_i32_118
  let c0_i32_119 : BitVec 32 := 0#32
  let v230 : BitVec 1 := Scalar.cmpi .slt v226 c0_i32_119
  let v231 : BitVec 1 := Scalar.xori v229 v230
  let c0_i32_117 : BitVec 32 := 0#32
  let v228 : BitVec 1 := Scalar.cmpi .ne v227 c0_i32_117
  let v232 : BitVec 1 := Scalar.andi v231 v228
  let v233 : BitVec 32 := Scalar.addi v227 v226
  let v234 : BitVec 32 := Scalar.select v232 v233 v227
  let c0_i32_121 : BitVec 32 := 0#32
  let v236 : BitVec 1 := Scalar.cmpi .sgt v234 c0_i32_121
  let v237 : BitVec 32 := Scalar.extui v236
  let c0_i32_122 : BitVec 32 := 0#32
  let v238 : BitVec 1 := Scalar.cmpi .slt v234 c0_i32_122
  let v239 : BitVec 32 := Scalar.extui v238
  let v240 : BitVec 32 := Scalar.subi v237 v239
  let c4_i32_120 : BitVec 32 := 4#32
  let c0_i32_123 : BitVec 32 := 0#32
  let v241 : BitVec 1 := Scalar.cmpi .sgt c4_i32_120 c0_i32_123
  let v242 : BitVec 32 := Scalar.extui v241
  let c0_i32_124 : BitVec 32 := 0#32
  let v243 : BitVec 1 := Scalar.cmpi .slt c4_i32_120 c0_i32_124
  let v244 : BitVec 32 := Scalar.extui v243
  let v245 : BitVec 32 := Scalar.subi v242 v244
  let v246 : BitVec 1 := Scalar.cmpi .ne v240 v245
  let v247 : BitVec 32 := Scalar.remsi v234 c4_i32_120
  let c0_i32_125 : BitVec 32 := 0#32
  let v248 : BitVec 1 := Scalar.cmpi .ne v247 c0_i32_125
  let v249 : BitVec 1 := Scalar.andi v246 v248
  let v235 : BitVec 32 := Scalar.divsi v234 c4_i32_120
  let c1_i32_126 : BitVec 32 := 1#32
  let v250 : BitVec 32 := Scalar.subi v235 c1_i32_126
  let v251 : BitVec 32 := Scalar.select v249 v250 v235
  let c2_i32_135 : BitVec 32 := 2#32
  let c0_i32_136 : BitVec 32 := 0#32
  let v265 : BitVec 1 := Scalar.cmpi .eq c2_i32_135 c0_i32_136
  let c1_i32_137 : BitVec 32 := 1#32
  let v266 : BitVec 32 := Scalar.select v265 c1_i32_137 c2_i32_135
  let v267 : BitVec 32 := Scalar.remsi v251 v266
  let c0_i32_139 : BitVec 32 := 0#32
  let v269 : BitVec 1 := Scalar.cmpi .slt v267 c0_i32_139
  let c0_i32_140 : BitVec 32 := 0#32
  let v270 : BitVec 1 := Scalar.cmpi .slt v266 c0_i32_140
  let v271 : BitVec 1 := Scalar.xori v269 v270
  let c0_i32_138 : BitVec 32 := 0#32
  let v268 : BitVec 1 := Scalar.cmpi .ne v267 c0_i32_138
  let v272 : BitVec 1 := Scalar.andi v271 v268
  let v273 : BitVec 32 := Scalar.addi v267 v266
  let v274 : BitVec 32 := Scalar.select v272 v273 v267
  let c0_i32_141 : BitVec 32 := 0#32
  let v275 : BitVec 1 := Scalar.cmpi .eq v274 c0_i32_141
  let c4_i32_127 : BitVec 32 := 4#32
  let c0_i32_128 : BitVec 32 := 0#32
  let v252 : BitVec 1 := Scalar.cmpi .eq c4_i32_127 c0_i32_128
  let c1_i32_129 : BitVec 32 := 1#32
  let v253 : BitVec 32 := Scalar.select v252 c1_i32_129 c4_i32_127
  let v254 : BitVec 32 := Scalar.remsi v234 v253
  let c0_i32_131 : BitVec 32 := 0#32
  let v256 : BitVec 1 := Scalar.cmpi .slt v254 c0_i32_131
  let c0_i32_132 : BitVec 32 := 0#32
  let v257 : BitVec 1 := Scalar.cmpi .slt v253 c0_i32_132
  let v258 : BitVec 1 := Scalar.xori v256 v257
  let c0_i32_130 : BitVec 32 := 0#32
  let v255 : BitVec 1 := Scalar.cmpi .ne v254 c0_i32_130
  let v259 : BitVec 1 := Scalar.andi v258 v255
  let v260 : BitVec 32 := Scalar.addi v254 v253
  let v261 : BitVec 32 := Scalar.select v259 v260 v254
  let c3_i32_142 : BitVec 32 := 3#32
  let v276 : BitVec 32 := Scalar.subi c3_i32_142 v261
  let v277 : BitVec 32 := Scalar.select v275 v261 v276
  let v278 : BitVec 32 := Scalar.muli c8_i32_143 v277
  let c2_i32_144 : BitVec 32 := 2#32
  let c0_i32_108 : BitVec 32 := 0#32
  let v209 : BitVec 1 := Scalar.cmpi .sgt v207 c0_i32_108
  let v210 : BitVec 32 := Scalar.extui v209
  let c0_i32_109 : BitVec 32 := 0#32
  let v211 : BitVec 1 := Scalar.cmpi .slt v207 c0_i32_109
  let v212 : BitVec 32 := Scalar.extui v211
  let v213 : BitVec 32 := Scalar.subi v210 v212
  let c16_i32_107 : BitVec 32 := 16#32
  let c0_i32_110 : BitVec 32 := 0#32
  let v214 : BitVec 1 := Scalar.cmpi .sgt c16_i32_107 c0_i32_110
  let v215 : BitVec 32 := Scalar.extui v214
  let c0_i32_111 : BitVec 32 := 0#32
  let v216 : BitVec 1 := Scalar.cmpi .slt c16_i32_107 c0_i32_111
  let v217 : BitVec 32 := Scalar.extui v216
  let v218 : BitVec 32 := Scalar.subi v215 v217
  let v219 : BitVec 1 := Scalar.cmpi .ne v213 v218
  let v220 : BitVec 32 := Scalar.remsi v207 c16_i32_107
  let c0_i32_112 : BitVec 32 := 0#32
  let v221 : BitVec 1 := Scalar.cmpi .ne v220 c0_i32_112
  let v222 : BitVec 1 := Scalar.andi v219 v221
  let v208 : BitVec 32 := Scalar.divsi v207 c16_i32_107
  let c1_i32_113 : BitVec 32 := 1#32
  let v223 : BitVec 32 := Scalar.subi v208 c1_i32_113
  let v224 : BitVec 32 := Scalar.select v222 v223 v208
  let c0_i32_133 : BitVec 32 := 0#32
  let v262 : BitVec 1 := Scalar.cmpi .eq v224 c0_i32_133
  let c3_i32_134 : BitVec 32 := 3#32
  let v263 : BitVec 32 := Scalar.subi c3_i32_134 v251
  let v264 : BitVec 32 := Scalar.select v262 v251 v263
  let v279 : BitVec 32 := Scalar.muli c2_i32_144 v264
  let v280 : BitVec 32 := Scalar.addi v278 v279
  let c2_i32_145 : BitVec 32 := 2#32
  let c0_i32_146 : BitVec 32 := 0#32
  let v281 : BitVec 1 := Scalar.cmpi .eq c2_i32_145 c0_i32_146
  let c1_i32_147 : BitVec 32 := 1#32
  let v282 : BitVec 32 := Scalar.select v281 c1_i32_147 c2_i32_145
  let v283 : BitVec 32 := Scalar.remsi v264 v282
  let c0_i32_149 : BitVec 32 := 0#32
  let v285 : BitVec 1 := Scalar.cmpi .slt v283 c0_i32_149
  let c0_i32_150 : BitVec 32 := 0#32
  let v286 : BitVec 1 := Scalar.cmpi .slt v282 c0_i32_150
  let v287 : BitVec 1 := Scalar.xori v285 v286
  let c0_i32_148 : BitVec 32 := 0#32
  let v284 : BitVec 1 := Scalar.cmpi .ne v283 c0_i32_148
  let v288 : BitVec 1 := Scalar.andi v287 v284
  let v289 : BitVec 32 := Scalar.addi v283 v282
  let v290 : BitVec 32 := Scalar.select v288 v289 v283
  let c0_i32_151 : BitVec 32 := 0#32
  let v291 : BitVec 1 := Scalar.cmpi .eq v290 c0_i32_151
  let c1_i32_152 : BitVec 32 := 1#32
  let v292 : BitVec 32 := Scalar.subi c1_i32_152 v224
  let v293 : BitVec 32 := Scalar.select v291 v224 v292
  let v294 : BitVec 32 := Scalar.addi v280 v293
  let c1_i32_778 : BitVec 32 := 1#32
  let v1266 : BitVec 32 := Scalar.muli v294 c1_i32_778
  let v1267 : BitVec 32 := Scalar.addi c0_i32_779 v1266
  v1267.toNat
@[reducible] def k0_t1_loop : Scf.Loop 32 :=
  let c1_i32_784 : BitVec 32 := 1#32
  let c29_i32 : BitVec 32 := 29#32
  let v1276 : BitVec 32 := Scalar.addi c1_i32_784 c29_i32
  let c1_i32_785 : BitVec 32 := 1#32
  ⟨c1_i32_784, v1276, c1_i32_785⟩
def k0_off2 (d0 : Dev nD) (k0_t1 : Fin k0_t1_loop.trips) (true_1160 : BitVec 1) : Fin 2 → Nat :=
  let c8_i32_1199 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_1158 : BitVec 32 := 1#32
  let v1793 : BitVec 32 := Scalar.subi v114 c1_i32_1158
  let c1_i32_784 : BitVec 32 := 1#32
  let c1_i32_785 : BitVec 32 := 1#32
  let arg23 : BitVec 32 := Scf.iv c1_i32_784 c1_i32_785 k0_t1
  let c1_i32_1157 : BitVec 32 := 1#32
  let v1792 : BitVec 32 := Scalar.addi arg23 c1_i32_1157
  let v1794 : BitVec 32 := Scalar.subi v1793 v1792
  let c1_i32_1159 : BitVec 32 := 1#32
  let v1795 : BitVec 32 := Scalar.addi v114 c1_i32_1159
  let v1796 : BitVec 32 := Scalar.addi v1795 v1792
  let v1797 : BitVec 32 := Scalar.select true_1160 v1794 v1796
  let c64_i32_1161 : BitVec 32 := 64#32
  let v1798 : BitVec 32 := Scalar.addi v1797 c64_i32_1161
  let c32_i32_1162 : BitVec 32 := 32#32
  let v1799 : BitVec 32 := Scalar.remsi v1798 c32_i32_1162
  let c16_i32_1170 : BitVec 32 := 16#32
  let c0_i32_1171 : BitVec 32 := 0#32
  let v1817 : BitVec 1 := Scalar.cmpi .eq c16_i32_1170 c0_i32_1171
  let c1_i32_1172 : BitVec 32 := 1#32
  let v1818 : BitVec 32 := Scalar.select v1817 c1_i32_1172 c16_i32_1170
  let v1819 : BitVec 32 := Scalar.remsi v1799 v1818
  let c0_i32_1174 : BitVec 32 := 0#32
  let v1821 : BitVec 1 := Scalar.cmpi .slt v1819 c0_i32_1174
  let c0_i32_1175 : BitVec 32 := 0#32
  let v1822 : BitVec 1 := Scalar.cmpi .slt v1818 c0_i32_1175
  let v1823 : BitVec 1 := Scalar.xori v1821 v1822
  let c0_i32_1173 : BitVec 32 := 0#32
  let v1820 : BitVec 1 := Scalar.cmpi .ne v1819 c0_i32_1173
  let v1824 : BitVec 1 := Scalar.andi v1823 v1820
  let v1825 : BitVec 32 := Scalar.addi v1819 v1818
  let v1826 : BitVec 32 := Scalar.select v1824 v1825 v1819
  let c0_i32_1177 : BitVec 32 := 0#32
  let v1828 : BitVec 1 := Scalar.cmpi .sgt v1826 c0_i32_1177
  let v1829 : BitVec 32 := Scalar.extui v1828
  let c0_i32_1178 : BitVec 32 := 0#32
  let v1830 : BitVec 1 := Scalar.cmpi .slt v1826 c0_i32_1178
  let v1831 : BitVec 32 := Scalar.extui v1830
  let v1832 : BitVec 32 := Scalar.subi v1829 v1831
  let c4_i32_1176 : BitVec 32 := 4#32
  let c0_i32_1179 : BitVec 32 := 0#32
  let v1833 : BitVec 1 := Scalar.cmpi .sgt c4_i32_1176 c0_i32_1179
  let v1834 : BitVec 32 := Scalar.extui v1833
  let c0_i32_1180 : BitVec 32 := 0#32
  let v1835 : BitVec 1 := Scalar.cmpi .slt c4_i32_1176 c0_i32_1180
  let v1836 : BitVec 32 := Scalar.extui v1835
  let v1837 : BitVec 32 := Scalar.subi v1834 v1836
  let v1838 : BitVec 1 := Scalar.cmpi .ne v1832 v1837
  let v1839 : BitVec 32 := Scalar.remsi v1826 c4_i32_1176
  let c0_i32_1181 : BitVec 32 := 0#32
  let v1840 : BitVec 1 := Scalar.cmpi .ne v1839 c0_i32_1181
  let v1841 : BitVec 1 := Scalar.andi v1838 v1840
  let v1827 : BitVec 32 := Scalar.divsi v1826 c4_i32_1176
  let c1_i32_1182 : BitVec 32 := 1#32
  let v1842 : BitVec 32 := Scalar.subi v1827 c1_i32_1182
  let v1843 : BitVec 32 := Scalar.select v1841 v1842 v1827
  let c2_i32_1191 : BitVec 32 := 2#32
  let c0_i32_1192 : BitVec 32 := 0#32
  let v1857 : BitVec 1 := Scalar.cmpi .eq c2_i32_1191 c0_i32_1192
  let c1_i32_1193 : BitVec 32 := 1#32
  let v1858 : BitVec 32 := Scalar.select v1857 c1_i32_1193 c2_i32_1191
  let v1859 : BitVec 32 := Scalar.remsi v1843 v1858
  let c0_i32_1195 : BitVec 32 := 0#32
  let v1861 : BitVec 1 := Scalar.cmpi .slt v1859 c0_i32_1195
  let c0_i32_1196 : BitVec 32 := 0#32
  let v1862 : BitVec 1 := Scalar.cmpi .slt v1858 c0_i32_1196
  let v1863 : BitVec 1 := Scalar.xori v1861 v1862
  let c0_i32_1194 : BitVec 32 := 0#32
  let v1860 : BitVec 1 := Scalar.cmpi .ne v1859 c0_i32_1194
  let v1864 : BitVec 1 := Scalar.andi v1863 v1860
  let v1865 : BitVec 32 := Scalar.addi v1859 v1858
  let v1866 : BitVec 32 := Scalar.select v1864 v1865 v1859
  let c0_i32_1197 : BitVec 32 := 0#32
  let v1867 : BitVec 1 := Scalar.cmpi .eq v1866 c0_i32_1197
  let c4_i32_1183 : BitVec 32 := 4#32
  let c0_i32_1184 : BitVec 32 := 0#32
  let v1844 : BitVec 1 := Scalar.cmpi .eq c4_i32_1183 c0_i32_1184
  let c1_i32_1185 : BitVec 32 := 1#32
  let v1845 : BitVec 32 := Scalar.select v1844 c1_i32_1185 c4_i32_1183
  let v1846 : BitVec 32 := Scalar.remsi v1826 v1845
  let c0_i32_1187 : BitVec 32 := 0#32
  let v1848 : BitVec 1 := Scalar.cmpi .slt v1846 c0_i32_1187
  let c0_i32_1188 : BitVec 32 := 0#32
  let v1849 : BitVec 1 := Scalar.cmpi .slt v1845 c0_i32_1188
  let v1850 : BitVec 1 := Scalar.xori v1848 v1849
  let c0_i32_1186 : BitVec 32 := 0#32
  let v1847 : BitVec 1 := Scalar.cmpi .ne v1846 c0_i32_1186
  let v1851 : BitVec 1 := Scalar.andi v1850 v1847
  let v1852 : BitVec 32 := Scalar.addi v1846 v1845
  let v1853 : BitVec 32 := Scalar.select v1851 v1852 v1846
  let c3_i32_1198 : BitVec 32 := 3#32
  let v1868 : BitVec 32 := Scalar.subi c3_i32_1198 v1853
  let v1869 : BitVec 32 := Scalar.select v1867 v1853 v1868
  let v1870 : BitVec 32 := Scalar.muli c8_i32_1199 v1869
  let c2_i32_1200 : BitVec 32 := 2#32
  let c0_i32_1164 : BitVec 32 := 0#32
  let v1801 : BitVec 1 := Scalar.cmpi .sgt v1799 c0_i32_1164
  let v1802 : BitVec 32 := Scalar.extui v1801
  let c0_i32_1165 : BitVec 32 := 0#32
  let v1803 : BitVec 1 := Scalar.cmpi .slt v1799 c0_i32_1165
  let v1804 : BitVec 32 := Scalar.extui v1803
  let v1805 : BitVec 32 := Scalar.subi v1802 v1804
  let c16_i32_1163 : BitVec 32 := 16#32
  let c0_i32_1166 : BitVec 32 := 0#32
  let v1806 : BitVec 1 := Scalar.cmpi .sgt c16_i32_1163 c0_i32_1166
  let v1807 : BitVec 32 := Scalar.extui v1806
  let c0_i32_1167 : BitVec 32 := 0#32
  let v1808 : BitVec 1 := Scalar.cmpi .slt c16_i32_1163 c0_i32_1167
  let v1809 : BitVec 32 := Scalar.extui v1808
  let v1810 : BitVec 32 := Scalar.subi v1807 v1809
  let v1811 : BitVec 1 := Scalar.cmpi .ne v1805 v1810
  let v1812 : BitVec 32 := Scalar.remsi v1799 c16_i32_1163
  let c0_i32_1168 : BitVec 32 := 0#32
  let v1813 : BitVec 1 := Scalar.cmpi .ne v1812 c0_i32_1168
  let v1814 : BitVec 1 := Scalar.andi v1811 v1813
  let v1800 : BitVec 32 := Scalar.divsi v1799 c16_i32_1163
  let c1_i32_1169 : BitVec 32 := 1#32
  let v1815 : BitVec 32 := Scalar.subi v1800 c1_i32_1169
  let v1816 : BitVec 32 := Scalar.select v1814 v1815 v1800
  let c0_i32_1189 : BitVec 32 := 0#32
  let v1854 : BitVec 1 := Scalar.cmpi .eq v1816 c0_i32_1189
  let c3_i32_1190 : BitVec 32 := 3#32
  let v1855 : BitVec 32 := Scalar.subi c3_i32_1190 v1843
  let v1856 : BitVec 32 := Scalar.select v1854 v1843 v1855
  let v1871 : BitVec 32 := Scalar.muli c2_i32_1200 v1856
  let v1872 : BitVec 32 := Scalar.addi v1870 v1871
  let c2_i32_1201 : BitVec 32 := 2#32
  let c0_i32_1202 : BitVec 32 := 0#32
  let v1873 : BitVec 1 := Scalar.cmpi .eq c2_i32_1201 c0_i32_1202
  let c1_i32_1203 : BitVec 32 := 1#32
  let v1874 : BitVec 32 := Scalar.select v1873 c1_i32_1203 c2_i32_1201
  let v1875 : BitVec 32 := Scalar.remsi v1856 v1874
  let c0_i32_1205 : BitVec 32 := 0#32
  let v1877 : BitVec 1 := Scalar.cmpi .slt v1875 c0_i32_1205
  let c0_i32_1206 : BitVec 32 := 0#32
  let v1878 : BitVec 1 := Scalar.cmpi .slt v1874 c0_i32_1206
  let v1879 : BitVec 1 := Scalar.xori v1877 v1878
  let c0_i32_1204 : BitVec 32 := 0#32
  let v1876 : BitVec 1 := Scalar.cmpi .ne v1875 c0_i32_1204
  let v1880 : BitVec 1 := Scalar.andi v1879 v1876
  let v1881 : BitVec 32 := Scalar.addi v1875 v1874
  let v1882 : BitVec 32 := Scalar.select v1880 v1881 v1875
  let c0_i32_1207 : BitVec 32 := 0#32
  let v1883 : BitVec 1 := Scalar.cmpi .eq v1882 c0_i32_1207
  let c1_i32_1208 : BitVec 32 := 1#32
  let v1884 : BitVec 32 := Scalar.subi c1_i32_1208 v1816
  let v1885 : BitVec 32 := Scalar.select v1883 v1816 v1884
  let v1886 : BitVec 32 := Scalar.addi v1872 v1885
  let c128_i32_1209 : BitVec 32 := 128#32
  let v1887 : BitVec 32 := Scalar.muli v1886 c128_i32_1209
  let v1888 : Index := Scalar.indexCast v1887
  let c0_1210 : Index := 0#32
  ![v1888.toNat, 0]
def k0_off3 (k0_t1 : Fin k0_t1_loop.trips) : Fin 1 → Nat :=
  let c1_i32_784 : BitVec 32 := 1#32
  let c1_i32_785 : BitVec 32 := 1#32
  let arg23 : BitVec 32 := Scf.iv c1_i32_784 c1_i32_785 k0_t1
  let c2_i32_1154 : BitVec 32 := 2#32
  let v1789 : BitVec 32 := Scalar.remsi arg23 c2_i32_1154
  ![v1789.toNat]
def k0_off4 (k0_t1 : Fin k0_t1_loop.trips) : Fin 3 → Nat :=
  let c1_i32_784 : BitVec 32 := 1#32
  let c1_i32_785 : BitVec 32 := 1#32
  let arg23 : BitVec 32 := Scf.iv c1_i32_784 c1_i32_785 k0_t1
  let c2_i32_1154 : BitVec 32 := 2#32
  let v1789 : BitVec 32 := Scalar.remsi arg23 c2_i32_1154
  let c0_i32_1216 : BitVec 32 := 0#32
  let c0_i32_1217 : BitVec 32 := 0#32
  ![v1789.toNat, 0, 0]
def k0_off5 (k0_t1 : Fin k0_t1_loop.trips) : Fin 3 → Nat :=
  let c1_i32_784 : BitVec 32 := 1#32
  let c1_i32_785 : BitVec 32 := 1#32
  let arg23 : BitVec 32 := Scf.iv c1_i32_784 c1_i32_785 k0_t1
  let c2_i32_1154 : BitVec 32 := 2#32
  let v1789 : BitVec 32 := Scalar.remsi arg23 c2_i32_1154
  let v1902 : Index := Scalar.indexCast v1789
  let c0_1220 : Index := 0#32
  let c0_1221 : Index := 0#32
  ![v1902.toNat, 0, 0]
def k0_off6 (k0_t1 : Fin k0_t1_loop.trips) : Fin 1 → Nat :=
  let c1_i32_784 : BitVec 32 := 1#32
  let c1_i32_785 : BitVec 32 := 1#32
  let arg23 : BitVec 32 := Scf.iv c1_i32_784 c1_i32_785 k0_t1
  let c1_i32_1155 : BitVec 32 := 1#32
  let v1790 : BitVec 32 := Scalar.addi arg23 c1_i32_1155
  let c2_i32_1156 : BitVec 32 := 2#32
  let v1791 : BitVec 32 := Scalar.remsi v1790 c2_i32_1156
  ![v1791.toNat]
def k0_off7 (k0_t1 : Fin k0_t1_loop.trips) : Fin 3 → Nat :=
  let c1_i32_784 : BitVec 32 := 1#32
  let c1_i32_785 : BitVec 32 := 1#32
  let arg23 : BitVec 32 := Scf.iv c1_i32_784 c1_i32_785 k0_t1
  let c1_i32_1155 : BitVec 32 := 1#32
  let v1790 : BitVec 32 := Scalar.addi arg23 c1_i32_1155
  let c2_i32_1156 : BitVec 32 := 2#32
  let v1791 : BitVec 32 := Scalar.remsi v1790 c2_i32_1156
  let c0_i32_1223 : BitVec 32 := 0#32
  let c0_i32_1224 : BitVec 32 := 0#32
  ![v1791.toNat, 0, 0]
def k0_off8 (k0_t1 : Fin k0_t1_loop.trips) : Fin 3 → Nat :=
  let c1_i32_784 : BitVec 32 := 1#32
  let c1_i32_785 : BitVec 32 := 1#32
  let arg23 : BitVec 32 := Scf.iv c1_i32_784 c1_i32_785 k0_t1
  let c1_i32_1155 : BitVec 32 := 1#32
  let v1790 : BitVec 32 := Scalar.addi arg23 c1_i32_1155
  let c2_i32_1156 : BitVec 32 := 2#32
  let v1791 : BitVec 32 := Scalar.remsi v1790 c2_i32_1156
  let v1914 : Index := Scalar.indexCast v1791
  let c0_1227 : Index := 0#32
  let c0_1228 : Index := 0#32
  ![v1914.toNat, 0, 0]
def k0_cond1 (k0_t1 : Fin k0_t1_loop.trips) : BitVec 1 :=
  let c1_i32_784 : BitVec 32 := 1#32
  let c1_i32_785 : BitVec 32 := 1#32
  let arg23 : BitVec 32 := Scf.iv c1_i32_784 c1_i32_785 k0_t1
  let c28_i32 : BitVec 32 := 28#32
  let v1918 : BitVec 1 := Scalar.cmpi .sle arg23 c28_i32
  let v1919 : BitVec 32 := Scalar.extui v1918
  let c0_i32_1229 : BitVec 32 := 0#32
  let v1920 : BitVec 1 := Scalar.cmpi .ne v1919 c0_i32_1229
  v1920

def k0_dev15 (d0 : Dev nD) : Nat :=
  let c0_i32_1486 : BitVec 32 := 0#32
  let c8_i32_143 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_104 : BitVec 32 := 1#32
  let v205 : BitVec 32 := Scalar.subi v114 c1_i32_104
  let c64_i32_105 : BitVec 32 := 64#32
  let v206 : BitVec 32 := Scalar.addi v205 c64_i32_105
  let c32_i32_106 : BitVec 32 := 32#32
  let v207 : BitVec 32 := Scalar.remsi v206 c32_i32_106
  let c16_i32_114 : BitVec 32 := 16#32
  let c0_i32_115 : BitVec 32 := 0#32
  let v225 : BitVec 1 := Scalar.cmpi .eq c16_i32_114 c0_i32_115
  let c1_i32_116 : BitVec 32 := 1#32
  let v226 : BitVec 32 := Scalar.select v225 c1_i32_116 c16_i32_114
  let v227 : BitVec 32 := Scalar.remsi v207 v226
  let c0_i32_118 : BitVec 32 := 0#32
  let v229 : BitVec 1 := Scalar.cmpi .slt v227 c0_i32_118
  let c0_i32_119 : BitVec 32 := 0#32
  let v230 : BitVec 1 := Scalar.cmpi .slt v226 c0_i32_119
  let v231 : BitVec 1 := Scalar.xori v229 v230
  let c0_i32_117 : BitVec 32 := 0#32
  let v228 : BitVec 1 := Scalar.cmpi .ne v227 c0_i32_117
  let v232 : BitVec 1 := Scalar.andi v231 v228
  let v233 : BitVec 32 := Scalar.addi v227 v226
  let v234 : BitVec 32 := Scalar.select v232 v233 v227
  let c0_i32_121 : BitVec 32 := 0#32
  let v236 : BitVec 1 := Scalar.cmpi .sgt v234 c0_i32_121
  let v237 : BitVec 32 := Scalar.extui v236
  let c0_i32_122 : BitVec 32 := 0#32
  let v238 : BitVec 1 := Scalar.cmpi .slt v234 c0_i32_122
  let v239 : BitVec 32 := Scalar.extui v238
  let v240 : BitVec 32 := Scalar.subi v237 v239
  let c4_i32_120 : BitVec 32 := 4#32
  let c0_i32_123 : BitVec 32 := 0#32
  let v241 : BitVec 1 := Scalar.cmpi .sgt c4_i32_120 c0_i32_123
  let v242 : BitVec 32 := Scalar.extui v241
  let c0_i32_124 : BitVec 32 := 0#32
  let v243 : BitVec 1 := Scalar.cmpi .slt c4_i32_120 c0_i32_124
  let v244 : BitVec 32 := Scalar.extui v243
  let v245 : BitVec 32 := Scalar.subi v242 v244
  let v246 : BitVec 1 := Scalar.cmpi .ne v240 v245
  let v247 : BitVec 32 := Scalar.remsi v234 c4_i32_120
  let c0_i32_125 : BitVec 32 := 0#32
  let v248 : BitVec 1 := Scalar.cmpi .ne v247 c0_i32_125
  let v249 : BitVec 1 := Scalar.andi v246 v248
  let v235 : BitVec 32 := Scalar.divsi v234 c4_i32_120
  let c1_i32_126 : BitVec 32 := 1#32
  let v250 : BitVec 32 := Scalar.subi v235 c1_i32_126
  let v251 : BitVec 32 := Scalar.select v249 v250 v235
  let c2_i32_135 : BitVec 32 := 2#32
  let c0_i32_136 : BitVec 32 := 0#32
  let v265 : BitVec 1 := Scalar.cmpi .eq c2_i32_135 c0_i32_136
  let c1_i32_137 : BitVec 32 := 1#32
  let v266 : BitVec 32 := Scalar.select v265 c1_i32_137 c2_i32_135
  let v267 : BitVec 32 := Scalar.remsi v251 v266
  let c0_i32_139 : BitVec 32 := 0#32
  let v269 : BitVec 1 := Scalar.cmpi .slt v267 c0_i32_139
  let c0_i32_140 : BitVec 32 := 0#32
  let v270 : BitVec 1 := Scalar.cmpi .slt v266 c0_i32_140
  let v271 : BitVec 1 := Scalar.xori v269 v270
  let c0_i32_138 : BitVec 32 := 0#32
  let v268 : BitVec 1 := Scalar.cmpi .ne v267 c0_i32_138
  let v272 : BitVec 1 := Scalar.andi v271 v268
  let v273 : BitVec 32 := Scalar.addi v267 v266
  let v274 : BitVec 32 := Scalar.select v272 v273 v267
  let c0_i32_141 : BitVec 32 := 0#32
  let v275 : BitVec 1 := Scalar.cmpi .eq v274 c0_i32_141
  let c4_i32_127 : BitVec 32 := 4#32
  let c0_i32_128 : BitVec 32 := 0#32
  let v252 : BitVec 1 := Scalar.cmpi .eq c4_i32_127 c0_i32_128
  let c1_i32_129 : BitVec 32 := 1#32
  let v253 : BitVec 32 := Scalar.select v252 c1_i32_129 c4_i32_127
  let v254 : BitVec 32 := Scalar.remsi v234 v253
  let c0_i32_131 : BitVec 32 := 0#32
  let v256 : BitVec 1 := Scalar.cmpi .slt v254 c0_i32_131
  let c0_i32_132 : BitVec 32 := 0#32
  let v257 : BitVec 1 := Scalar.cmpi .slt v253 c0_i32_132
  let v258 : BitVec 1 := Scalar.xori v256 v257
  let c0_i32_130 : BitVec 32 := 0#32
  let v255 : BitVec 1 := Scalar.cmpi .ne v254 c0_i32_130
  let v259 : BitVec 1 := Scalar.andi v258 v255
  let v260 : BitVec 32 := Scalar.addi v254 v253
  let v261 : BitVec 32 := Scalar.select v259 v260 v254
  let c3_i32_142 : BitVec 32 := 3#32
  let v276 : BitVec 32 := Scalar.subi c3_i32_142 v261
  let v277 : BitVec 32 := Scalar.select v275 v261 v276
  let v278 : BitVec 32 := Scalar.muli c8_i32_143 v277
  let c2_i32_144 : BitVec 32 := 2#32
  let c0_i32_108 : BitVec 32 := 0#32
  let v209 : BitVec 1 := Scalar.cmpi .sgt v207 c0_i32_108
  let v210 : BitVec 32 := Scalar.extui v209
  let c0_i32_109 : BitVec 32 := 0#32
  let v211 : BitVec 1 := Scalar.cmpi .slt v207 c0_i32_109
  let v212 : BitVec 32 := Scalar.extui v211
  let v213 : BitVec 32 := Scalar.subi v210 v212
  let c16_i32_107 : BitVec 32 := 16#32
  let c0_i32_110 : BitVec 32 := 0#32
  let v214 : BitVec 1 := Scalar.cmpi .sgt c16_i32_107 c0_i32_110
  let v215 : BitVec 32 := Scalar.extui v214
  let c0_i32_111 : BitVec 32 := 0#32
  let v216 : BitVec 1 := Scalar.cmpi .slt c16_i32_107 c0_i32_111
  let v217 : BitVec 32 := Scalar.extui v216
  let v218 : BitVec 32 := Scalar.subi v215 v217
  let v219 : BitVec 1 := Scalar.cmpi .ne v213 v218
  let v220 : BitVec 32 := Scalar.remsi v207 c16_i32_107
  let c0_i32_112 : BitVec 32 := 0#32
  let v221 : BitVec 1 := Scalar.cmpi .ne v220 c0_i32_112
  let v222 : BitVec 1 := Scalar.andi v219 v221
  let v208 : BitVec 32 := Scalar.divsi v207 c16_i32_107
  let c1_i32_113 : BitVec 32 := 1#32
  let v223 : BitVec 32 := Scalar.subi v208 c1_i32_113
  let v224 : BitVec 32 := Scalar.select v222 v223 v208
  let c0_i32_133 : BitVec 32 := 0#32
  let v262 : BitVec 1 := Scalar.cmpi .eq v224 c0_i32_133
  let c3_i32_134 : BitVec 32 := 3#32
  let v263 : BitVec 32 := Scalar.subi c3_i32_134 v251
  let v264 : BitVec 32 := Scalar.select v262 v251 v263
  let v279 : BitVec 32 := Scalar.muli c2_i32_144 v264
  let v280 : BitVec 32 := Scalar.addi v278 v279
  let c2_i32_145 : BitVec 32 := 2#32
  let c0_i32_146 : BitVec 32 := 0#32
  let v281 : BitVec 1 := Scalar.cmpi .eq c2_i32_145 c0_i32_146
  let c1_i32_147 : BitVec 32 := 1#32
  let v282 : BitVec 32 := Scalar.select v281 c1_i32_147 c2_i32_145
  let v283 : BitVec 32 := Scalar.remsi v264 v282
  let c0_i32_149 : BitVec 32 := 0#32
  let v285 : BitVec 1 := Scalar.cmpi .slt v283 c0_i32_149
  let c0_i32_150 : BitVec 32 := 0#32
  let v286 : BitVec 1 := Scalar.cmpi .slt v282 c0_i32_150
  let v287 : BitVec 1 := Scalar.xori v285 v286
  let c0_i32_148 : BitVec 32 := 0#32
  let v284 : BitVec 1 := Scalar.cmpi .ne v283 c0_i32_148
  let v288 : BitVec 1 := Scalar.andi v287 v284
  let v289 : BitVec 32 := Scalar.addi v283 v282
  let v290 : BitVec 32 := Scalar.select v288 v289 v283
  let c0_i32_151 : BitVec 32 := 0#32
  let v291 : BitVec 1 := Scalar.cmpi .eq v290 c0_i32_151
  let c1_i32_152 : BitVec 32 := 1#32
  let v292 : BitVec 32 := Scalar.subi c1_i32_152 v224
  let v293 : BitVec 32 := Scalar.select v291 v224 v292
  let v294 : BitVec 32 := Scalar.addi v280 v293
  let c1_i32_1485 : BitVec 32 := 1#32
  let v2348 : BitVec 32 := Scalar.muli v294 c1_i32_1485
  let v2349 : BitVec 32 := Scalar.addi c0_i32_1486 v2348
  v2349.toNat
def k0_dev16 (d0 : Dev nD) : Nat :=
  let c0_i32_1233 : BitVec 32 := 0#32
  let c8_i32_94 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_56 : BitVec 32 := 1#32
  let v115 : BitVec 32 := Scalar.addi v114 c1_i32_56
  let c64_i32 : BitVec 32 := 64#32
  let v116 : BitVec 32 := Scalar.addi v115 c64_i32
  let c32_i32_57 : BitVec 32 := 32#32
  let v117 : BitVec 32 := Scalar.remsi v116 c32_i32_57
  let c16_i32_65 : BitVec 32 := 16#32
  let c0_i32_66 : BitVec 32 := 0#32
  let v135 : BitVec 1 := Scalar.cmpi .eq c16_i32_65 c0_i32_66
  let c1_i32_67 : BitVec 32 := 1#32
  let v136 : BitVec 32 := Scalar.select v135 c1_i32_67 c16_i32_65
  let v137 : BitVec 32 := Scalar.remsi v117 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let c0_i32_72 : BitVec 32 := 0#32
  let v146 : BitVec 1 := Scalar.cmpi .sgt v144 c0_i32_72
  let v147 : BitVec 32 := Scalar.extui v146
  let c0_i32_73 : BitVec 32 := 0#32
  let v148 : BitVec 1 := Scalar.cmpi .slt v144 c0_i32_73
  let v149 : BitVec 32 := Scalar.extui v148
  let v150 : BitVec 32 := Scalar.subi v147 v149
  let c4_i32_71 : BitVec 32 := 4#32
  let c0_i32_74 : BitVec 32 := 0#32
  let v151 : BitVec 1 := Scalar.cmpi .sgt c4_i32_71 c0_i32_74
  let v152 : BitVec 32 := Scalar.extui v151
  let c0_i32_75 : BitVec 32 := 0#32
  let v153 : BitVec 1 := Scalar.cmpi .slt c4_i32_71 c0_i32_75
  let v154 : BitVec 32 := Scalar.extui v153
  let v155 : BitVec 32 := Scalar.subi v152 v154
  let v156 : BitVec 1 := Scalar.cmpi .ne v150 v155
  let v157 : BitVec 32 := Scalar.remsi v144 c4_i32_71
  let c0_i32_76 : BitVec 32 := 0#32
  let v158 : BitVec 1 := Scalar.cmpi .ne v157 c0_i32_76
  let v159 : BitVec 1 := Scalar.andi v156 v158
  let v145 : BitVec 32 := Scalar.divsi v144 c4_i32_71
  let c1_i32_77 : BitVec 32 := 1#32
  let v160 : BitVec 32 := Scalar.subi v145 c1_i32_77
  let v161 : BitVec 32 := Scalar.select v159 v160 v145
  let c2_i32_86 : BitVec 32 := 2#32
  let c0_i32_87 : BitVec 32 := 0#32
  let v175 : BitVec 1 := Scalar.cmpi .eq c2_i32_86 c0_i32_87
  let c1_i32_88 : BitVec 32 := 1#32
  let v176 : BitVec 32 := Scalar.select v175 c1_i32_88 c2_i32_86
  let v177 : BitVec 32 := Scalar.remsi v161 v176
  let c0_i32_90 : BitVec 32 := 0#32
  let v179 : BitVec 1 := Scalar.cmpi .slt v177 c0_i32_90
  let c0_i32_91 : BitVec 32 := 0#32
  let v180 : BitVec 1 := Scalar.cmpi .slt v176 c0_i32_91
  let v181 : BitVec 1 := Scalar.xori v179 v180
  let c0_i32_89 : BitVec 32 := 0#32
  let v178 : BitVec 1 := Scalar.cmpi .ne v177 c0_i32_89
  let v182 : BitVec 1 := Scalar.andi v181 v178
  let v183 : BitVec 32 := Scalar.addi v177 v176
  let v184 : BitVec 32 := Scalar.select v182 v183 v177
  let c0_i32_92 : BitVec 32 := 0#32
  let v185 : BitVec 1 := Scalar.cmpi .eq v184 c0_i32_92
  let c4_i32_78 : BitVec 32 := 4#32
  let c0_i32_79 : BitVec 32 := 0#32
  let v162 : BitVec 1 := Scalar.cmpi .eq c4_i32_78 c0_i32_79
  let c1_i32_80 : BitVec 32 := 1#32
  let v163 : BitVec 32 := Scalar.select v162 c1_i32_80 c4_i32_78
  let v164 : BitVec 32 := Scalar.remsi v144 v163
  let c0_i32_82 : BitVec 32 := 0#32
  let v166 : BitVec 1 := Scalar.cmpi .slt v164 c0_i32_82
  let c0_i32_83 : BitVec 32 := 0#32
  let v167 : BitVec 1 := Scalar.cmpi .slt v163 c0_i32_83
  let v168 : BitVec 1 := Scalar.xori v166 v167
  let c0_i32_81 : BitVec 32 := 0#32
  let v165 : BitVec 1 := Scalar.cmpi .ne v164 c0_i32_81
  let v169 : BitVec 1 := Scalar.andi v168 v165
  let v170 : BitVec 32 := Scalar.addi v164 v163
  let v171 : BitVec 32 := Scalar.select v169 v170 v164
  let c3_i32_93 : BitVec 32 := 3#32
  let v186 : BitVec 32 := Scalar.subi c3_i32_93 v171
  let v187 : BitVec 32 := Scalar.select v185 v171 v186
  let v188 : BitVec 32 := Scalar.muli c8_i32_94 v187
  let c2_i32_95 : BitVec 32 := 2#32
  let c0_i32_59 : BitVec 32 := 0#32
  let v119 : BitVec 1 := Scalar.cmpi .sgt v117 c0_i32_59
  let v120 : BitVec 32 := Scalar.extui v119
  let c0_i32_60 : BitVec 32 := 0#32
  let v121 : BitVec 1 := Scalar.cmpi .slt v117 c0_i32_60
  let v122 : BitVec 32 := Scalar.extui v121
  let v123 : BitVec 32 := Scalar.subi v120 v122
  let c16_i32_58 : BitVec 32 := 16#32
  let c0_i32_61 : BitVec 32 := 0#32
  let v124 : BitVec 1 := Scalar.cmpi .sgt c16_i32_58 c0_i32_61
  let v125 : BitVec 32 := Scalar.extui v124
  let c0_i32_62 : BitVec 32 := 0#32
  let v126 : BitVec 1 := Scalar.cmpi .slt c16_i32_58 c0_i32_62
  let v127 : BitVec 32 := Scalar.extui v126
  let v128 : BitVec 32 := Scalar.subi v125 v127
  let v129 : BitVec 1 := Scalar.cmpi .ne v123 v128
  let v130 : BitVec 32 := Scalar.remsi v117 c16_i32_58
  let c0_i32_63 : BitVec 32 := 0#32
  let v131 : BitVec 1 := Scalar.cmpi .ne v130 c0_i32_63
  let v132 : BitVec 1 := Scalar.andi v129 v131
  let v118 : BitVec 32 := Scalar.divsi v117 c16_i32_58
  let c1_i32_64 : BitVec 32 := 1#32
  let v133 : BitVec 32 := Scalar.subi v118 c1_i32_64
  let v134 : BitVec 32 := Scalar.select v132 v133 v118
  let c0_i32_84 : BitVec 32 := 0#32
  let v172 : BitVec 1 := Scalar.cmpi .eq v134 c0_i32_84
  let c3_i32_85 : BitVec 32 := 3#32
  let v173 : BitVec 32 := Scalar.subi c3_i32_85 v161
  let v174 : BitVec 32 := Scalar.select v172 v161 v173
  let v189 : BitVec 32 := Scalar.muli c2_i32_95 v174
  let v190 : BitVec 32 := Scalar.addi v188 v189
  let c2_i32_96 : BitVec 32 := 2#32
  let c0_i32_97 : BitVec 32 := 0#32
  let v191 : BitVec 1 := Scalar.cmpi .eq c2_i32_96 c0_i32_97
  let c1_i32_98 : BitVec 32 := 1#32
  let v192 : BitVec 32 := Scalar.select v191 c1_i32_98 c2_i32_96
  let v193 : BitVec 32 := Scalar.remsi v174 v192
  let c0_i32_100 : BitVec 32 := 0#32
  let v195 : BitVec 1 := Scalar.cmpi .slt v193 c0_i32_100
  let c0_i32_101 : BitVec 32 := 0#32
  let v196 : BitVec 1 := Scalar.cmpi .slt v192 c0_i32_101
  let v197 : BitVec 1 := Scalar.xori v195 v196
  let c0_i32_99 : BitVec 32 := 0#32
  let v194 : BitVec 1 := Scalar.cmpi .ne v193 c0_i32_99
  let v198 : BitVec 1 := Scalar.andi v197 v194
  let v199 : BitVec 32 := Scalar.addi v193 v192
  let v200 : BitVec 32 := Scalar.select v198 v199 v193
  let c0_i32_102 : BitVec 32 := 0#32
  let v201 : BitVec 1 := Scalar.cmpi .eq v200 c0_i32_102
  let c1_i32_103 : BitVec 32 := 1#32
  let v202 : BitVec 32 := Scalar.subi c1_i32_103 v134
  let v203 : BitVec 32 := Scalar.select v201 v134 v202
  let v204 : BitVec 32 := Scalar.addi v190 v203
  let c1_i32_1232 : BitVec 32 := 1#32
  let v1921 : BitVec 32 := Scalar.muli v204 c1_i32_1232
  let v1922 : BitVec 32 := Scalar.addi c0_i32_1233 v1921
  v1922.toNat
def k0_cond2 (k0_t1 : Fin k0_t1_loop.trips) : BitVec 1 :=
  let c1_i32_784 : BitVec 32 := 1#32
  let c1_i32_785 : BitVec 32 := 1#32
  let arg23 : BitVec 32 := Scf.iv c1_i32_784 c1_i32_785 k0_t1
  let c28_i32_1310 : BitVec 32 := 28#32
  let v2057 : BitVec 1 := Scalar.cmpi .sle arg23 c28_i32_1310
  let v2058 : BitVec 32 := Scalar.extui v2057
  let c0_i32_1311 : BitVec 32 := 0#32
  let v2059 : BitVec 1 := Scalar.cmpi .ne v2058 c0_i32_1311
  v2059

def k0_dev17 (d0 : Dev nD) : Nat :=
  let c0_i32_1486 : BitVec 32 := 0#32
  let c8_i32_94 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_56 : BitVec 32 := 1#32
  let v115 : BitVec 32 := Scalar.addi v114 c1_i32_56
  let c64_i32 : BitVec 32 := 64#32
  let v116 : BitVec 32 := Scalar.addi v115 c64_i32
  let c32_i32_57 : BitVec 32 := 32#32
  let v117 : BitVec 32 := Scalar.remsi v116 c32_i32_57
  let c16_i32_65 : BitVec 32 := 16#32
  let c0_i32_66 : BitVec 32 := 0#32
  let v135 : BitVec 1 := Scalar.cmpi .eq c16_i32_65 c0_i32_66
  let c1_i32_67 : BitVec 32 := 1#32
  let v136 : BitVec 32 := Scalar.select v135 c1_i32_67 c16_i32_65
  let v137 : BitVec 32 := Scalar.remsi v117 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let c0_i32_72 : BitVec 32 := 0#32
  let v146 : BitVec 1 := Scalar.cmpi .sgt v144 c0_i32_72
  let v147 : BitVec 32 := Scalar.extui v146
  let c0_i32_73 : BitVec 32 := 0#32
  let v148 : BitVec 1 := Scalar.cmpi .slt v144 c0_i32_73
  let v149 : BitVec 32 := Scalar.extui v148
  let v150 : BitVec 32 := Scalar.subi v147 v149
  let c4_i32_71 : BitVec 32 := 4#32
  let c0_i32_74 : BitVec 32 := 0#32
  let v151 : BitVec 1 := Scalar.cmpi .sgt c4_i32_71 c0_i32_74
  let v152 : BitVec 32 := Scalar.extui v151
  let c0_i32_75 : BitVec 32 := 0#32
  let v153 : BitVec 1 := Scalar.cmpi .slt c4_i32_71 c0_i32_75
  let v154 : BitVec 32 := Scalar.extui v153
  let v155 : BitVec 32 := Scalar.subi v152 v154
  let v156 : BitVec 1 := Scalar.cmpi .ne v150 v155
  let v157 : BitVec 32 := Scalar.remsi v144 c4_i32_71
  let c0_i32_76 : BitVec 32 := 0#32
  let v158 : BitVec 1 := Scalar.cmpi .ne v157 c0_i32_76
  let v159 : BitVec 1 := Scalar.andi v156 v158
  let v145 : BitVec 32 := Scalar.divsi v144 c4_i32_71
  let c1_i32_77 : BitVec 32 := 1#32
  let v160 : BitVec 32 := Scalar.subi v145 c1_i32_77
  let v161 : BitVec 32 := Scalar.select v159 v160 v145
  let c2_i32_86 : BitVec 32 := 2#32
  let c0_i32_87 : BitVec 32 := 0#32
  let v175 : BitVec 1 := Scalar.cmpi .eq c2_i32_86 c0_i32_87
  let c1_i32_88 : BitVec 32 := 1#32
  let v176 : BitVec 32 := Scalar.select v175 c1_i32_88 c2_i32_86
  let v177 : BitVec 32 := Scalar.remsi v161 v176
  let c0_i32_90 : BitVec 32 := 0#32
  let v179 : BitVec 1 := Scalar.cmpi .slt v177 c0_i32_90
  let c0_i32_91 : BitVec 32 := 0#32
  let v180 : BitVec 1 := Scalar.cmpi .slt v176 c0_i32_91
  let v181 : BitVec 1 := Scalar.xori v179 v180
  let c0_i32_89 : BitVec 32 := 0#32
  let v178 : BitVec 1 := Scalar.cmpi .ne v177 c0_i32_89
  let v182 : BitVec 1 := Scalar.andi v181 v178
  let v183 : BitVec 32 := Scalar.addi v177 v176
  let v184 : BitVec 32 := Scalar.select v182 v183 v177
  let c0_i32_92 : BitVec 32 := 0#32
  let v185 : BitVec 1 := Scalar.cmpi .eq v184 c0_i32_92
  let c4_i32_78 : BitVec 32 := 4#32
  let c0_i32_79 : BitVec 32 := 0#32
  let v162 : BitVec 1 := Scalar.cmpi .eq c4_i32_78 c0_i32_79
  let c1_i32_80 : BitVec 32 := 1#32
  let v163 : BitVec 32 := Scalar.select v162 c1_i32_80 c4_i32_78
  let v164 : BitVec 32 := Scalar.remsi v144 v163
  let c0_i32_82 : BitVec 32 := 0#32
  let v166 : BitVec 1 := Scalar.cmpi .slt v164 c0_i32_82
  let c0_i32_83 : BitVec 32 := 0#32
  let v167 : BitVec 1 := Scalar.cmpi .slt v163 c0_i32_83
  let v168 : BitVec 1 := Scalar.xori v166 v167
  let c0_i32_81 : BitVec 32 := 0#32
  let v165 : BitVec 1 := Scalar.cmpi .ne v164 c0_i32_81
  let v169 : BitVec 1 := Scalar.andi v168 v165
  let v170 : BitVec 32 := Scalar.addi v164 v163
  let v171 : BitVec 32 := Scalar.select v169 v170 v164
  let c3_i32_93 : BitVec 32 := 3#32
  let v186 : BitVec 32 := Scalar.subi c3_i32_93 v171
  let v187 : BitVec 32 := Scalar.select v185 v171 v186
  let v188 : BitVec 32 := Scalar.muli c8_i32_94 v187
  let c2_i32_95 : BitVec 32 := 2#32
  let c0_i32_59 : BitVec 32 := 0#32
  let v119 : BitVec 1 := Scalar.cmpi .sgt v117 c0_i32_59
  let v120 : BitVec 32 := Scalar.extui v119
  let c0_i32_60 : BitVec 32 := 0#32
  let v121 : BitVec 1 := Scalar.cmpi .slt v117 c0_i32_60
  let v122 : BitVec 32 := Scalar.extui v121
  let v123 : BitVec 32 := Scalar.subi v120 v122
  let c16_i32_58 : BitVec 32 := 16#32
  let c0_i32_61 : BitVec 32 := 0#32
  let v124 : BitVec 1 := Scalar.cmpi .sgt c16_i32_58 c0_i32_61
  let v125 : BitVec 32 := Scalar.extui v124
  let c0_i32_62 : BitVec 32 := 0#32
  let v126 : BitVec 1 := Scalar.cmpi .slt c16_i32_58 c0_i32_62
  let v127 : BitVec 32 := Scalar.extui v126
  let v128 : BitVec 32 := Scalar.subi v125 v127
  let v129 : BitVec 1 := Scalar.cmpi .ne v123 v128
  let v130 : BitVec 32 := Scalar.remsi v117 c16_i32_58
  let c0_i32_63 : BitVec 32 := 0#32
  let v131 : BitVec 1 := Scalar.cmpi .ne v130 c0_i32_63
  let v132 : BitVec 1 := Scalar.andi v129 v131
  let v118 : BitVec 32 := Scalar.divsi v117 c16_i32_58
  let c1_i32_64 : BitVec 32 := 1#32
  let v133 : BitVec 32 := Scalar.subi v118 c1_i32_64
  let v134 : BitVec 32 := Scalar.select v132 v133 v118
  let c0_i32_84 : BitVec 32 := 0#32
  let v172 : BitVec 1 := Scalar.cmpi .eq v134 c0_i32_84
  let c3_i32_85 : BitVec 32 := 3#32
  let v173 : BitVec 32 := Scalar.subi c3_i32_85 v161
  let v174 : BitVec 32 := Scalar.select v172 v161 v173
  let v189 : BitVec 32 := Scalar.muli c2_i32_95 v174
  let v190 : BitVec 32 := Scalar.addi v188 v189
  let c2_i32_96 : BitVec 32 := 2#32
  let c0_i32_97 : BitVec 32 := 0#32
  let v191 : BitVec 1 := Scalar.cmpi .eq c2_i32_96 c0_i32_97
  let c1_i32_98 : BitVec 32 := 1#32
  let v192 : BitVec 32 := Scalar.select v191 c1_i32_98 c2_i32_96
  let v193 : BitVec 32 := Scalar.remsi v174 v192
  let c0_i32_100 : BitVec 32 := 0#32
  let v195 : BitVec 1 := Scalar.cmpi .slt v193 c0_i32_100
  let c0_i32_101 : BitVec 32 := 0#32
  let v196 : BitVec 1 := Scalar.cmpi .slt v192 c0_i32_101
  let v197 : BitVec 1 := Scalar.xori v195 v196
  let c0_i32_99 : BitVec 32 := 0#32
  let v194 : BitVec 1 := Scalar.cmpi .ne v193 c0_i32_99
  let v198 : BitVec 1 := Scalar.andi v197 v194
  let v199 : BitVec 32 := Scalar.addi v193 v192
  let v200 : BitVec 32 := Scalar.select v198 v199 v193
  let c0_i32_102 : BitVec 32 := 0#32
  let v201 : BitVec 1 := Scalar.cmpi .eq v200 c0_i32_102
  let c1_i32_103 : BitVec 32 := 1#32
  let v202 : BitVec 32 := Scalar.subi c1_i32_103 v134
  let v203 : BitVec 32 := Scalar.select v201 v134 v202
  let v204 : BitVec 32 := Scalar.addi v190 v203
  let c1_i32_1485 : BitVec 32 := 1#32
  let v2348 : BitVec 32 := Scalar.muli v204 c1_i32_1485
  let v2349 : BitVec 32 := Scalar.addi c0_i32_1486 v2348
  v2349.toNat
def k0_dev18 (d0 : Dev nD) : Nat :=
  let c0_i32_1315 : BitVec 32 := 0#32
  let c8_i32_143 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_104 : BitVec 32 := 1#32
  let v205 : BitVec 32 := Scalar.subi v114 c1_i32_104
  let c64_i32_105 : BitVec 32 := 64#32
  let v206 : BitVec 32 := Scalar.addi v205 c64_i32_105
  let c32_i32_106 : BitVec 32 := 32#32
  let v207 : BitVec 32 := Scalar.remsi v206 c32_i32_106
  let c16_i32_114 : BitVec 32 := 16#32
  let c0_i32_115 : BitVec 32 := 0#32
  let v225 : BitVec 1 := Scalar.cmpi .eq c16_i32_114 c0_i32_115
  let c1_i32_116 : BitVec 32 := 1#32
  let v226 : BitVec 32 := Scalar.select v225 c1_i32_116 c16_i32_114
  let v227 : BitVec 32 := Scalar.remsi v207 v226
  let c0_i32_118 : BitVec 32 := 0#32
  let v229 : BitVec 1 := Scalar.cmpi .slt v227 c0_i32_118
  let c0_i32_119 : BitVec 32 := 0#32
  let v230 : BitVec 1 := Scalar.cmpi .slt v226 c0_i32_119
  let v231 : BitVec 1 := Scalar.xori v229 v230
  let c0_i32_117 : BitVec 32 := 0#32
  let v228 : BitVec 1 := Scalar.cmpi .ne v227 c0_i32_117
  let v232 : BitVec 1 := Scalar.andi v231 v228
  let v233 : BitVec 32 := Scalar.addi v227 v226
  let v234 : BitVec 32 := Scalar.select v232 v233 v227
  let c0_i32_121 : BitVec 32 := 0#32
  let v236 : BitVec 1 := Scalar.cmpi .sgt v234 c0_i32_121
  let v237 : BitVec 32 := Scalar.extui v236
  let c0_i32_122 : BitVec 32 := 0#32
  let v238 : BitVec 1 := Scalar.cmpi .slt v234 c0_i32_122
  let v239 : BitVec 32 := Scalar.extui v238
  let v240 : BitVec 32 := Scalar.subi v237 v239
  let c4_i32_120 : BitVec 32 := 4#32
  let c0_i32_123 : BitVec 32 := 0#32
  let v241 : BitVec 1 := Scalar.cmpi .sgt c4_i32_120 c0_i32_123
  let v242 : BitVec 32 := Scalar.extui v241
  let c0_i32_124 : BitVec 32 := 0#32
  let v243 : BitVec 1 := Scalar.cmpi .slt c4_i32_120 c0_i32_124
  let v244 : BitVec 32 := Scalar.extui v243
  let v245 : BitVec 32 := Scalar.subi v242 v244
  let v246 : BitVec 1 := Scalar.cmpi .ne v240 v245
  let v247 : BitVec 32 := Scalar.remsi v234 c4_i32_120
  let c0_i32_125 : BitVec 32 := 0#32
  let v248 : BitVec 1 := Scalar.cmpi .ne v247 c0_i32_125
  let v249 : BitVec 1 := Scalar.andi v246 v248
  let v235 : BitVec 32 := Scalar.divsi v234 c4_i32_120
  let c1_i32_126 : BitVec 32 := 1#32
  let v250 : BitVec 32 := Scalar.subi v235 c1_i32_126
  let v251 : BitVec 32 := Scalar.select v249 v250 v235
  let c2_i32_135 : BitVec 32 := 2#32
  let c0_i32_136 : BitVec 32 := 0#32
  let v265 : BitVec 1 := Scalar.cmpi .eq c2_i32_135 c0_i32_136
  let c1_i32_137 : BitVec 32 := 1#32
  let v266 : BitVec 32 := Scalar.select v265 c1_i32_137 c2_i32_135
  let v267 : BitVec 32 := Scalar.remsi v251 v266
  let c0_i32_139 : BitVec 32 := 0#32
  let v269 : BitVec 1 := Scalar.cmpi .slt v267 c0_i32_139
  let c0_i32_140 : BitVec 32 := 0#32
  let v270 : BitVec 1 := Scalar.cmpi .slt v266 c0_i32_140
  let v271 : BitVec 1 := Scalar.xori v269 v270
  let c0_i32_138 : BitVec 32 := 0#32
  let v268 : BitVec 1 := Scalar.cmpi .ne v267 c0_i32_138
  let v272 : BitVec 1 := Scalar.andi v271 v268
  let v273 : BitVec 32 := Scalar.addi v267 v266
  let v274 : BitVec 32 := Scalar.select v272 v273 v267
  let c0_i32_141 : BitVec 32 := 0#32
  let v275 : BitVec 1 := Scalar.cmpi .eq v274 c0_i32_141
  let c4_i32_127 : BitVec 32 := 4#32
  let c0_i32_128 : BitVec 32 := 0#32
  let v252 : BitVec 1 := Scalar.cmpi .eq c4_i32_127 c0_i32_128
  let c1_i32_129 : BitVec 32 := 1#32
  let v253 : BitVec 32 := Scalar.select v252 c1_i32_129 c4_i32_127
  let v254 : BitVec 32 := Scalar.remsi v234 v253
  let c0_i32_131 : BitVec 32 := 0#32
  let v256 : BitVec 1 := Scalar.cmpi .slt v254 c0_i32_131
  let c0_i32_132 : BitVec 32 := 0#32
  let v257 : BitVec 1 := Scalar.cmpi .slt v253 c0_i32_132
  let v258 : BitVec 1 := Scalar.xori v256 v257
  let c0_i32_130 : BitVec 32 := 0#32
  let v255 : BitVec 1 := Scalar.cmpi .ne v254 c0_i32_130
  let v259 : BitVec 1 := Scalar.andi v258 v255
  let v260 : BitVec 32 := Scalar.addi v254 v253
  let v261 : BitVec 32 := Scalar.select v259 v260 v254
  let c3_i32_142 : BitVec 32 := 3#32
  let v276 : BitVec 32 := Scalar.subi c3_i32_142 v261
  let v277 : BitVec 32 := Scalar.select v275 v261 v276
  let v278 : BitVec 32 := Scalar.muli c8_i32_143 v277
  let c2_i32_144 : BitVec 32 := 2#32
  let c0_i32_108 : BitVec 32 := 0#32
  let v209 : BitVec 1 := Scalar.cmpi .sgt v207 c0_i32_108
  let v210 : BitVec 32 := Scalar.extui v209
  let c0_i32_109 : BitVec 32 := 0#32
  let v211 : BitVec 1 := Scalar.cmpi .slt v207 c0_i32_109
  let v212 : BitVec 32 := Scalar.extui v211
  let v213 : BitVec 32 := Scalar.subi v210 v212
  let c16_i32_107 : BitVec 32 := 16#32
  let c0_i32_110 : BitVec 32 := 0#32
  let v214 : BitVec 1 := Scalar.cmpi .sgt c16_i32_107 c0_i32_110
  let v215 : BitVec 32 := Scalar.extui v214
  let c0_i32_111 : BitVec 32 := 0#32
  let v216 : BitVec 1 := Scalar.cmpi .slt c16_i32_107 c0_i32_111
  let v217 : BitVec 32 := Scalar.extui v216
  let v218 : BitVec 32 := Scalar.subi v215 v217
  let v219 : BitVec 1 := Scalar.cmpi .ne v213 v218
  let v220 : BitVec 32 := Scalar.remsi v207 c16_i32_107
  let c0_i32_112 : BitVec 32 := 0#32
  let v221 : BitVec 1 := Scalar.cmpi .ne v220 c0_i32_112
  let v222 : BitVec 1 := Scalar.andi v219 v221
  let v208 : BitVec 32 := Scalar.divsi v207 c16_i32_107
  let c1_i32_113 : BitVec 32 := 1#32
  let v223 : BitVec 32 := Scalar.subi v208 c1_i32_113
  let v224 : BitVec 32 := Scalar.select v222 v223 v208
  let c0_i32_133 : BitVec 32 := 0#32
  let v262 : BitVec 1 := Scalar.cmpi .eq v224 c0_i32_133
  let c3_i32_134 : BitVec 32 := 3#32
  let v263 : BitVec 32 := Scalar.subi c3_i32_134 v251
  let v264 : BitVec 32 := Scalar.select v262 v251 v263
  let v279 : BitVec 32 := Scalar.muli c2_i32_144 v264
  let v280 : BitVec 32 := Scalar.addi v278 v279
  let c2_i32_145 : BitVec 32 := 2#32
  let c0_i32_146 : BitVec 32 := 0#32
  let v281 : BitVec 1 := Scalar.cmpi .eq c2_i32_145 c0_i32_146
  let c1_i32_147 : BitVec 32 := 1#32
  let v282 : BitVec 32 := Scalar.select v281 c1_i32_147 c2_i32_145
  let v283 : BitVec 32 := Scalar.remsi v264 v282
  let c0_i32_149 : BitVec 32 := 0#32
  let v285 : BitVec 1 := Scalar.cmpi .slt v283 c0_i32_149
  let c0_i32_150 : BitVec 32 := 0#32
  let v286 : BitVec 1 := Scalar.cmpi .slt v282 c0_i32_150
  let v287 : BitVec 1 := Scalar.xori v285 v286
  let c0_i32_148 : BitVec 32 := 0#32
  let v284 : BitVec 1 := Scalar.cmpi .ne v283 c0_i32_148
  let v288 : BitVec 1 := Scalar.andi v287 v284
  let v289 : BitVec 32 := Scalar.addi v283 v282
  let v290 : BitVec 32 := Scalar.select v288 v289 v283
  let c0_i32_151 : BitVec 32 := 0#32
  let v291 : BitVec 1 := Scalar.cmpi .eq v290 c0_i32_151
  let c1_i32_152 : BitVec 32 := 1#32
  let v292 : BitVec 32 := Scalar.subi c1_i32_152 v224
  let v293 : BitVec 32 := Scalar.select v291 v224 v292
  let v294 : BitVec 32 := Scalar.addi v280 v293
  let c1_i32_1314 : BitVec 32 := 1#32
  let v2060 : BitVec 32 := Scalar.muli v294 c1_i32_1314
  let v2061 : BitVec 32 := Scalar.addi c0_i32_1315 v2060
  v2061.toNat
def k0_cond3 (k0_t1 : Fin k0_t1_loop.trips) : BitVec 1 :=
  let c1_i32_784 : BitVec 32 := 1#32
  let c1_i32_785 : BitVec 32 := 1#32
  let arg23 : BitVec 32 := Scf.iv c1_i32_784 c1_i32_785 k0_t1
  let c28_i32_1392 : BitVec 32 := 28#32
  let v2196 : BitVec 1 := Scalar.cmpi .sle arg23 c28_i32_1392
  let v2197 : BitVec 32 := Scalar.extui v2196
  let c0_i32_1393 : BitVec 32 := 0#32
  let v2198 : BitVec 1 := Scalar.cmpi .ne v2197 c0_i32_1393
  v2198

def k0_dev19 (d0 : Dev nD) : Nat :=
  let c0_i32_1486 : BitVec 32 := 0#32
  let c8_i32_143 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_104 : BitVec 32 := 1#32
  let v205 : BitVec 32 := Scalar.subi v114 c1_i32_104
  let c64_i32_105 : BitVec 32 := 64#32
  let v206 : BitVec 32 := Scalar.addi v205 c64_i32_105
  let c32_i32_106 : BitVec 32 := 32#32
  let v207 : BitVec 32 := Scalar.remsi v206 c32_i32_106
  let c16_i32_114 : BitVec 32 := 16#32
  let c0_i32_115 : BitVec 32 := 0#32
  let v225 : BitVec 1 := Scalar.cmpi .eq c16_i32_114 c0_i32_115
  let c1_i32_116 : BitVec 32 := 1#32
  let v226 : BitVec 32 := Scalar.select v225 c1_i32_116 c16_i32_114
  let v227 : BitVec 32 := Scalar.remsi v207 v226
  let c0_i32_118 : BitVec 32 := 0#32
  let v229 : BitVec 1 := Scalar.cmpi .slt v227 c0_i32_118
  let c0_i32_119 : BitVec 32 := 0#32
  let v230 : BitVec 1 := Scalar.cmpi .slt v226 c0_i32_119
  let v231 : BitVec 1 := Scalar.xori v229 v230
  let c0_i32_117 : BitVec 32 := 0#32
  let v228 : BitVec 1 := Scalar.cmpi .ne v227 c0_i32_117
  let v232 : BitVec 1 := Scalar.andi v231 v228
  let v233 : BitVec 32 := Scalar.addi v227 v226
  let v234 : BitVec 32 := Scalar.select v232 v233 v227
  let c0_i32_121 : BitVec 32 := 0#32
  let v236 : BitVec 1 := Scalar.cmpi .sgt v234 c0_i32_121
  let v237 : BitVec 32 := Scalar.extui v236
  let c0_i32_122 : BitVec 32 := 0#32
  let v238 : BitVec 1 := Scalar.cmpi .slt v234 c0_i32_122
  let v239 : BitVec 32 := Scalar.extui v238
  let v240 : BitVec 32 := Scalar.subi v237 v239
  let c4_i32_120 : BitVec 32 := 4#32
  let c0_i32_123 : BitVec 32 := 0#32
  let v241 : BitVec 1 := Scalar.cmpi .sgt c4_i32_120 c0_i32_123
  let v242 : BitVec 32 := Scalar.extui v241
  let c0_i32_124 : BitVec 32 := 0#32
  let v243 : BitVec 1 := Scalar.cmpi .slt c4_i32_120 c0_i32_124
  let v244 : BitVec 32 := Scalar.extui v243
  let v245 : BitVec 32 := Scalar.subi v242 v244
  let v246 : BitVec 1 := Scalar.cmpi .ne v240 v245
  let v247 : BitVec 32 := Scalar.remsi v234 c4_i32_120
  let c0_i32_125 : BitVec 32 := 0#32
  let v248 : BitVec 1 := Scalar.cmpi .ne v247 c0_i32_125
  let v249 : BitVec 1 := Scalar.andi v246 v248
  let v235 : BitVec 32 := Scalar.divsi v234 c4_i32_120
  let c1_i32_126 : BitVec 32 := 1#32
  let v250 : BitVec 32 := Scalar.subi v235 c1_i32_126
  let v251 : BitVec 32 := Scalar.select v249 v250 v235
  let c2_i32_135 : BitVec 32 := 2#32
  let c0_i32_136 : BitVec 32 := 0#32
  let v265 : BitVec 1 := Scalar.cmpi .eq c2_i32_135 c0_i32_136
  let c1_i32_137 : BitVec 32 := 1#32
  let v266 : BitVec 32 := Scalar.select v265 c1_i32_137 c2_i32_135
  let v267 : BitVec 32 := Scalar.remsi v251 v266
  let c0_i32_139 : BitVec 32 := 0#32
  let v269 : BitVec 1 := Scalar.cmpi .slt v267 c0_i32_139
  let c0_i32_140 : BitVec 32 := 0#32
  let v270 : BitVec 1 := Scalar.cmpi .slt v266 c0_i32_140
  let v271 : BitVec 1 := Scalar.xori v269 v270
  let c0_i32_138 : BitVec 32 := 0#32
  let v268 : BitVec 1 := Scalar.cmpi .ne v267 c0_i32_138
  let v272 : BitVec 1 := Scalar.andi v271 v268
  let v273 : BitVec 32 := Scalar.addi v267 v266
  let v274 : BitVec 32 := Scalar.select v272 v273 v267
  let c0_i32_141 : BitVec 32 := 0#32
  let v275 : BitVec 1 := Scalar.cmpi .eq v274 c0_i32_141
  let c4_i32_127 : BitVec 32 := 4#32
  let c0_i32_128 : BitVec 32 := 0#32
  let v252 : BitVec 1 := Scalar.cmpi .eq c4_i32_127 c0_i32_128
  let c1_i32_129 : BitVec 32 := 1#32
  let v253 : BitVec 32 := Scalar.select v252 c1_i32_129 c4_i32_127
  let v254 : BitVec 32 := Scalar.remsi v234 v253
  let c0_i32_131 : BitVec 32 := 0#32
  let v256 : BitVec 1 := Scalar.cmpi .slt v254 c0_i32_131
  let c0_i32_132 : BitVec 32 := 0#32
  let v257 : BitVec 1 := Scalar.cmpi .slt v253 c0_i32_132
  let v258 : BitVec 1 := Scalar.xori v256 v257
  let c0_i32_130 : BitVec 32 := 0#32
  let v255 : BitVec 1 := Scalar.cmpi .ne v254 c0_i32_130
  let v259 : BitVec 1 := Scalar.andi v258 v255
  let v260 : BitVec 32 := Scalar.addi v254 v253
  let v261 : BitVec 32 := Scalar.select v259 v260 v254
  let c3_i32_142 : BitVec 32 := 3#32
  let v276 : BitVec 32 := Scalar.subi c3_i32_142 v261
  let v277 : BitVec 32 := Scalar.select v275 v261 v276
  let v278 : BitVec 32 := Scalar.muli c8_i32_143 v277
  let c2_i32_144 : BitVec 32 := 2#32
  let c0_i32_108 : BitVec 32 := 0#32
  let v209 : BitVec 1 := Scalar.cmpi .sgt v207 c0_i32_108
  let v210 : BitVec 32 := Scalar.extui v209
  let c0_i32_109 : BitVec 32 := 0#32
  let v211 : BitVec 1 := Scalar.cmpi .slt v207 c0_i32_109
  let v212 : BitVec 32 := Scalar.extui v211
  let v213 : BitVec 32 := Scalar.subi v210 v212
  let c16_i32_107 : BitVec 32 := 16#32
  let c0_i32_110 : BitVec 32 := 0#32
  let v214 : BitVec 1 := Scalar.cmpi .sgt c16_i32_107 c0_i32_110
  let v215 : BitVec 32 := Scalar.extui v214
  let c0_i32_111 : BitVec 32 := 0#32
  let v216 : BitVec 1 := Scalar.cmpi .slt c16_i32_107 c0_i32_111
  let v217 : BitVec 32 := Scalar.extui v216
  let v218 : BitVec 32 := Scalar.subi v215 v217
  let v219 : BitVec 1 := Scalar.cmpi .ne v213 v218
  let v220 : BitVec 32 := Scalar.remsi v207 c16_i32_107
  let c0_i32_112 : BitVec 32 := 0#32
  let v221 : BitVec 1 := Scalar.cmpi .ne v220 c0_i32_112
  let v222 : BitVec 1 := Scalar.andi v219 v221
  let v208 : BitVec 32 := Scalar.divsi v207 c16_i32_107
  let c1_i32_113 : BitVec 32 := 1#32
  let v223 : BitVec 32 := Scalar.subi v208 c1_i32_113
  let v224 : BitVec 32 := Scalar.select v222 v223 v208
  let c0_i32_133 : BitVec 32 := 0#32
  let v262 : BitVec 1 := Scalar.cmpi .eq v224 c0_i32_133
  let c3_i32_134 : BitVec 32 := 3#32
  let v263 : BitVec 32 := Scalar.subi c3_i32_134 v251
  let v264 : BitVec 32 := Scalar.select v262 v251 v263
  let v279 : BitVec 32 := Scalar.muli c2_i32_144 v264
  let v280 : BitVec 32 := Scalar.addi v278 v279
  let c2_i32_145 : BitVec 32 := 2#32
  let c0_i32_146 : BitVec 32 := 0#32
  let v281 : BitVec 1 := Scalar.cmpi .eq c2_i32_145 c0_i32_146
  let c1_i32_147 : BitVec 32 := 1#32
  let v282 : BitVec 32 := Scalar.select v281 c1_i32_147 c2_i32_145
  let v283 : BitVec 32 := Scalar.remsi v264 v282
  let c0_i32_149 : BitVec 32 := 0#32
  let v285 : BitVec 1 := Scalar.cmpi .slt v283 c0_i32_149
  let c0_i32_150 : BitVec 32 := 0#32
  let v286 : BitVec 1 := Scalar.cmpi .slt v282 c0_i32_150
  let v287 : BitVec 1 := Scalar.xori v285 v286
  let c0_i32_148 : BitVec 32 := 0#32
  let v284 : BitVec 1 := Scalar.cmpi .ne v283 c0_i32_148
  let v288 : BitVec 1 := Scalar.andi v287 v284
  let v289 : BitVec 32 := Scalar.addi v283 v282
  let v290 : BitVec 32 := Scalar.select v288 v289 v283
  let c0_i32_151 : BitVec 32 := 0#32
  let v291 : BitVec 1 := Scalar.cmpi .eq v290 c0_i32_151
  let c1_i32_152 : BitVec 32 := 1#32
  let v292 : BitVec 32 := Scalar.subi c1_i32_152 v224
  let v293 : BitVec 32 := Scalar.select v291 v224 v292
  let v294 : BitVec 32 := Scalar.addi v280 v293
  let c1_i32_1485 : BitVec 32 := 1#32
  let v2348 : BitVec 32 := Scalar.muli v294 c1_i32_1485
  let v2349 : BitVec 32 := Scalar.addi c0_i32_1486 v2348
  v2349.toNat
def k0_dev20 (d0 : Dev nD) : Nat :=
  let c0_i32_1397 : BitVec 32 := 0#32
  let c8_i32_94 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_56 : BitVec 32 := 1#32
  let v115 : BitVec 32 := Scalar.addi v114 c1_i32_56
  let c64_i32 : BitVec 32 := 64#32
  let v116 : BitVec 32 := Scalar.addi v115 c64_i32
  let c32_i32_57 : BitVec 32 := 32#32
  let v117 : BitVec 32 := Scalar.remsi v116 c32_i32_57
  let c16_i32_65 : BitVec 32 := 16#32
  let c0_i32_66 : BitVec 32 := 0#32
  let v135 : BitVec 1 := Scalar.cmpi .eq c16_i32_65 c0_i32_66
  let c1_i32_67 : BitVec 32 := 1#32
  let v136 : BitVec 32 := Scalar.select v135 c1_i32_67 c16_i32_65
  let v137 : BitVec 32 := Scalar.remsi v117 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let c0_i32_72 : BitVec 32 := 0#32
  let v146 : BitVec 1 := Scalar.cmpi .sgt v144 c0_i32_72
  let v147 : BitVec 32 := Scalar.extui v146
  let c0_i32_73 : BitVec 32 := 0#32
  let v148 : BitVec 1 := Scalar.cmpi .slt v144 c0_i32_73
  let v149 : BitVec 32 := Scalar.extui v148
  let v150 : BitVec 32 := Scalar.subi v147 v149
  let c4_i32_71 : BitVec 32 := 4#32
  let c0_i32_74 : BitVec 32 := 0#32
  let v151 : BitVec 1 := Scalar.cmpi .sgt c4_i32_71 c0_i32_74
  let v152 : BitVec 32 := Scalar.extui v151
  let c0_i32_75 : BitVec 32 := 0#32
  let v153 : BitVec 1 := Scalar.cmpi .slt c4_i32_71 c0_i32_75
  let v154 : BitVec 32 := Scalar.extui v153
  let v155 : BitVec 32 := Scalar.subi v152 v154
  let v156 : BitVec 1 := Scalar.cmpi .ne v150 v155
  let v157 : BitVec 32 := Scalar.remsi v144 c4_i32_71
  let c0_i32_76 : BitVec 32 := 0#32
  let v158 : BitVec 1 := Scalar.cmpi .ne v157 c0_i32_76
  let v159 : BitVec 1 := Scalar.andi v156 v158
  let v145 : BitVec 32 := Scalar.divsi v144 c4_i32_71
  let c1_i32_77 : BitVec 32 := 1#32
  let v160 : BitVec 32 := Scalar.subi v145 c1_i32_77
  let v161 : BitVec 32 := Scalar.select v159 v160 v145
  let c2_i32_86 : BitVec 32 := 2#32
  let c0_i32_87 : BitVec 32 := 0#32
  let v175 : BitVec 1 := Scalar.cmpi .eq c2_i32_86 c0_i32_87
  let c1_i32_88 : BitVec 32 := 1#32
  let v176 : BitVec 32 := Scalar.select v175 c1_i32_88 c2_i32_86
  let v177 : BitVec 32 := Scalar.remsi v161 v176
  let c0_i32_90 : BitVec 32 := 0#32
  let v179 : BitVec 1 := Scalar.cmpi .slt v177 c0_i32_90
  let c0_i32_91 : BitVec 32 := 0#32
  let v180 : BitVec 1 := Scalar.cmpi .slt v176 c0_i32_91
  let v181 : BitVec 1 := Scalar.xori v179 v180
  let c0_i32_89 : BitVec 32 := 0#32
  let v178 : BitVec 1 := Scalar.cmpi .ne v177 c0_i32_89
  let v182 : BitVec 1 := Scalar.andi v181 v178
  let v183 : BitVec 32 := Scalar.addi v177 v176
  let v184 : BitVec 32 := Scalar.select v182 v183 v177
  let c0_i32_92 : BitVec 32 := 0#32
  let v185 : BitVec 1 := Scalar.cmpi .eq v184 c0_i32_92
  let c4_i32_78 : BitVec 32 := 4#32
  let c0_i32_79 : BitVec 32 := 0#32
  let v162 : BitVec 1 := Scalar.cmpi .eq c4_i32_78 c0_i32_79
  let c1_i32_80 : BitVec 32 := 1#32
  let v163 : BitVec 32 := Scalar.select v162 c1_i32_80 c4_i32_78
  let v164 : BitVec 32 := Scalar.remsi v144 v163
  let c0_i32_82 : BitVec 32 := 0#32
  let v166 : BitVec 1 := Scalar.cmpi .slt v164 c0_i32_82
  let c0_i32_83 : BitVec 32 := 0#32
  let v167 : BitVec 1 := Scalar.cmpi .slt v163 c0_i32_83
  let v168 : BitVec 1 := Scalar.xori v166 v167
  let c0_i32_81 : BitVec 32 := 0#32
  let v165 : BitVec 1 := Scalar.cmpi .ne v164 c0_i32_81
  let v169 : BitVec 1 := Scalar.andi v168 v165
  let v170 : BitVec 32 := Scalar.addi v164 v163
  let v171 : BitVec 32 := Scalar.select v169 v170 v164
  let c3_i32_93 : BitVec 32 := 3#32
  let v186 : BitVec 32 := Scalar.subi c3_i32_93 v171
  let v187 : BitVec 32 := Scalar.select v185 v171 v186
  let v188 : BitVec 32 := Scalar.muli c8_i32_94 v187
  let c2_i32_95 : BitVec 32 := 2#32
  let c0_i32_59 : BitVec 32 := 0#32
  let v119 : BitVec 1 := Scalar.cmpi .sgt v117 c0_i32_59
  let v120 : BitVec 32 := Scalar.extui v119
  let c0_i32_60 : BitVec 32 := 0#32
  let v121 : BitVec 1 := Scalar.cmpi .slt v117 c0_i32_60
  let v122 : BitVec 32 := Scalar.extui v121
  let v123 : BitVec 32 := Scalar.subi v120 v122
  let c16_i32_58 : BitVec 32 := 16#32
  let c0_i32_61 : BitVec 32 := 0#32
  let v124 : BitVec 1 := Scalar.cmpi .sgt c16_i32_58 c0_i32_61
  let v125 : BitVec 32 := Scalar.extui v124
  let c0_i32_62 : BitVec 32 := 0#32
  let v126 : BitVec 1 := Scalar.cmpi .slt c16_i32_58 c0_i32_62
  let v127 : BitVec 32 := Scalar.extui v126
  let v128 : BitVec 32 := Scalar.subi v125 v127
  let v129 : BitVec 1 := Scalar.cmpi .ne v123 v128
  let v130 : BitVec 32 := Scalar.remsi v117 c16_i32_58
  let c0_i32_63 : BitVec 32 := 0#32
  let v131 : BitVec 1 := Scalar.cmpi .ne v130 c0_i32_63
  let v132 : BitVec 1 := Scalar.andi v129 v131
  let v118 : BitVec 32 := Scalar.divsi v117 c16_i32_58
  let c1_i32_64 : BitVec 32 := 1#32
  let v133 : BitVec 32 := Scalar.subi v118 c1_i32_64
  let v134 : BitVec 32 := Scalar.select v132 v133 v118
  let c0_i32_84 : BitVec 32 := 0#32
  let v172 : BitVec 1 := Scalar.cmpi .eq v134 c0_i32_84
  let c3_i32_85 : BitVec 32 := 3#32
  let v173 : BitVec 32 := Scalar.subi c3_i32_85 v161
  let v174 : BitVec 32 := Scalar.select v172 v161 v173
  let v189 : BitVec 32 := Scalar.muli c2_i32_95 v174
  let v190 : BitVec 32 := Scalar.addi v188 v189
  let c2_i32_96 : BitVec 32 := 2#32
  let c0_i32_97 : BitVec 32 := 0#32
  let v191 : BitVec 1 := Scalar.cmpi .eq c2_i32_96 c0_i32_97
  let c1_i32_98 : BitVec 32 := 1#32
  let v192 : BitVec 32 := Scalar.select v191 c1_i32_98 c2_i32_96
  let v193 : BitVec 32 := Scalar.remsi v174 v192
  let c0_i32_100 : BitVec 32 := 0#32
  let v195 : BitVec 1 := Scalar.cmpi .slt v193 c0_i32_100
  let c0_i32_101 : BitVec 32 := 0#32
  let v196 : BitVec 1 := Scalar.cmpi .slt v192 c0_i32_101
  let v197 : BitVec 1 := Scalar.xori v195 v196
  let c0_i32_99 : BitVec 32 := 0#32
  let v194 : BitVec 1 := Scalar.cmpi .ne v193 c0_i32_99
  let v198 : BitVec 1 := Scalar.andi v197 v194
  let v199 : BitVec 32 := Scalar.addi v193 v192
  let v200 : BitVec 32 := Scalar.select v198 v199 v193
  let c0_i32_102 : BitVec 32 := 0#32
  let v201 : BitVec 1 := Scalar.cmpi .eq v200 c0_i32_102
  let c1_i32_103 : BitVec 32 := 1#32
  let v202 : BitVec 32 := Scalar.subi c1_i32_103 v134
  let v203 : BitVec 32 := Scalar.select v201 v134 v202
  let v204 : BitVec 32 := Scalar.addi v190 v203
  let c1_i32_1396 : BitVec 32 := 1#32
  let v2199 : BitVec 32 := Scalar.muli v204 c1_i32_1396
  let v2200 : BitVec 32 := Scalar.addi c0_i32_1397 v2199
  v2200.toNat
def k0_cond4 (k0_t1 : Fin k0_t1_loop.trips) : BitVec 1 :=
  let c1_i32_784 : BitVec 32 := 1#32
  let c1_i32_785 : BitVec 32 := 1#32
  let arg23 : BitVec 32 := Scf.iv c1_i32_784 c1_i32_785 k0_t1
  let c28_i32_1474 : BitVec 32 := 28#32
  let v2335 : BitVec 1 := Scalar.cmpi .sle arg23 c28_i32_1474
  let v2336 : BitVec 32 := Scalar.extui v2335
  let c0_i32_1475 : BitVec 32 := 0#32
  let v2337 : BitVec 1 := Scalar.cmpi .ne v2336 c0_i32_1475
  v2337

def k0_dev21 (d0 : Dev nD) : Nat :=
  let c0_i32_1486 : BitVec 32 := 0#32
  let c8_i32_94 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_56 : BitVec 32 := 1#32
  let v115 : BitVec 32 := Scalar.addi v114 c1_i32_56
  let c64_i32 : BitVec 32 := 64#32
  let v116 : BitVec 32 := Scalar.addi v115 c64_i32
  let c32_i32_57 : BitVec 32 := 32#32
  let v117 : BitVec 32 := Scalar.remsi v116 c32_i32_57
  let c16_i32_65 : BitVec 32 := 16#32
  let c0_i32_66 : BitVec 32 := 0#32
  let v135 : BitVec 1 := Scalar.cmpi .eq c16_i32_65 c0_i32_66
  let c1_i32_67 : BitVec 32 := 1#32
  let v136 : BitVec 32 := Scalar.select v135 c1_i32_67 c16_i32_65
  let v137 : BitVec 32 := Scalar.remsi v117 v136
  let c0_i32_69 : BitVec 32 := 0#32
  let v139 : BitVec 1 := Scalar.cmpi .slt v137 c0_i32_69
  let c0_i32_70 : BitVec 32 := 0#32
  let v140 : BitVec 1 := Scalar.cmpi .slt v136 c0_i32_70
  let v141 : BitVec 1 := Scalar.xori v139 v140
  let c0_i32_68 : BitVec 32 := 0#32
  let v138 : BitVec 1 := Scalar.cmpi .ne v137 c0_i32_68
  let v142 : BitVec 1 := Scalar.andi v141 v138
  let v143 : BitVec 32 := Scalar.addi v137 v136
  let v144 : BitVec 32 := Scalar.select v142 v143 v137
  let c0_i32_72 : BitVec 32 := 0#32
  let v146 : BitVec 1 := Scalar.cmpi .sgt v144 c0_i32_72
  let v147 : BitVec 32 := Scalar.extui v146
  let c0_i32_73 : BitVec 32 := 0#32
  let v148 : BitVec 1 := Scalar.cmpi .slt v144 c0_i32_73
  let v149 : BitVec 32 := Scalar.extui v148
  let v150 : BitVec 32 := Scalar.subi v147 v149
  let c4_i32_71 : BitVec 32 := 4#32
  let c0_i32_74 : BitVec 32 := 0#32
  let v151 : BitVec 1 := Scalar.cmpi .sgt c4_i32_71 c0_i32_74
  let v152 : BitVec 32 := Scalar.extui v151
  let c0_i32_75 : BitVec 32 := 0#32
  let v153 : BitVec 1 := Scalar.cmpi .slt c4_i32_71 c0_i32_75
  let v154 : BitVec 32 := Scalar.extui v153
  let v155 : BitVec 32 := Scalar.subi v152 v154
  let v156 : BitVec 1 := Scalar.cmpi .ne v150 v155
  let v157 : BitVec 32 := Scalar.remsi v144 c4_i32_71
  let c0_i32_76 : BitVec 32 := 0#32
  let v158 : BitVec 1 := Scalar.cmpi .ne v157 c0_i32_76
  let v159 : BitVec 1 := Scalar.andi v156 v158
  let v145 : BitVec 32 := Scalar.divsi v144 c4_i32_71
  let c1_i32_77 : BitVec 32 := 1#32
  let v160 : BitVec 32 := Scalar.subi v145 c1_i32_77
  let v161 : BitVec 32 := Scalar.select v159 v160 v145
  let c2_i32_86 : BitVec 32 := 2#32
  let c0_i32_87 : BitVec 32 := 0#32
  let v175 : BitVec 1 := Scalar.cmpi .eq c2_i32_86 c0_i32_87
  let c1_i32_88 : BitVec 32 := 1#32
  let v176 : BitVec 32 := Scalar.select v175 c1_i32_88 c2_i32_86
  let v177 : BitVec 32 := Scalar.remsi v161 v176
  let c0_i32_90 : BitVec 32 := 0#32
  let v179 : BitVec 1 := Scalar.cmpi .slt v177 c0_i32_90
  let c0_i32_91 : BitVec 32 := 0#32
  let v180 : BitVec 1 := Scalar.cmpi .slt v176 c0_i32_91
  let v181 : BitVec 1 := Scalar.xori v179 v180
  let c0_i32_89 : BitVec 32 := 0#32
  let v178 : BitVec 1 := Scalar.cmpi .ne v177 c0_i32_89
  let v182 : BitVec 1 := Scalar.andi v181 v178
  let v183 : BitVec 32 := Scalar.addi v177 v176
  let v184 : BitVec 32 := Scalar.select v182 v183 v177
  let c0_i32_92 : BitVec 32 := 0#32
  let v185 : BitVec 1 := Scalar.cmpi .eq v184 c0_i32_92
  let c4_i32_78 : BitVec 32 := 4#32
  let c0_i32_79 : BitVec 32 := 0#32
  let v162 : BitVec 1 := Scalar.cmpi .eq c4_i32_78 c0_i32_79
  let c1_i32_80 : BitVec 32 := 1#32
  let v163 : BitVec 32 := Scalar.select v162 c1_i32_80 c4_i32_78
  let v164 : BitVec 32 := Scalar.remsi v144 v163
  let c0_i32_82 : BitVec 32 := 0#32
  let v166 : BitVec 1 := Scalar.cmpi .slt v164 c0_i32_82
  let c0_i32_83 : BitVec 32 := 0#32
  let v167 : BitVec 1 := Scalar.cmpi .slt v163 c0_i32_83
  let v168 : BitVec 1 := Scalar.xori v166 v167
  let c0_i32_81 : BitVec 32 := 0#32
  let v165 : BitVec 1 := Scalar.cmpi .ne v164 c0_i32_81
  let v169 : BitVec 1 := Scalar.andi v168 v165
  let v170 : BitVec 32 := Scalar.addi v164 v163
  let v171 : BitVec 32 := Scalar.select v169 v170 v164
  let c3_i32_93 : BitVec 32 := 3#32
  let v186 : BitVec 32 := Scalar.subi c3_i32_93 v171
  let v187 : BitVec 32 := Scalar.select v185 v171 v186
  let v188 : BitVec 32 := Scalar.muli c8_i32_94 v187
  let c2_i32_95 : BitVec 32 := 2#32
  let c0_i32_59 : BitVec 32 := 0#32
  let v119 : BitVec 1 := Scalar.cmpi .sgt v117 c0_i32_59
  let v120 : BitVec 32 := Scalar.extui v119
  let c0_i32_60 : BitVec 32 := 0#32
  let v121 : BitVec 1 := Scalar.cmpi .slt v117 c0_i32_60
  let v122 : BitVec 32 := Scalar.extui v121
  let v123 : BitVec 32 := Scalar.subi v120 v122
  let c16_i32_58 : BitVec 32 := 16#32
  let c0_i32_61 : BitVec 32 := 0#32
  let v124 : BitVec 1 := Scalar.cmpi .sgt c16_i32_58 c0_i32_61
  let v125 : BitVec 32 := Scalar.extui v124
  let c0_i32_62 : BitVec 32 := 0#32
  let v126 : BitVec 1 := Scalar.cmpi .slt c16_i32_58 c0_i32_62
  let v127 : BitVec 32 := Scalar.extui v126
  let v128 : BitVec 32 := Scalar.subi v125 v127
  let v129 : BitVec 1 := Scalar.cmpi .ne v123 v128
  let v130 : BitVec 32 := Scalar.remsi v117 c16_i32_58
  let c0_i32_63 : BitVec 32 := 0#32
  let v131 : BitVec 1 := Scalar.cmpi .ne v130 c0_i32_63
  let v132 : BitVec 1 := Scalar.andi v129 v131
  let v118 : BitVec 32 := Scalar.divsi v117 c16_i32_58
  let c1_i32_64 : BitVec 32 := 1#32
  let v133 : BitVec 32 := Scalar.subi v118 c1_i32_64
  let v134 : BitVec 32 := Scalar.select v132 v133 v118
  let c0_i32_84 : BitVec 32 := 0#32
  let v172 : BitVec 1 := Scalar.cmpi .eq v134 c0_i32_84
  let c3_i32_85 : BitVec 32 := 3#32
  let v173 : BitVec 32 := Scalar.subi c3_i32_85 v161
  let v174 : BitVec 32 := Scalar.select v172 v161 v173
  let v189 : BitVec 32 := Scalar.muli c2_i32_95 v174
  let v190 : BitVec 32 := Scalar.addi v188 v189
  let c2_i32_96 : BitVec 32 := 2#32
  let c0_i32_97 : BitVec 32 := 0#32
  let v191 : BitVec 1 := Scalar.cmpi .eq c2_i32_96 c0_i32_97
  let c1_i32_98 : BitVec 32 := 1#32
  let v192 : BitVec 32 := Scalar.select v191 c1_i32_98 c2_i32_96
  let v193 : BitVec 32 := Scalar.remsi v174 v192
  let c0_i32_100 : BitVec 32 := 0#32
  let v195 : BitVec 1 := Scalar.cmpi .slt v193 c0_i32_100
  let c0_i32_101 : BitVec 32 := 0#32
  let v196 : BitVec 1 := Scalar.cmpi .slt v192 c0_i32_101
  let v197 : BitVec 1 := Scalar.xori v195 v196
  let c0_i32_99 : BitVec 32 := 0#32
  let v194 : BitVec 1 := Scalar.cmpi .ne v193 c0_i32_99
  let v198 : BitVec 1 := Scalar.andi v197 v194
  let v199 : BitVec 32 := Scalar.addi v193 v192
  let v200 : BitVec 32 := Scalar.select v198 v199 v193
  let c0_i32_102 : BitVec 32 := 0#32
  let v201 : BitVec 1 := Scalar.cmpi .eq v200 c0_i32_102
  let c1_i32_103 : BitVec 32 := 1#32
  let v202 : BitVec 32 := Scalar.subi c1_i32_103 v134
  let v203 : BitVec 32 := Scalar.select v201 v134 v202
  let v204 : BitVec 32 := Scalar.addi v190 v203
  let c1_i32_1485 : BitVec 32 := 1#32
  let v2348 : BitVec 32 := Scalar.muli v204 c1_i32_1485
  let v2349 : BitVec 32 := Scalar.addi c0_i32_1486 v2348
  v2349.toNat
def k0_dev22 (d0 : Dev nD) : Nat :=
  let c0_i32_1479 : BitVec 32 := 0#32
  let c8_i32_143 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c4_i32 : BitVec 32 := 4#32
  let v81 : BitVec 32 := Scalar.muli c4_i32 v46
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v46 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c0_i32_44 : BitVec 32 := 0#32
  let v92 : BitVec 1 := Scalar.cmpi .eq v91 c0_i32_44
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v93 : BitVec 32 := Scalar.subi c3_i32 v19
  let v94 : BitVec 32 := Scalar.select v92 v19 v93
  let v95 : BitVec 32 := Scalar.addi v81 v94
  let c16_i32 : BitVec 32 := 16#32
  let c4_i32_46 : BitVec 32 := 4#32
  let c3_i32_45 : BitVec 32 := 3#32
  let v96 : BitVec 32 := Scalar.subi c3_i32_45 v46
  let v97 : BitVec 32 := Scalar.muli c4_i32_46 v96
  let v98 : BitVec 32 := Scalar.addi c16_i32 v97
  let c3_i32_47 : BitVec 32 := 3#32
  let v99 : BitVec 32 := Scalar.subi c3_i32_47 v46
  let c2_i32_48 : BitVec 32 := 2#32
  let c0_i32_49 : BitVec 32 := 0#32
  let v100 : BitVec 1 := Scalar.cmpi .eq c2_i32_48 c0_i32_49
  let c1_i32_50 : BitVec 32 := 1#32
  let v101 : BitVec 32 := Scalar.select v100 c1_i32_50 c2_i32_48
  let v102 : BitVec 32 := Scalar.remsi v99 v101
  let c0_i32_52 : BitVec 32 := 0#32
  let v104 : BitVec 1 := Scalar.cmpi .slt v102 c0_i32_52
  let c0_i32_53 : BitVec 32 := 0#32
  let v105 : BitVec 1 := Scalar.cmpi .slt v101 c0_i32_53
  let v106 : BitVec 1 := Scalar.xori v104 v105
  let c0_i32_51 : BitVec 32 := 0#32
  let v103 : BitVec 1 := Scalar.cmpi .ne v102 c0_i32_51
  let v107 : BitVec 1 := Scalar.andi v106 v103
  let v108 : BitVec 32 := Scalar.addi v102 v101
  let v109 : BitVec 32 := Scalar.select v107 v108 v102
  let c0_i32_54 : BitVec 32 := 0#32
  let v110 : BitVec 1 := Scalar.cmpi .eq v109 c0_i32_54
  let c3_i32_55 : BitVec 32 := 3#32
  let v111 : BitVec 32 := Scalar.subi c3_i32_55 v19
  let v112 : BitVec 32 := Scalar.select v110 v19 v111
  let v113 : BitVec 32 := Scalar.addi v98 v112
  let v114 : BitVec 32 := Scalar.select v80 v95 v113
  let c1_i32_104 : BitVec 32 := 1#32
  let v205 : BitVec 32 := Scalar.subi v114 c1_i32_104
  let c64_i32_105 : BitVec 32 := 64#32
  let v206 : BitVec 32 := Scalar.addi v205 c64_i32_105
  let c32_i32_106 : BitVec 32 := 32#32
  let v207 : BitVec 32 := Scalar.remsi v206 c32_i32_106
  let c16_i32_114 : BitVec 32 := 16#32
  let c0_i32_115 : BitVec 32 := 0#32
  let v225 : BitVec 1 := Scalar.cmpi .eq c16_i32_114 c0_i32_115
  let c1_i32_116 : BitVec 32 := 1#32
  let v226 : BitVec 32 := Scalar.select v225 c1_i32_116 c16_i32_114
  let v227 : BitVec 32 := Scalar.remsi v207 v226
  let c0_i32_118 : BitVec 32 := 0#32
  let v229 : BitVec 1 := Scalar.cmpi .slt v227 c0_i32_118
  let c0_i32_119 : BitVec 32 := 0#32
  let v230 : BitVec 1 := Scalar.cmpi .slt v226 c0_i32_119
  let v231 : BitVec 1 := Scalar.xori v229 v230
  let c0_i32_117 : BitVec 32 := 0#32
  let v228 : BitVec 1 := Scalar.cmpi .ne v227 c0_i32_117
  let v232 : BitVec 1 := Scalar.andi v231 v228
  let v233 : BitVec 32 := Scalar.addi v227 v226
  let v234 : BitVec 32 := Scalar.select v232 v233 v227
  let c0_i32_121 : BitVec 32 := 0#32
  let v236 : BitVec 1 := Scalar.cmpi .sgt v234 c0_i32_121
  let v237 : BitVec 32 := Scalar.extui v236
  let c0_i32_122 : BitVec 32 := 0#32
  let v238 : BitVec 1 := Scalar.cmpi .slt v234 c0_i32_122
  let v239 : BitVec 32 := Scalar.extui v238
  let v240 : BitVec 32 := Scalar.subi v237 v239
  let c4_i32_120 : BitVec 32 := 4#32
  let c0_i32_123 : BitVec 32 := 0#32
  let v241 : BitVec 1 := Scalar.cmpi .sgt c4_i32_120 c0_i32_123
  let v242 : BitVec 32 := Scalar.extui v241
  let c0_i32_124 : BitVec 32 := 0#32
  let v243 : BitVec 1 := Scalar.cmpi .slt c4_i32_120 c0_i32_124
  let v244 : BitVec 32 := Scalar.extui v243
  let v245 : BitVec 32 := Scalar.subi v242 v244
  let v246 : BitVec 1 := Scalar.cmpi .ne v240 v245
  let v247 : BitVec 32 := Scalar.remsi v234 c4_i32_120
  let c0_i32_125 : BitVec 32 := 0#32
  let v248 : BitVec 1 := Scalar.cmpi .ne v247 c0_i32_125
  let v249 : BitVec 1 := Scalar.andi v246 v248
  let v235 : BitVec 32 := Scalar.divsi v234 c4_i32_120
  let c1_i32_126 : BitVec 32 := 1#32
  let v250 : BitVec 32 := Scalar.subi v235 c1_i32_126
  let v251 : BitVec 32 := Scalar.select v249 v250 v235
  let c2_i32_135 : BitVec 32 := 2#32
  let c0_i32_136 : BitVec 32 := 0#32
  let v265 : BitVec 1 := Scalar.cmpi .eq c2_i32_135 c0_i32_136
  let c1_i32_137 : BitVec 32 := 1#32
  let v266 : BitVec 32 := Scalar.select v265 c1_i32_137 c2_i32_135
  let v267 : BitVec 32 := Scalar.remsi v251 v266
  let c0_i32_139 : BitVec 32 := 0#32
  let v269 : BitVec 1 := Scalar.cmpi .slt v267 c0_i32_139
  let c0_i32_140 : BitVec 32 := 0#32
  let v270 : BitVec 1 := Scalar.cmpi .slt v266 c0_i32_140
  let v271 : BitVec 1 := Scalar.xori v269 v270
  let c0_i32_138 : BitVec 32 := 0#32
  let v268 : BitVec 1 := Scalar.cmpi .ne v267 c0_i32_138
  let v272 : BitVec 1 := Scalar.andi v271 v268
  let v273 : BitVec 32 := Scalar.addi v267 v266
  let v274 : BitVec 32 := Scalar.select v272 v273 v267
  let c0_i32_141 : BitVec 32 := 0#32
  let v275 : BitVec 1 := Scalar.cmpi .eq v274 c0_i32_141
  let c4_i32_127 : BitVec 32 := 4#32
  let c0_i32_128 : BitVec 32 := 0#32
  let v252 : BitVec 1 := Scalar.cmpi .eq c4_i32_127 c0_i32_128
  let c1_i32_129 : BitVec 32 := 1#32
  let v253 : BitVec 32 := Scalar.select v252 c1_i32_129 c4_i32_127
  let v254 : BitVec 32 := Scalar.remsi v234 v253
  let c0_i32_131 : BitVec 32 := 0#32
  let v256 : BitVec 1 := Scalar.cmpi .slt v254 c0_i32_131
  let c0_i32_132 : BitVec 32 := 0#32
  let v257 : BitVec 1 := Scalar.cmpi .slt v253 c0_i32_132
  let v258 : BitVec 1 := Scalar.xori v256 v257
  let c0_i32_130 : BitVec 32 := 0#32
  let v255 : BitVec 1 := Scalar.cmpi .ne v254 c0_i32_130
  let v259 : BitVec 1 := Scalar.andi v258 v255
  let v260 : BitVec 32 := Scalar.addi v254 v253
  let v261 : BitVec 32 := Scalar.select v259 v260 v254
  let c3_i32_142 : BitVec 32 := 3#32
  let v276 : BitVec 32 := Scalar.subi c3_i32_142 v261
  let v277 : BitVec 32 := Scalar.select v275 v261 v276
  let v278 : BitVec 32 := Scalar.muli c8_i32_143 v277
  let c2_i32_144 : BitVec 32 := 2#32
  let c0_i32_108 : BitVec 32 := 0#32
  let v209 : BitVec 1 := Scalar.cmpi .sgt v207 c0_i32_108
  let v210 : BitVec 32 := Scalar.extui v209
  let c0_i32_109 : BitVec 32 := 0#32
  let v211 : BitVec 1 := Scalar.cmpi .slt v207 c0_i32_109
  let v212 : BitVec 32 := Scalar.extui v211
  let v213 : BitVec 32 := Scalar.subi v210 v212
  let c16_i32_107 : BitVec 32 := 16#32
  let c0_i32_110 : BitVec 32 := 0#32
  let v214 : BitVec 1 := Scalar.cmpi .sgt c16_i32_107 c0_i32_110
  let v215 : BitVec 32 := Scalar.extui v214
  let c0_i32_111 : BitVec 32 := 0#32
  let v216 : BitVec 1 := Scalar.cmpi .slt c16_i32_107 c0_i32_111
  let v217 : BitVec 32 := Scalar.extui v216
  let v218 : BitVec 32 := Scalar.subi v215 v217
  let v219 : BitVec 1 := Scalar.cmpi .ne v213 v218
  let v220 : BitVec 32 := Scalar.remsi v207 c16_i32_107
  let c0_i32_112 : BitVec 32 := 0#32
  let v221 : BitVec 1 := Scalar.cmpi .ne v220 c0_i32_112
  let v222 : BitVec 1 := Scalar.andi v219 v221
  let v208 : BitVec 32 := Scalar.divsi v207 c16_i32_107
  let c1_i32_113 : BitVec 32 := 1#32
  let v223 : BitVec 32 := Scalar.subi v208 c1_i32_113
  let v224 : BitVec 32 := Scalar.select v222 v223 v208
  let c0_i32_133 : BitVec 32 := 0#32
  let v262 : BitVec 1 := Scalar.cmpi .eq v224 c0_i32_133
  let c3_i32_134 : BitVec 32 := 3#32
  let v263 : BitVec 32 := Scalar.subi c3_i32_134 v251
  let v264 : BitVec 32 := Scalar.select v262 v251 v263
  let v279 : BitVec 32 := Scalar.muli c2_i32_144 v264
  let v280 : BitVec 32 := Scalar.addi v278 v279
  let c2_i32_145 : BitVec 32 := 2#32
  let c0_i32_146 : BitVec 32 := 0#32
  let v281 : BitVec 1 := Scalar.cmpi .eq c2_i32_145 c0_i32_146
  let c1_i32_147 : BitVec 32 := 1#32
  let v282 : BitVec 32 := Scalar.select v281 c1_i32_147 c2_i32_145
  let v283 : BitVec 32 := Scalar.remsi v264 v282
  let c0_i32_149 : BitVec 32 := 0#32
  let v285 : BitVec 1 := Scalar.cmpi .slt v283 c0_i32_149
  let c0_i32_150 : BitVec 32 := 0#32
  let v286 : BitVec 1 := Scalar.cmpi .slt v282 c0_i32_150
  let v287 : BitVec 1 := Scalar.xori v285 v286
  let c0_i32_148 : BitVec 32 := 0#32
  let v284 : BitVec 1 := Scalar.cmpi .ne v283 c0_i32_148
  let v288 : BitVec 1 := Scalar.andi v287 v284
  let v289 : BitVec 32 := Scalar.addi v283 v282
  let v290 : BitVec 32 := Scalar.select v288 v289 v283
  let c0_i32_151 : BitVec 32 := 0#32
  let v291 : BitVec 1 := Scalar.cmpi .eq v290 c0_i32_151
  let c1_i32_152 : BitVec 32 := 1#32
  let v292 : BitVec 32 := Scalar.subi c1_i32_152 v224
  let v293 : BitVec 32 := Scalar.select v291 v224 v292
  let v294 : BitVec 32 := Scalar.addi v280 v293
  let c1_i32_1478 : BitVec 32 := 1#32
  let v2338 : BitVec 32 := Scalar.muli v294 c1_i32_1478
  let v2339 : BitVec 32 := Scalar.addi c0_i32_1479 v2338
  v2339.toNat
abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Same.lean ====
/-
# One kernel, printed twice

The kernel as it is run on real floats, bit for bit, and the kernel as it is read over the ideal values are the same text. So
at the bit-exact floats the two programs are equal, and what is proved of the second holds of the first.
-/
module

public import proofs.«01_k».proof.Defs
public import proofs.«01_k».proof.Proof.Gen.Kernel
public import proofs.«01_k».proof.Proof.Gen.KernelIdeal

@[expose] public section

noncomputable section

namespace Cert.Tour

open Idealize.ShloMosaic Idealize.SL.Sem

theorem body_same : Cert.Kernel.cc0_body (F := Bits) = Cert.KernelIdeal.cc0_body (F := Bits) := rfl

section
open Cert.KernelIdeal

/-- The two bodies are called on the same buffers and semaphores. -/
theorem bodies_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) =>
    exact congrArg (fun f => f
      (win0_0.stage (s 0)) (Cert.KernelIdeal.Gen.hstage0_0 0) (win0_1.stage (s 1))
      (Cert.KernelIdeal.Gen.hstage0_1 0) (win0_2.stage (s 2)) (Cert.KernelIdeal.Gen.hstage0_2 0) (Memref.whole
      cc0_scratch0) (Memref.isWhole_whole _) (Memref.whole cc0_scratch1) (Memref.isWhole_whole _)
      (Memref.whole cc0_scratch2) (Memref.isWhole_whole _) (Memref.whole cc0_scratch3) (Memref.isWhole_whole
      _) (Memref.whole cc0_scratch4) (Memref.isWhole_whole _) (Memref.whole cc0_scratch5)
      (Memref.isWhole_whole _) (Memref.whole cc0_scratch6) (Memref.isWhole_whole _) (Memref.whole
      cc0_scratch7) (Memref.isWhole_whole _) cc0_scratch8 cc0_scratch9 cc0_scratch10 cc0_scratch11
      cc0_scratch12 cc0_scratch13 cc0_scratch14 cc0_scratch15 cc0_scratch16 cc0_scratch17 cc0_scratch18
      cc0_scratch19) body_same

end

theorem defs_same : Cert.Kernel.defs (F := Bits) = Cert.KernelIdeal.defs (F := Bits) :=
  congrArg (Pipeline.defs Cert.KernelIdeal.pcfgs) bodies_same
theorem main_same : Cert.Kernel.main (F := Bits) = Cert.KernelIdeal.main (F := Bits) := rfl

/-- A run of the one is a run of the other. -/
theorem run_same (s : MemSt Cert.KernelIdeal.nD Cert.KernelIdeal.τ Cert.KernelIdeal.sig (Elt Bits))
    (Q : PUnit × MemSt Cert.KernelIdeal.nD Cert.KernelIdeal.τ Cert.KernelIdeal.sig (Elt Bits) → Prop)
    (h : θ_run Cert.KernelIdeal.defs (onTc (τ := Cert.KernelIdeal.τ) (Cert.KernelIdeal.main (F := Bits))) s Q) :
    θ_run Cert.Kernel.defs (onTc (τ := Cert.Kernel.τ) (Cert.Kernel.main (F := Bits))) s Q :=
  Eq.mpr (congrArg₂ (fun d p => θ_run d (onTc (τ := Cert.KernelIdeal.τ) p) s Q) defs_same main_same) h

end Cert.Tour

end
-- ==== Proof.Ring.lean ====
/-
# The ring of the thirty-two devices

The kernel walks a closed tour through the mesh: each device has a `spot` on it. Streams 0 and 1 travel towards the next
spot, streams 2 and 3 towards the one before. `up q c` is the device stream `q` reaches `c` from, `dn q c` the one it
goes to. The block of rows device `c` adds at step `h` of stream `q` is the one of the device `h + 1` steps up.

Here are the tour, and that the kernel's own device and row arithmetic computes it.
-/
module

public import proofs.«01_k».proof.Proof.Gen.KernelIdeal.Skeleton

@[expose] public section

noncomputable section

namespace Cert.Tour

open Cert.KernelIdeal Cert.KernelIdeal.Gen
open Idealize.ShloMosaic

/-- The spot of device `c` on the tour: four columns of devices, up one and down the next, first over the near face
    of the mesh, then back over the far one. -/
def spotNat (c : ℕ) : ℕ :=
  let z := c / 8
  let r := c % 8
  let y := r / 2
  let x := if y % 2 = 0 then r % 2 else 1 - r % 2
  if x = 0 then 4 * y + (if y % 2 = 0 then z else 3 - z)
  else 16 + 4 * (3 - y) + (if (3 - y) % 2 = 0 then z else 3 - z)

/-- The device at spot `p`. -/
def deviceNat (p : ℕ) : ℕ :=
  let x := p / 16
  let q := p % 16
  let y := q / 4
  let w := q % 4
  let yv := if x = 0 then y else 3 - y
  let zv := if y % 2 = 0 then w else 3 - w
  8 * zv + 2 * yv + (if yv % 2 = 0 then x else 1 - x)

/-- The device one spot further on. -/
def next (c : Dev nD) : Dev nD := ⟨deviceNat ((spotNat c.val + 1) % 32) % 32, Nat.mod_lt _ (by decide)⟩
/-- The device one spot back. -/
def prev (c : Dev nD) : Dev nD := ⟨deviceNat ((spotNat c.val + 31) % 32) % 32, Nat.mod_lt _ (by decide)⟩

theorem next_prev : ∀ c, next (prev c) = c := by decide +kernel
theorem prev_next : ∀ c, prev (next c) = c := by decide +kernel

/-- Whether stream `q` travels forwards. -/
def fwd (q : Fin 4) : Bool := decide (q.val < 2)

/-- The device stream `q` reaches `c` from. -/
def up (q : Fin 4) (c : Dev nD) : Dev nD := if fwd q then prev c else next c
/-- The device stream `q` goes to from `c`. -/
def dn (q : Fin 4) (c : Dev nD) : Dev nD := if fwd q then next c else prev c

theorem up_dn (q : Fin 4) (c : Dev nD) : up q (dn q c) = c := by
  unfold up dn; split
  · exact prev_next c
  · exact next_prev c
theorem dn_up (q : Fin 4) (c : Dev nD) : dn q (up q c) = c := by
  unfold up dn; split
  · exact next_prev c
  · exact prev_next c

/-- One step along stream `q`, as a permutation of the devices. -/
def shift (q : Fin 4) : Dev nD ≃ Dev nD := ⟨dn q, up q, up_dn q, dn_up q⟩

/-- The device whose block of rows `c` adds at step `h` of stream `q`. -/
def chunk (q : Fin 4) (h : ℕ) (c : Dev nD) : Dev nD := (up q)^[h + 1] c

theorem chunk_up (q : Fin 4) (h : ℕ) (c : Dev nD) : chunk q h (up q c) = chunk q (h + 1) c :=
  (Function.iterate_succ_apply (up q) (h + 1) c).symm

/-- After as many steps as there are devices the walk is back at its start. -/
theorem chunk_last : ∀ q c, chunk q 31 c = c := by decide +kernel

/-- The walk up from `c` meets every device once. -/
theorem walk_injective : ∀ (q : Fin 4) (c : Dev nD), Function.Injective fun j : Fin 32 => (up q)^[j.val] c := by
  decide +kernel

/-! ## The kernel's own arithmetic -/

theorem dev1_eq : ∀ c, k0_dev1 c = (prev c).val := by decide +kernel
theorem dev2_eq : ∀ c, k0_dev2 c = (next c).val := by decide +kernel

theorem fwd_sends : ∀ c, k0_dev3 c = (next c).val ∧ k0_dev5 c = (next c).val ∧ k0_dev8 c = (next c).val
    ∧ k0_dev12 c = (next c).val ∧ k0_dev16 c = (next c).val ∧ k0_dev20 c = (next c).val := by decide +kernel
theorem bwd_sends : ∀ c, k0_dev4 c = (prev c).val ∧ k0_dev6 c = (prev c).val ∧ k0_dev10 c = (prev c).val
    ∧ k0_dev14 c = (prev c).val ∧ k0_dev18 c = (prev c).val ∧ k0_dev22 c = (prev c).val := by decide +kernel
theorem fwd_credits : ∀ c, k0_dev7 c = (prev c).val ∧ k0_dev11 c = (prev c).val ∧ k0_dev15 c = (prev c).val
    ∧ k0_dev19 c = (prev c).val := by decide +kernel
theorem bwd_credits : ∀ c, k0_dev9 c = (next c).val ∧ k0_dev13 c = (next c).val ∧ k0_dev17 c = (next c).val
    ∧ k0_dev21 c = (next c).val := by decide +kernel

/-- The offsets of the block of rows of device `d`. -/
abbrev rowsAt (d : Dev nD) : Fin 2 → ℕ := ![128 * d.val, 0]

theorem rows_first : ∀ c, k0_off1 c 1#1 0#32 0#32 = rowsAt (chunk 0 0 c) ∧ k0_off1 c 0#1 0#32 0#32 = rowsAt (chunk 2 0 c) := by
  decide +kernel
theorem rows_second : ∀ c, k0_off1 c 1#1 1#32 1#32 = rowsAt (chunk 0 1 c) ∧ k0_off1 c 0#1 1#32 1#32 = rowsAt (chunk 2 1 c) := by
  decide +kernel
theorem rows_last : ∀ c, k0_off1 c 1#1 31#32 31#32 = rowsAt (chunk 0 31 c) ∧ k0_off1 c 0#1 31#32 31#32 = rowsAt (chunk 2 31 c) := by
  decide +kernel
theorem rows_hop : ∀ c (k : Fin k0_t1_loop.trips), k0_off2 c k 1#1 = rowsAt (chunk 0 (k.val + 2) c)
    ∧ k0_off2 c k 0#1 = rowsAt (chunk 2 (k.val + 2) c) := by
  decide +kernel

/-- Streams 0 and 1 walk alike, and so do streams 2 and 3. -/
theorem chunk_one (h : ℕ) (c : Dev nD) : chunk 1 h c = chunk 0 h c := rfl
theorem chunk_three (h : ℕ) (c : Dev nD) : chunk 3 h c = chunk 2 h c := rfl

theorem trips_eq : k0_t1_loop.trips = 29 := by decide +kernel

theorem credit_cond : ∀ k : Fin k0_t1_loop.trips, (k0_cond1 k = 1#1 ↔ k.val < 28) ∧ (k0_cond2 k = 1#1 ↔ k.val < 28)
    ∧ (k0_cond3 k = 1#1 ↔ k.val < 28) ∧ (k0_cond4 k = 1#1 ↔ k.val < 28) := by decide +kernel

end Cert.Tour

end
-- ==== Proof.Steps.lean ====
/-
# The kernel as steps of four streams

The printed kernel is one long straight program. Here it is said again as what it is: each of the four streams has a
step that starts it, a step that passes the first block on, a step for every later hop, and a step that finishes it.
A `Lane` is what one stream owns: its two-slot buffers to send from and to land in, its two-slot completion
semaphores, and its credit semaphore. A `Slot` is one of the two slots as the program spells it. That the printed
kernel is this program is by unfolding (`trip_eq`, `body_eq`).
-/
module

public import proofs.«01_k».proof.Proof.Ring
public import Idealize.ShloMosaic.Lib.Pipeline.Regions

@[expose] public section

noncomputable section

namespace Cert.Tour

open Cert.KernelIdeal Cert.KernelIdeal.Gen
open Idealize.ShloMosaic Idealize.SL.Sem

variable {F : FTy → Type} [FloatOps F]

/-- What one stream owns. -/
structure Lane where
  sb : Memref sig .tc .vmem S2x128x2048 .bf16
  hsb : sb.IsWhole
  rb : Memref sig .tc .vmem S2x128x2048 .bf16
  hrb : rb.IsWhole
  ss : DmaSems sig S2
  rs : DmaSems sig S2
  cr : Sems sig S_

theorem slab_inb : ∀ (s : Fin 2) a, (![s.val, 0, 0] : Fin 3 → ℕ) a + S1x128x2048.size a ≤ S2x128x2048.size a := by decide
theorem cell_inb : ∀ (s : Fin 2) a, (![s.val] : Fin 1 → ℕ) a + S1.size a ≤ S2.size a := by decide
theorem slab_packed : ∀ s : Fin 2,
    (Rect.unit (s := S2x128x2048) ![s.val, 0, 0] S1x128x2048.size (slab_inb s)).PackedRows (EltTy.packing .bf16) := by decide
theorem slab_words : ∀ s : Fin 2,
    (Rect.unit (s := S2x128x2048) ![s.val, 0, 0] S1x128x2048.size (slab_inb s)).WholeWords (EltTy.packing .bf16) := by decide

/-- One of the two slots, as the program spells its offsets: in a buffer for a transfer, in a buffer for a load or
    a store, in a semaphore array. -/
structure Slot where
  s : Fin 2
  o : Fin 3 → ℕ
  l : Fin 3 → ℕ
  p : Fin 1 → ℕ
  ho : o = ![s.val, 0, 0]
  hl : l = ![s.val, 0, 0]
  hp : p = ![s.val]

/-- Slot `s` with its offsets as literals. -/
abbrev lit (s : Fin 2) : Slot := ⟨s, _, _, _, rfl, rfl, rfl⟩

theorem Slot.eq_lit (σ : Slot) : σ = lit σ.s := by
  obtain ⟨s, o, l, p, ho, hl, hp⟩ := σ; subst ho hl hp; rfl

theorem Slot.o_inb (σ : Slot) : ∀ a, σ.o a + S1x128x2048.size a ≤ S2x128x2048.size a := by
  rw [σ.ho]; exact slab_inb σ.s
theorem Slot.l_inb (σ : Slot) : ∀ a, σ.l a + S1x128x2048.size a ≤ S2x128x2048.size a := by
  rw [σ.hl]; exact slab_inb σ.s
theorem Slot.p_inb (σ : Slot) : ∀ a, σ.p a + S1.size a ≤ S2.size a := by
  rw [σ.hp]; exact cell_inb σ.s

/-- The slot's rectangle of a buffer, for a transfer and for a load or a store. -/
abbrev Slot.slab (σ : Slot) : Rect S2x128x2048 := Rect.unit (s := S2x128x2048) σ.o S1x128x2048.size σ.o_inb
abbrev Slot.rows (σ : Slot) : Rect S2x128x2048 := Rect.unit (s := S2x128x2048) σ.l S1x128x2048.size σ.l_inb

theorem Slot.words (σ : Slot) : σ.slab.WholeWords (EltTy.packing .bf16) := by
  obtain ⟨s, o, l, p, ho, hl, hp⟩ := σ; subst ho; exact slab_words s
theorem Slot.packed (σ : Slot) : σ.rows.PackedRows (EltTy.packing .bf16) := by
  obtain ⟨s, o, l, p, ho, hl, hp⟩ := σ; subst hl; exact slab_packed s

/-- The slot of a buffer, and of a semaphore array. -/
abbrev bufAt (b : Memref sig .tc .vmem S2x128x2048 .bf16) (σ : Slot) : Memref sig .tc .vmem S128x2048 .bf16 :=
  (b.slice σ.slab (fun _ => rfl)).squeeze S128x2048 squeezes_S1x128x2048_S128x2048
abbrev semAt (a : DmaSems sig S2) (σ : Slot) : DmaSem sig :=
  ((a.slice (Rect.unit (s := S2) σ.p S1.size σ.p_inb)).squeeze S_ squeezes_S1_S_).sem

/-- Block `q` of columns. -/
theorem cols_inb : ∀ (q : Fin 4) a, (![0, 2048 * q.val] : Fin 2 → ℕ) a + S128x2048.size a ≤ S128x8192.size a := by decide
abbrev cols (q : Fin 4) : Rect S128x8192 := Rect.unit (s := S128x8192) ![0, 2048 * q.val] S128x2048.size (cols_inb q)

/-- A block of rows. -/
structure Rows where
  o : Fin 2 → ℕ
  h : ∀ a, o a + S128x128.size a ≤ S4096x128.size a
abbrev Rows.rect (R : Rows) : Rect S4096x128 := Rect.unit (s := S4096x128) R.o S128x128.size R.h

/-- A program of one TensorCore. -/
abbrev Code (F : FTy → Type) (α : Type) : Type _ := Prog (TpuEff nD τ sig (Elt F) Λ₀ .tc) α

/-! ## The single operations -/

/-- Start the transfer of slot `σ` to device `d`. -/
abbrev sendOp (ℓ : Lane) (σ : Slot) (d : Dev nD) : Code F PUnit :=
  Prog.lift (.enqueueDma (bufAt ℓ.sb σ) (.remote (Dev.tc d) (bufAt ℓ.rb σ) (.dma (semAt ℓ.ss σ))) (.dma (semAt ℓ.rs σ))
    ((ℓ.hsb.wordExact_slice rfl _ σ.words).reshape _ _) ((ℓ.hrb.wordExact_slice rfl _ σ.words).reshape _ _) ⟨⟨rfl, Or.inl rfl⟩, trivial⟩)
/-- Wait for the block that lands in slot `σ`. -/
abbrev landOp (ℓ : Lane) (σ : Slot) : Code F PUnit :=
  Prog.lift (.waitDma2 (semAt ℓ.rs σ) (bufAt ℓ.sb σ) (bufAt ℓ.rb σ)
    ((ℓ.hsb.wordExact_slice rfl _ σ.words).reshape _ _) ((ℓ.hrb.wordExact_slice rfl _ σ.words).reshape _ _))
/-- Wait for slot `σ` to have been sent. -/
abbrev sentOp (ℓ : Lane) (σ : Slot) : Code F PUnit :=
  Prog.lift (.waitDma2 (semAt ℓ.ss σ) (bufAt ℓ.rb σ) (bufAt ℓ.sb σ)
    ((ℓ.hrb.wordExact_slice rfl _ σ.words).reshape _ _) ((ℓ.hsb.wordExact_slice rfl _ σ.words).reshape _ _))
/-- Load slot `σ` of a buffer. -/
abbrev readOp (b : Memref sig .tc .vmem S2x128x2048 .bf16) (σ : Slot) : Code F (Vec F S1x128x2048 .bf16) :=
  Prog.lift (.load b σ.rows.toLoadRect (View.loadsAt_vmem h_S1x128x2048))
/-- Store slot `σ` of the buffer to send from. -/
abbrev fillOp (ℓ : Lane) (σ : Slot) (v : FVec F S1x128x2048 .bf16) : Code F PUnit :=
  Prog.lift (.store ℓ.sb σ.rows v Finset.univ (View.stores_vmem h_S1x128x2048 (ℓ.hsb.storeExact_slice rfl _ σ.packed) (fun _ => rfl)) (.inl rfl))
/-- Load a block of rows of `x`, a block of columns of `w`. -/
abbrev xOp (x : Memref sig .tc .vmem S4096x128 .bf16) (R : Rows) : Code F (Vec F S128x128 .bf16) :=
  Prog.lift (.load x R.rect.toLoadRect (View.loadsAt_vmem h_S128x128))
abbrev wOp (w : Memref sig .tc .vmem S128x8192 .bf16) (q : Fin 4) : Code F (Vec F S128x2048 .bf16) :=
  Prog.lift (.load w (cols q).toLoadRect (View.loadsAt_vmem h_S128x2048))

/-! ## The steps of one stream -/

/-- Start stream `q`: the first product, sent to `d`. -/
def firstStep (x : Memref sig .tc .vmem S4096x128 .bf16) (w : Memref sig .tc .vmem S128x8192 .bf16) (ℓ : Lane) (q : Fin 4)
    (R : Rows) (d : Dev nD) : Code F PUnit := do
  let a : Vec F S128x128 .bf16 ← xOp x R
  let b : Vec F S128x2048 .bf16 ← wOp w q
  let _ : Vec F S1x128x2048 .bf16 ← readOp ℓ.sb (lit 0)
  fillOp ℓ (lit 0) (k0_pay8 a b)
  sendOp ℓ (lit 0) d

/-- Pass the first block on: what lands, and the product added, is sent to `d`; `u` is told its slot is free. -/
def secondStep (x : Memref sig .tc .vmem S4096x128 .bf16) (w : Memref sig .tc .vmem S128x8192 .bf16) (ℓ : Lane) (q : Fin 4)
    (R : Rows) (u d : Dev nD) : Code F PUnit := do
  let a : Vec F S128x128 .bf16 ← xOp x R
  let b : Vec F S128x2048 .bf16 ← wOp w q
  landOp ℓ (lit 0)
  let r : Vec F S1x128x2048 .bf16 ← readOp ℓ.rb (lit 0)
  let _ : Vec F S1x128x2048 .bf16 ← readOp ℓ.sb (lit 1)
  fillOp ℓ (lit 1) (k0_pay7 a b r)
  semSignalWord u ℓ.cr.sem 1#32
  sendOp ℓ (lit 1) d

/-- A later hop: the same, after the slot to send from is free and the far landing slot is known to be. `g` says
    whether the slot that landed will be landed in again. -/
def hopStep (x : Memref sig .tc .vmem S4096x128 .bf16) (w : Memref sig .tc .vmem S128x8192 .bf16) (ℓ : Lane) (q : Fin 4)
    (R : Rows) (g : BitVec 1) (σ σ' : Slot) (u d : Dev nD) : Code F PUnit := do
  let a : Vec F S128x128 .bf16 ← xOp x R
  let b : Vec F S128x2048 .bf16 ← wOp w q
  landOp ℓ σ
  let r : Vec F S1x128x2048 .bf16 ← readOp ℓ.rb σ
  sentOp ℓ σ'
  let _ : Vec F S1x128x2048 .bf16 ← readOp ℓ.sb σ'
  fillOp ℓ σ' (k0_pay7 a b r)
  if g = 1#1 then do
    semSignalWord u ℓ.cr.sem 1#32
    pure ⟨⟩
  else do
    pure ⟨⟩
  semWaitWord ℓ.cr.sem 1#32
  sendOp ℓ σ' d

/-- Finish stream `q`: the last sum into its columns of the result; both slots sent. -/
def lastStep (x : Memref sig .tc .vmem S4096x128 .bf16) (w : Memref sig .tc .vmem S128x8192 .bf16)
    (o : Memref sig .tc .vmem S128x8192 .f32) (ℓ : Lane) (q : Fin 4) (R : Rows) : Code F PUnit := do
  let a : Vec F S128x128 .bf16 ← xOp x R
  let b : Vec F S128x2048 .bf16 ← wOp w q
  landOp ℓ (lit 0)
  let r : Vec F S1x128x2048 .bf16 ← readOp ℓ.rb (lit 0)
  let _ : Vec F S128x2048 .f32 ← Prog.lift (.load o (cols q).toLoadRect (View.loadsAt_vmem h_S128x2048))
  Prog.lift (.store o (cols q) (k0_pay25 a b r) Finset.univ (View.stores_vmem_bits_univ h_S128x2048 rfl) (.inl rfl))
  sentOp ℓ (lit 1)
  sentOp ℓ (lit 0)

/-! ## The steps of the four -/

/-- The slot that lands in trip `k`, and the slot it sends from. -/
abbrev slotIn (k : Fin k0_t1_loop.trips) : Slot :=
  ⟨⟨(k.val + 1) % 2, Nat.mod_lt _ (by decide)⟩, k0_off4 k, k0_off5 k, k0_off3 k, k0_off4_eq k, k0_off5_eq k, k0_off3_eq k⟩
abbrev slotOut (k : Fin k0_t1_loop.trips) : Slot :=
  ⟨⟨(k.val + 2) % 2, Nat.mod_lt _ (by decide)⟩, k0_off7 k, k0_off8 k, k0_off6 k, k0_off7_eq k, k0_off8_eq k, k0_off6_eq k⟩

/-- A device by its number, known to be below the number of devices by what it equals. -/
abbrev devOf (n : ℕ) (e : Dev nD) (h : n = e.val) : Dev nD := ⟨n, h ▸ e.isLt⟩

section
variable (x : Memref sig .tc .vmem S4096x128 .bf16) (w : Memref sig .tc .vmem S128x8192 .bf16) (o : Memref sig .tc .vmem S128x8192 .f32)
  (ℓ : Fin 4 → Lane) (d : Dev nD)

/-- The barrier semaphore both neighbours meet at. -/
abbrev barS : Sem sig := (SemArray.scalar (sig.barrier 0 rfl) : Sems sig S_).sem

def meet : Code F PUnit := do
  semSignalWord (devOf (k0_dev1 d) _ (dev1_eq d)) barS 1#32
  semSignalWord (devOf (k0_dev2 d) _ (dev2_eq d)) barS 1#32
  semWaitWord barS 2#32

def firsts : Code F PUnit := do
  firstStep x w (ℓ 0) 0 ⟨_, k0_off1_inb d 0⟩ (devOf (k0_dev3 d) _ (fwd_sends d).1)
  firstStep x w (ℓ 2) 2 ⟨_, k0_off1_inb d 1⟩ (devOf (k0_dev4 d) _ (bwd_sends d).1)
  firstStep x w (ℓ 1) 1 ⟨_, k0_off1_inb d 0⟩ (devOf (k0_dev5 d) _ (fwd_sends d).2.1)
  firstStep x w (ℓ 3) 3 ⟨_, k0_off1_inb d 1⟩ (devOf (k0_dev6 d) _ (bwd_sends d).2.1)

def seconds : Code F PUnit := do
  secondStep x w (ℓ 0) 0 ⟨_, k0_off1_inb d 2⟩ (devOf (k0_dev7 d) _ (fwd_credits d).1) (devOf (k0_dev8 d) _ (fwd_sends d).2.2.1)
  secondStep x w (ℓ 2) 2 ⟨_, k0_off1_inb d 3⟩ (devOf (k0_dev9 d) _ (bwd_credits d).1) (devOf (k0_dev10 d) _ (bwd_sends d).2.2.1)
  secondStep x w (ℓ 1) 1 ⟨_, k0_off1_inb d 2⟩ (devOf (k0_dev11 d) _ (fwd_credits d).2.1) (devOf (k0_dev12 d) _ (fwd_sends d).2.2.2.1)
  secondStep x w (ℓ 3) 3 ⟨_, k0_off1_inb d 3⟩ (devOf (k0_dev13 d) _ (bwd_credits d).2.1) (devOf (k0_dev14 d) _ (bwd_sends d).2.2.2.1)

def trip (k : Fin k0_t1_loop.trips) : Code F PUnit := do
  hopStep x w (ℓ 0) 0 ⟨_, k0_off2_inb d k 1⟩ (k0_cond1 k) (slotIn k) (slotOut k)
    (devOf (k0_dev15 d) _ (fwd_credits d).2.2.1) (devOf (k0_dev16 d) _ (fwd_sends d).2.2.2.2.1)
  hopStep x w (ℓ 2) 2 ⟨_, k0_off2_inb d k 0⟩ (k0_cond2 k) (slotIn k) (slotOut k)
    (devOf (k0_dev17 d) _ (bwd_credits d).2.2.1) (devOf (k0_dev18 d) _ (bwd_sends d).2.2.2.2.1)
  hopStep x w (ℓ 1) 1 ⟨_, k0_off2_inb d k 1⟩ (k0_cond3 k) (slotIn k) (slotOut k)
    (devOf (k0_dev19 d) _ (fwd_credits d).2.2.2) (devOf (k0_dev20 d) _ (fwd_sends d).2.2.2.2.2)
  hopStep x w (ℓ 3) 3 ⟨_, k0_off2_inb d k 0⟩ (k0_cond4 k) (slotIn k) (slotOut k)
    (devOf (k0_dev21 d) _ (bwd_credits d).2.2.2) (devOf (k0_dev22 d) _ (bwd_sends d).2.2.2.2.2)

def lasts : Code F PUnit := do
  lastStep x w o (ℓ 0) 0 ⟨_, k0_off1_inb d 4⟩
  lastStep x w o (ℓ 2) 2 ⟨_, k0_off1_inb d 5⟩
  lastStep x w o (ℓ 1) 1 ⟨_, k0_off1_inb d 4⟩
  lastStep x w o (ℓ 3) 3 ⟨_, k0_off1_inb d 5⟩

/-- The kernel. -/
def program : Code F PUnit := do
  let d : Dev nD ← Prog.lift .deviceId
  meet d
  firsts x w ℓ d
  seconds x w ℓ d
  Scf.Loop.for k0_t1_loop k0_t1_ok ⟨⟩ fun k _ => trip x w ℓ d k
  lasts x w o ℓ d

end

/-! ## The printed kernel is the program -/

section
variable (arg0 : Memref sig .tc .vmem S4096x128 .bf16) (harg0 : arg0.IsWhole) (arg1 : Memref sig .tc .vmem S128x8192 .bf16) (harg1 : arg1.IsWhole)
  (arg2 : Memref sig .tc .vmem S128x8192 .f32) (harg2 : arg2.IsWhole) (ℓ : Fin 4 → Lane)

set_option maxRecDepth 65536 in
/-- One trip of the printed loop: the four credits are given on the same trips, so there are two cases. -/
theorem trip_eq (d : Dev nD) (a b e : BitVec 32) :
    k0_t1_body (F := F) arg0 harg0 arg1 harg1 arg2 harg2 (ℓ 0).sb (ℓ 0).hsb (ℓ 1).sb (ℓ 1).hsb (ℓ 2).sb (ℓ 2).hsb (ℓ 3).sb (ℓ 3).hsb
      (ℓ 0).rb (ℓ 0).hrb (ℓ 1).rb (ℓ 1).hrb (ℓ 2).rb (ℓ 2).hrb (ℓ 3).rb (ℓ 3).hrb (ℓ 0).ss (ℓ 1).ss (ℓ 2).ss (ℓ 3).ss
      (ℓ 0).rs (ℓ 1).rs (ℓ 2).rs (ℓ 3).rs (ℓ 0).cr (ℓ 1).cr (ℓ 2).cr (ℓ 3).cr d a b e = fun k _ => trip arg0 arg1 ℓ d k := by
  funext k y
  simp only [k0_t1_body, trip, hopStep, k0_part4_eq_skeleton, k0_part8_eq_skeleton, k0_part12_eq_skeleton, k0_part15_eq_skeleton,
    k0_part4_skel, k0_part8_skel, k0_part12_skel, k0_part15_skel]
  by_cases h : k.val < 28
  · simp only [dif_pos ((credit_cond k).1.2 h), dif_pos ((credit_cond k).2.1.2 h), dif_pos ((credit_cond k).2.2.1.2 h),
      dif_pos ((credit_cond k).2.2.2.2 h), if_pos ((credit_cond k).1.2 h), if_pos ((credit_cond k).2.1.2 h),
      if_pos ((credit_cond k).2.2.1.2 h), if_pos ((credit_cond k).2.2.2.2 h)]
    chain_rfl
  · simp only [dif_neg (mt (credit_cond k).1.1 h), dif_neg (mt (credit_cond k).2.1.1 h), dif_neg (mt (credit_cond k).2.2.1.1 h),
      dif_neg (mt (credit_cond k).2.2.2.1 h), if_neg (mt (credit_cond k).1.1 h), if_neg (mt (credit_cond k).2.1.1 h),
      if_neg (mt (credit_cond k).2.2.1.1 h), if_neg (mt (credit_cond k).2.2.2.1 h)]
    chain_rfl

set_option maxRecDepth 65536 in
theorem body_eq :
    cc0_body (F := F) arg0 harg0 arg1 harg1 arg2 harg2 (ℓ 0).sb (ℓ 0).hsb (ℓ 1).sb (ℓ 1).hsb (ℓ 2).sb (ℓ 2).hsb (ℓ 3).sb (ℓ 3).hsb
      (ℓ 0).rb (ℓ 0).hrb (ℓ 1).rb (ℓ 1).hrb (ℓ 2).rb (ℓ 2).hrb (ℓ 3).rb (ℓ 3).hrb (ℓ 0).ss (ℓ 1).ss (ℓ 2).ss (ℓ 3).ss
      (ℓ 0).rs (ℓ 1).rs (ℓ 2).rs (ℓ 3).rs (ℓ 0).cr (ℓ 1).cr (ℓ 2).cr (ℓ 3).cr = program arg0 arg1 arg2 ℓ := by
  simp only [bind_assoc, pure_bind, cc0_body_eq_skeleton, cc0_body_skel, k0_part51_eq_skeleton, k0_part51_skel, trip_eq arg0 harg0 arg1 harg1 arg2 harg2 ℓ]
  chain_rfl
end

end Cert.Tour

end
-- ==== Proof.Sched.lean ====
/-
# Who owes what to whom

Each stream has, on each device, a two-slot buffer to send from, a two-slot buffer to land in, two completion
semaphores for either, and a credit semaphore. Step `h` of a stream uses slot `h % 2`, for the `h / 2`-th time.

What a device adds at step `h` and sends on is `sent`. A block that lands hands its slot over with the contents; a
block that is sent hands the slot back. At the barrier every device hands its landing buffers to the devices that
send to it.

The credits need more. The downstream device frees the slot of step `k` when it has read it, and two such signals may
be under way at once and may arrive in either order, so a credit cannot carry its slot. Instead the downstream device
puts the slot on a shelf (`shelf`) and counts what it has put there; a credit carries only the fact that so many
have been put. After `n` credits some credit says that at least `n` have been put, so the `n`-th slot is on the shelf.
-/
module

public import proofs.«01_k».proof.Proof.Steps
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Tour

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's, the semaphores', and the shelves' counts -/

/-- The two counts of the shelf of stream `q` at device `c`: slots put, slots taken. -/
abbrev Shelf : Type := (Dev nD × Fin 4) × Bool

abbrev UA : Type := URounds (GSem nD τ sig) ℕ
abbrev UB : Type := URounds Shelf Unit
abbrev UU : Type := UR sig nD τ × (UA × UB)

local notation "𝕄" => MT nD τ sig ℕ (Elt F) ℕ UU ℕ

abbrev EP : Emb (UR sig nD τ) (MT nD τ sig ℕ (Elt F) ℕ UU ℕ) := embL
def ER : Emb UA (MT nD τ sig ℕ (Elt F) ℕ UU ℕ) := (Emb.inl : Emb UA (UA × UB)).trans embR
def EC : Emb UB (MT nD τ sig ℕ (Elt F) ℕ UU ℕ) := (Emb.inr : Emb UB (UA × UB)).trans embR

omit [FloatOps F] in
instance ER_landsIn : (ER (F := F)).LandsIn (upEmb : UEmb _ 𝕄) := by unfold ER embR; infer_instance
omit [FloatOps F] in
instance EC_landsIn : (EC (F := F)).LandsIn (upEmb : UEmb _ 𝕄) := by unfold EC embR; infer_instance

/-! ## The streams' buffers and semaphores -/

def lane : Fin 4 → Lane
  | 0 => ⟨Memref.whole cc0_scratch0, Memref.isWhole_whole _, Memref.whole cc0_scratch4, Memref.isWhole_whole _, cc0_scratch8, cc0_scratch12, cc0_scratch16⟩
  | 1 => ⟨Memref.whole cc0_scratch1, Memref.isWhole_whole _, Memref.whole cc0_scratch5, Memref.isWhole_whole _, cc0_scratch9, cc0_scratch13, cc0_scratch17⟩
  | 2 => ⟨Memref.whole cc0_scratch2, Memref.isWhole_whole _, Memref.whole cc0_scratch6, Memref.isWhole_whole _, cc0_scratch10, cc0_scratch14, cc0_scratch18⟩
  | 3 => ⟨Memref.whole cc0_scratch3, Memref.isWhole_whole _, Memref.whole cc0_scratch7, Memref.isWhole_whole _, cc0_scratch11, cc0_scratch15, cc0_scratch19⟩

abbrev xM : Memref sig .tc .vmem S4096x128 .bf16 := Memref.whole cc0_stg0_0
abbrev wM : Memref sig .tc .vmem S128x8192 .bf16 := Memref.whole cc0_stg1_0
abbrev oM : Memref sig .tc .vmem S128x8192 .f32 := Memref.whole cc0_stg2_0

/-- The slot of step `h`. -/
abbrev slot (h : ℕ) : Fin 2 := ⟨h % 2, Nat.mod_lt _ (by decide)⟩

theorem slot_two (h : ℕ) : slot (h + 2) = slot h := Fin.ext (by simp)

/-- The members of a set with one more. -/
theorem sep_insert {M : Type _} [URA M] {I : Type _} [DecidableEq I] {i : I} {s : Finset I} (h : i ∉ s) {Φ : I → sProp M} :
    bigSep (insert i s) Φ = iprop(Φ i ∗ bigSep s Φ) := bigSep_insert h

/-- The members of a part and the rest. -/
theorem sep_split {M : Type _} [URA M] {I : Type _} [DecidableEq I] {s t : Finset I} (h : t ⊆ s) {Φ : I → sProp M} :
    bigSep s Φ = iprop(bigSep t Φ ∗ bigSep (s \ t) Φ) := bigSep_sdiff_split h

/-- One member of a set, the rest dropped. -/
theorem sep_elim {M : Type _} [URA M] {I : Type _} [DecidableEq I] {i : I} {s : Finset I} (h : i ∈ s) {Φ : I → sProp M} :
    bigSep s Φ ⊢ Φ i := bigSep_elim h

/-- The semaphores of a device, by what they are for. -/
inductive Part
  | bar
  | cr (q : Fin 4)
  | sd (q : Fin 4) (s : Fin 2)
  | rv (q : Fin 4) (s : Fin 2)
  deriving DecidableEq

/-- The four kinds side by side. -/
def partEquiv : (Unit ⊕ Fin 4) ⊕ (Fin 4 × Fin 2) ⊕ (Fin 4 × Fin 2) ≃ Part where
  toFun | .inl (.inl _) => .bar | .inl (.inr q) => .cr q | .inr (.inl a) => .sd a.1 a.2 | .inr (.inr a) => .rv a.1 a.2
  invFun | .bar => .inl (.inl ()) | .cr q => .inl (.inr q) | .sd q s => .inr (.inl (q, s)) | .rv q s => .inr (.inr (q, s))
  left_inv := by rintro ((_ | _) | (_ | _)) <;> rfl
  right_inv := by rintro (_ | _ | _ | _) <;> rfl
instance : Fintype Part := Fintype.ofEquiv _ partEquiv

/-- The semaphore that is for `p`, -/
def semOf : Part → SemLoc sig
  | .bar => .reg barS
  | .cr q => .reg (lane q).cr.sem
  | .sd q s => .dma (semAt (lane q).ss (lit s))
  | .rv q s => .dma (semAt (lane q).rs (lit s))

/-- and what a semaphore is for. The first three transfer semaphores are not the streams'. -/
def partOf : SemLoc sig → Option Part
  | .reg i => some (if h : i.val < 4 then .cr ⟨i.val, h⟩ else .bar)
  | .dma i =>
    if i.val < 3 then none
    else if i.val < 11 then some (.sd ⟨(i.val - 3) / 2 % 4, Nat.mod_lt _ (by decide)⟩ ⟨(i.val - 3) % 2, Nat.mod_lt _ (by decide)⟩)
    else some (.rv ⟨(i.val - 11) / 2 % 4, Nat.mod_lt _ (by decide)⟩ ⟨(i.val - 11) % 2, Nat.mod_lt _ (by decide)⟩)

theorem part_bar : partOf (semOf .bar) = some .bar := rfl
theorem part_cr : ∀ q, partOf (semOf (.cr q)) = some (.cr q) | 0 => rfl | 1 => rfl | 2 => rfl | 3 => rfl
theorem part_sd : ∀ q s, partOf (semOf (.sd q s)) = some (.sd q s)
  | 0, 0 => rfl | 0, 1 => rfl | 1, 0 => rfl | 1, 1 => rfl | 2, 0 => rfl | 2, 1 => rfl | 3, 0 => rfl | 3, 1 => rfl
theorem part_rv : ∀ q s, partOf (semOf (.rv q s)) = some (.rv q s)
  | 0, 0 => rfl | 0, 1 => rfl | 1, 0 => rfl | 1, 1 => rfl | 2, 0 => rfl | 2, 1 => rfl | 3, 0 => rfl | 3, 1 => rfl
theorem part_semOf : ∀ p, partOf (semOf p) = some p
  | .bar => part_bar | .cr q => part_cr q | .sd q s => part_sd q s | .rv q s => part_rv q s

abbrev cell (c : Dev nD) (p : Part) : GSem nD τ sig := ((c : Thread nD τ), semOf p)
abbrev barCell (c : Dev nD) : GSem nD τ sig := cell c .bar
abbrev credCell (c : Dev nD) (q : Fin 4) : GSem nD τ sig := cell c (.cr q)
/-- The cells of step `h`. -/
abbrev sendCell (c : Dev nD) (q : Fin 4) (h : ℕ) : GSem nD τ sig := cell c (.sd q (slot h))
abbrev recvCell (c : Dev nD) (q : Fin 4) (h : ℕ) : GSem nD τ sig := cell c (.rv q (slot h))

/-- What a block counts on a completion semaphore. -/
def N : ℕ := (bufAt (Memref.whole cc0_scratch4) (lit 0)).view.dmaCredit
theorem N_pos : 0 < N := View.dmaCredit_pos _ (by decide)
theorem N_rb : ∀ q s, (bufAt (lane q).rb (lit s)).view.dmaCredit = N
  | 0, 0 => rfl | 0, 1 => rfl | 1, 0 => rfl | 1, 1 => rfl | 2, 0 => rfl | 2, 1 => rfl | 3, 0 => rfl | 3, 1 => rfl
theorem N_sb : ∀ q s, (bufAt (lane q).sb (lit s)).view.dmaCredit = N
  | 0, 0 => rfl | 0, 1 => rfl | 1, 0 => rfl | 1, 1 => rfl | 2, 0 => rfl | 2, 1 => rfl | 3, 0 => rfl | 3, 1 => rfl

/-! ## Contents -/

variable (m : (ℓ : Loc nD τ sig) → Buf (Elt F) ℓ)

/-- The operands as the kernel holds them. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

theorem rows_inb : ∀ (d : Dev nD) a, rowsAt d a + S128x128.size a ≤ S4096x128.size a := by decide +kernel
/-- The block of rows of device `d`. -/
abbrev rowsOf (d : Dev nD) : Rows := ⟨rowsAt d, rows_inb d⟩

def xr (c d : Dev nD) : Vec F S128x128 .bf16 := (xM.access (rowsOf d).rect).read (Elt F) (xstg m c)
def wc (c : Dev nD) (q : Fin 4) : Vec F S128x2048 .bf16 := (wM.access (cols q)).read (Elt F) (wstg m c)

/-- What device `c` sends on at step `h` of stream `q`. -/
def sent (q : Fin 4) : ℕ → Dev nD → Vec F S1x128x2048 .bf16
  | 0, c => k0_pay8 (xr m c (chunk q 0 c)) (wc m c q)
  | h + 1, c => k0_pay7 (xr m c (chunk q (h + 1) c)) (wc m c q) (sent q h (up q c))

/-- The columns `q` of device `c`'s result. -/
def total (q : Fin 4) (c : Dev nD) : Vec F S128x2048 .f32 :=
  k0_pay25 (xr m c (chunk q 31 c)) (wc m c q) (sent m q 30 (up q c))

/-- A slot of a buffer, with some contents; with contents `V`. -/
def free (c : Dev nD) (b : Memref sig .tc .vmem S2x128x2048 .bf16) (s : Fin 2) : sProp 𝕄 :=
  iprop(∃ f : Buf (Elt F) ((bufAt b (lit s)).view.loc (c : Thread nD τ)),
    (bufAt b (lit s)).view.loc (c : Thread nD τ) ↦[(bufAt b (lit s)).view.set]{fullShare} f)
def holds (c : Dev nD) (b : Memref sig .tc .vmem S2x128x2048 .bf16) (s : Fin 2) (V : Vec F S1x128x2048 .bf16) : sProp 𝕄 :=
  iprop(∃ f : Buf (Elt F) ((bufAt b (lit s)).view.loc (c : Thread nD τ)),
    ⌜(b.access (lit s).rows).read (Elt F) f = V⌝
      ∗ (bufAt b (lit s)).view.loc (c : Thread nD τ) ↦[(bufAt b (lit s)).view.set]{fullShare} f)

omit [FloatOps F] in
instance free_storable (c : Dev nD) (b) (s) : Storable (upEmb : UEmb _ 𝕄) (free (F := F) c b s) := by
  unfold free; infer_instance
omit [FloatOps F] in
instance holds_storable (c : Dev nD) (b) (s) (V) : Storable (upEmb : UEmb _ 𝕄) (holds (F := F) c b s V) := by
  unfold holds; infer_instance

omit [FloatOps F] in
theorem holds_free (c : Dev nD) (b) (s) (V) : holds (F := F) c b s V ⊢ free c b s := by
  unfold holds free
  iintro ⟨%f, -, H⟩
  iexists f
  iexact H

/-- Both slots of the landing buffer of stream `q` on device `e`. -/
def inbox (e : Dev nD) (q : Fin 4) : sProp 𝕄 := iprop(free e (lane q).rb 0 ∗ free e (lane q).rb 1)

omit [FloatOps F] in
instance inbox_storable (e : Dev nD) (q) : Storable (upEmb : UEmb _ 𝕄) (inbox (F := F) e q) := by
  unfold inbox; infer_instance

/-! ## The schedule -/

/-- What the devices that `c` sends to hand it at the barrier: duty 0 is from the next spot, duty 1 from the one before. -/
def barPay (c : Dev nD) (d : ℕ) : sProp 𝕄 :=
  if d = 0 then iprop(inbox (dn 0 c) 0 ∗ inbox (dn 1 c) 1) else iprop(inbox (dn 2 c) 2 ∗ inbox (dn 3 c) 3)

omit [FloatOps F] in
instance barPay_storable (c : Dev nD) (d) : Storable (upEmb : UEmb _ 𝕄) (barPay (F := F) c d) := by
  unfold barPay; split <;> infer_instance

/-- What `d` says of the shelf of stream `q` at `c`: more than `d` slots have been put on it. -/
def put (c : Dev nD) (q : Fin 4) (d : ℕ) : sProp 𝕄 := reached (EC (F := F)) ((c, q), false) (d + 1)

omit [FloatOps F] in
instance put_persistent (c : Dev nD) (q) (d) : Persistent (put (F := F) c q d) := by unfold put; infer_instance
omit [FloatOps F] in
instance put_storable (c : Dev nD) (q) (d) : Storable (upEmb : UEmb _ 𝕄) (put (F := F) c q d) := by
  unfold put; infer_instance

def dutiesOf (p : Part) (r : ℕ) : Finset ℕ :=
  match p with
  | .bar => if r = 0 then {0, 1} else ∅
  | .cr _ => if r = 0 then Finset.range 29 else ∅
  | .sd _ s => if 2 * r + s.val < 31 then {0} else ∅
  | .rv _ s => if 2 * r + s.val < 31 then {0} else ∅

def amountOf (p : Part) : ℕ :=
  match p with
  | .bar => 1
  | .cr _ => 1
  | .sd _ _ => N
  | .rv _ _ => N

theorem amountOf_pos (p : Part) : 0 < amountOf p := by
  cases p <;> first | exact Nat.one_pos | exact N_pos

def payOf (c : Dev nD) (p : Part) (r d : ℕ) : sProp 𝕄 :=
  match p with
  | .bar => barPay c d
  | .cr q => put c q d
  | .sd q s => free c (lane q).sb s
  | .rv q s => holds c (lane q).rb s (sent m q (2 * r + s.val) (up q c))

instance payOf_storable (c : Dev nD) (p : Part) (r d : ℕ) : Storable (upEmb : UEmb _ 𝕄) (payOf m c p r d) := by
  cases p <;> unfold payOf <;> infer_instance

def rd : Rounds.Schedule (GSem nD τ sig) ℕ 𝕄 where
  duties g r := if g.1.2 = .tc then (partOf g.2).elim ∅ (dutiesOf · r) else ∅
  amount g _ _ := (partOf g.2).elim 1 amountOf
  payload g r d := (partOf g.2).elim iprop(emp) (payOf m g.1.1 · r d)
  amount_pos g _ _ _ := by
    cases partOf g.2
    · exact Nat.one_pos
    · exact amountOf_pos _
  unitless _ := False

instance rd_storable (g : GSem nD τ sig) (r d : ℕ) : Storable (upEmb : UEmb _ 𝕄) ((rd m).payload g r d) := by
  show Storable upEmb ((partOf g.2).elim iprop(emp) (payOf m g.1.1 · r d))
  cases partOf g.2
  · show Storable upEmb iprop(emp); infer_instance
  · show Storable upEmb (payOf m g.1.1 _ r d); infer_instance

section
variable (c : Dev nD) (p : Part) (q : Fin 4) (r d h : ℕ)

theorem duties_eq : (rd (F := F) m).duties (cell c p) r = dutiesOf p r := by
  show (if (cell c p).1.2 = .tc then (partOf (semOf p)).elim ∅ (dutiesOf · r) else ∅) = _
  rw [if_pos rfl, part_semOf]; rfl
theorem amount_eq : (rd (F := F) m).amount (cell c p) r d = amountOf p := by
  show (partOf (semOf p)).elim 1 amountOf = _
  rw [part_semOf]; rfl
theorem payload_eq : (rd (F := F) m).payload (cell c p) r d = payOf m c p r d := by
  show (partOf (semOf p)).elim iprop(emp) (payOf m c · r d) = _
  rw [part_semOf]; rfl

theorem half (h : ℕ) : 2 * (h / 2) + (slot h).val = h := by show 2 * (h / 2) + h % 2 = h; omega

theorem duties_send (hh : h < 31) : (rd (F := F) m).duties (sendCell c q h) (h / 2) = {0} := by
  rw [duties_eq]; exact if_pos (by rw [half]; exact hh)
theorem duties_recv (hh : h < 31) : (rd (F := F) m).duties (recvCell c q h) (h / 2) = {0} := by
  rw [duties_eq]; exact if_pos (by rw [half]; exact hh)
theorem payload_recv : (rd m).payload (recvCell c q h) (h / 2) d = holds c (lane q).rb (slot h) (sent m q h (up q c)) := by
  rw [payload_eq]
  show holds c (lane q).rb (slot h) (sent m q (2 * (h / 2) + (slot h).val) (up q c)) = _
  rw [half]
theorem payload_send : (rd (F := F) m).payload (sendCell c q h) (h / 2) d = free c (lane q).sb (slot h) := payload_eq m _ _ _ _

theorem payload_cred : (rd (F := F) m).payload (credCell c q) r d = put c q d := payload_eq m _ _ _ _
theorem expect_eq : (rd (F := F) m).expect (cell c p) r = (dutiesOf p r).card * amountOf p := by
  unfold Schedule.expect Schedule.amountOf
  rw [duties_eq, Finset.sum_congr rfl fun d _ => amount_eq m c p r d, Finset.sum_const, smul_eq_mul]

theorem expect_send (hh : h < 31) : (rd (F := F) m).expect (sendCell c q h) (h / 2) = N := by
  unfold Schedule.expect Schedule.amountOf
  rw [duties_send m c q h hh, Finset.sum_singleton, amount_eq]; rfl
theorem expect_recv (hh : h < 31) : (rd (F := F) m).expect (recvCell c q h) (h / 2) = N := by
  unfold Schedule.expect Schedule.amountOf
  rw [duties_recv m c q h hh, Finset.sum_singleton, amount_eq]; rfl

theorem rest_send (hh : h < 31) :
    bigSep ((rd (F := F) m).duties (sendCell c q h) (h / 2) \ ∅) (fun d => (rd m).payload (sendCell c q h) (h / 2) d)
      = free c (lane q).sb (slot h) := by
  rw [Finset.sdiff_empty, duties_send m c q h hh, bigSep_singleton, payload_send]
theorem rest_recv (hh : h < 31) :
    bigSep ((rd (F := F) m).duties (recvCell c q h) (h / 2) \ ∅) (fun d => (rd m).payload (recvCell c q h) (h / 2) d)
      = holds c (lane q).rb (slot h) (sent m q h (up q c)) := by
  rw [Finset.sdiff_empty, duties_recv m c q h hh, bigSep_singleton, payload_recv]
theorem rest_bar :
    bigSep ((rd (F := F) m).duties (barCell c) 0 \ ∅) (fun d => (rd m).payload (barCell c) 0 d)
      = iprop((inbox (dn 0 c) 0 ∗ inbox (dn 1 c) 1) ∗ (inbox (dn 2 c) 2 ∗ inbox (dn 3 c) 3)) := by
  rw [Finset.sdiff_empty, duties_eq]
  show bigSep ({0, 1} : Finset ℕ) _ = _
  rw [sep_insert (by decide), bigSep_singleton, payload_eq, payload_eq]
  rfl
end

/-! ## The shelves -/

theorem ico_first {a b : ℕ} (h : a < b) : Finset.Ico a b = insert a (Finset.Ico (a + 1) b) := by
  ext i; simp only [Finset.mem_Ico, Finset.mem_insert]; omega
theorem ico_last {a b : ℕ} (h : a ≤ b) : Finset.Ico a (b + 1) = insert b (Finset.Ico a b) := by
  ext i; simp only [Finset.mem_Ico, Finset.mem_insert]; omega

/-- The slot of step `k` of stream `q` on the device `c` sends to, free again, and that it is. -/
def again (c : Dev nD) (q : Fin 4) (k : ℕ) : sProp 𝕄 :=
  iprop(free (dn q c) (lane q).rb (slot k) ∗ reached (ER (F := F)) (recvCell (dn q c) q k) (k / 2 + 1))

/-- The shelf of stream `q` at `c`: of the slots put there, those not yet taken. -/
def shelf (cq : Dev nD × Fin 4) : sProp 𝕄 :=
  iprop(∃ n w : ℕ, ⌜w ≤ n⌝ ∗ roundAuth (EC (F := F)) (cq, false) n ∅ 0 ∗ roundAuth (EC (F := F)) (cq, true) w ∅ 0
    ∗ bigSep (Finset.Ico w n) fun k => again cq.1 cq.2 k)

omit [FloatOps F] in
instance again_storable (c : Dev nD) (q) (k) : Storable (upEmb : UEmb _ 𝕄) (again (F := F) c q k) := by
  unfold again; infer_instance
omit [FloatOps F] in
instance shelf_storable (cq) : Storable (upEmb : UEmb _ 𝕄) (shelf (F := F) cq) := by
  unfold shelf; infer_instance

/-- The count of the slots put, in the hand of the one who puts; of those taken, in the hand of the one who takes. -/
abbrev putCount (c : Dev nD) (q : Fin 4) (n : ℕ) : sProp 𝕄 := atPos (EC (F := F)) ((c, q), false) n ∅ 0
abbrev takenCount (c : Dev nD) (q : Fin 4) (n : ℕ) : sProp 𝕄 := atPos (EC (F := F)) ((c, q), true) n ∅ 0

omit [FloatOps F] in
/-- Put the next slot on the shelf. -/
theorem shelf_put {κ : ℕ} (c : Dev nD) (q : Fin 4) (n : ℕ) :
    iprop(inv κ (shelf (c, q)) ∗ putCount (F := F) c q n ∗ again c q n)
      ⊢ iprop(|={Set.univ}=> (putCount c q (n + 1) ∗ put c q n)) := by
  iintro ⟨Hi, Hn, Ha⟩
  imod (inv_acc (Set.mem_univ κ)) $$ Hi with ⟨Hb, Hclose⟩
  unfold shelf
  icases Hb with ⟨%n', %w, %hw, Hp, Ht, Hs⟩
  icombine Hp Hn gives %hag
  obtain ⟨rfl, -, -⟩ := hag
  imod (roundAuth_atPos_move (EC (F := F)) (n + 1) ∅ 0 (Nat.le_succ _)) $$ [Hp Hn] with ⟨Hp, Hn⟩
  · isplitl [Hp] <;> iassumption
  imod (roundAuth_witness (EC (F := F))) $$ Hp with ⟨Hp, Hr⟩
  ihave Hc := Hclose $$ [Hp Ht Hs Ha]
  · iexists n + 1, w
    isplitr; · ipureintro; exact Nat.le_succ_of_le hw
    isplitl [Hp]; · iexact Hp
    isplitl [Ht]; · iexact Ht
    rw [ico_last hw, sep_insert (by simp)]
    isplitl [Ha]; · iexact Ha
    iexact Hs
  imod Hc
  imodintro
  isplitl [Hn]; · iexact Hn
  unfold put
  iexact Hr

omit [FloatOps F] in
/-- Take the next slot off the shelf, knowing that it has been put there. -/
theorem shelf_take {κ : ℕ} (c : Dev nD) (q : Fin 4) (w d : ℕ) (hd : w ≤ d) :
    iprop(inv κ (shelf (c, q)) ∗ takenCount (F := F) c q w ∗ put c q d)
      ⊢ iprop(|={Set.univ}=> (takenCount c q (w + 1) ∗ again c q w)) := by
  unfold put
  iintro ⟨Hi, Hn, Hd⟩
  imod (inv_acc (Set.mem_univ κ)) $$ Hi with ⟨Hb, Hclose⟩
  unfold shelf
  icases Hb with ⟨%n, %w', %hw, Hp, Ht, Hs⟩
  icombine Ht Hn gives %hag
  obtain ⟨rfl, -, -⟩ := hag
  ihave H := (persistent_entails_right (roundAuth_reached_le (EC (F := F)))) $$ [Hp Hd]
  · isplitl [Hp] <;> iassumption
  icases H with ⟨%hn, Hp, Hd⟩
  imod (roundAuth_atPos_move (EC (F := F)) (w + 1) ∅ 0 (Nat.le_succ _)) $$ [Ht Hn] with ⟨Ht, Hn⟩
  · isplitl [Ht] <;> iassumption
  ihave Hs := (Entails.of_eq (by rw [ico_first (show w < n by omega), sep_insert (by simp)])) $$ Hs
  icases Hs with ⟨Ha, Hs⟩
  ihave Hc := Hclose $$ [Hp Ht Hs]
  · iexists n, w + 1
    isplitr; · ipureintro; omega
    isplitl [Hp]; · iexact Hp
    isplitl [Ht]; · iexact Ht
    iexact Hs
  imod Hc
  imodintro
  isplitl [Hn]; · iexact Hn
  iexact Ha

/-! ## What a device owes; the levels -/

/-- What `c` owes of stream `q` once it has sent the blocks of the steps below `a` and given the credits below `b`. -/
def dues (q : Fin 4) (c : Dev nD) (a b : ℕ) : CellTallies nD τ sig ℕ :=
  (∑ h ∈ Finset.Ico a 31, tallyAt (recvCell (dn q c) q h) h N) + ∑ k ∈ Finset.Ico b 29, tallyAt (credCell (up q c) q) k 1

theorem dues_send (q : Fin 4) (c : Dev nD) (a b : ℕ) (ha : a < 31) :
    dues q c a b = dues q c (a + 1) b + tallyAt (recvCell (dn q c) q a) a N := by
  unfold dues
  rw [ico_first ha, Finset.sum_insert (by simp)]
  rw [add_assoc, add_comm]
theorem dues_credit (q : Fin 4) (c : Dev nD) (a b : ℕ) (hb : b < 29) :
    dues q c a b = dues q c a (b + 1) + tallyAt (credCell (up q c) q) b 1 := by
  unfold dues
  rw [ico_first hb, Finset.sum_insert (by simp)]
  rw [add_comm (tallyAt (credCell (up q c) q) b 1), ← add_assoc]
theorem dues_none (q : Fin 4) (c : Dev nD) : dues q c 31 29 = 0 := by
  unfold dues; rw [Finset.Ico_self, Finset.Ico_self, Finset.sum_empty, Finset.sum_empty, add_zero]

def L (g : GSem nD τ sig) : Finset ℕ := if g.1.2 = .tc then Finset.range 40 else ∅

/-- The order of the waits: the barrier first; then by steps, what lands at a step before the credits that answer it. -/
def lvOf (p : Part) (i : ℕ) : ℕ :=
  match p with
  | .bar => 1
  | .cr _ => 2 * i + 3
  | .sd _ _ => 0
  | .rv _ _ => 2 * i + 2
def lv (g : GSem nD τ sig) (i : ℕ) : ℕ := (partOf g.2).elim 0 (lvOf · i)

theorem lv_eq (c : Dev nD) (p : Part) (i : ℕ) : lv (cell c p) i = lvOf p i := by
  show (partOf (semOf p)).elim 0 (lvOf · i) = _
  rw [part_semOf]; rfl

theorem L_of_ne (g : GSem nD τ sig) (h : g.1.2 ≠ .tc) : L g = ∅ := if_neg h
theorem L_tc (c : Dev nD) (sm : SemLoc sig) : L ((c : Thread nD τ), sm) = Finset.range 40 := if_pos rfl

/-- Everything owed is above level `n`. -/
def Above (n : ℕ) (O : CellTallies nD τ sig ℕ) : Prop := ∀ g i, 0 < O g i → i ∈ L g ∧ n < lv g i

theorem Above.zero (n : ℕ) : Above n 0 := fun g i h => absurd h (Nat.lt_irrefl 0)
theorem Above.add {n : ℕ} {O O' : CellTallies nD τ sig ℕ} (h : Above n O) (h' : Above n O') : Above n (O + O') := fun g i hg => by
  rw [Pi.add_apply, Finsupp.add_apply] at hg
  rcases Nat.eq_zero_or_pos (O g i) with h0 | h0
  · exact h' g i (by omega)
  · exact h g i h0
theorem Above.sum {n : ℕ} (s : Finset ℕ) {O : ℕ → CellTallies nD τ sig ℕ} (h : ∀ i ∈ s, Above n (O i)) : Above n (∑ i ∈ s, O i) := by
  induction s using Finset.induction_on with
  | empty => exact Above.zero n
  | insert a s ha ih =>
    rw [Finset.sum_insert ha]
    exact (h a (Finset.mem_insert_self a s)).add (ih fun i hi => h i (Finset.mem_insert_of_mem hi))
theorem Above.tally {n : ℕ} (c : Dev nD) (p : Part) (i k : ℕ) (hi : i < 40) (hn : n < lvOf p i) :
    Above n (tallyAt (cell c p) i k) := fun g j hg => by
  obtain ⟨rfl, rfl⟩ := Pipeline.tallyAt_pos hg
  rw [L_tc, lv_eq]
  exact ⟨Finset.mem_range.2 hi, hn⟩
theorem Above.mono {n n' : ℕ} {O : CellTallies nD τ sig ℕ} (h : Above n O) (hn : n' ≤ n) : Above n' O :=
  fun g i hg => ⟨(h g i hg).1, lt_of_le_of_lt hn (h g i hg).2⟩

theorem Above.dues (n : ℕ) (q : Fin 4) (c : Dev nD) (a b : ℕ) (ha : n < 2 * a + 2) (hb : n < 2 * b + 3) : Above n (dues q c a b) := by
  unfold Tour.dues
  refine Above.add (Above.sum _ fun h hh => ?_) (Above.sum _ fun k hk => ?_)
  · obtain ⟨h1, h2⟩ := Finset.mem_Ico.1 hh
    exact Above.tally _ _ _ _ (by omega) (by show n < 2 * h + 2; omega)
  · obtain ⟨h1, h2⟩ := Finset.mem_Ico.1 hk
    exact Above.tally _ _ _ _ (by omega) (by show n < 2 * k + 3; omega)

omit [FloatOps F] in
/-- A device may wait where everything it owes is above. -/
theorem may_wait (c : Dev nD) (sm : SemLoc sig) (i : ℕ) (O : CellTallies nD τ sig ℕ) (hi : i < 40) (hO : Above (lv ((c : Thread nD τ), sm) i) O) :
    (levAts L lv : sProp 𝕄) ⊢ MayWait (c : Thread nD τ) sm i O :=
  MayOwe.of_cut (L := L) (lev := lv) (lv ((c : Thread nD τ), sm) i)
    (fun p hp => by rw [Finset.mem_singleton.mp hp, L_tc]; exact Finset.mem_range.2 hi)
    (fun g u hg => (hO g u hg).1) (fun p hp => by rw [Finset.mem_singleton.mp hp]) (fun g u hg => (hO g u hg).2)

end Cert.Tour

end
-- ==== Proof.Moves.lean ====
/-
# The single operations

Each operation of a stream, proved once for every stream, device and step, with the buffers as slots and the waits
at their steps.
-/
module

public import proofs.«01_k».proof.Proof.Sched

@[expose] public section

noncomputable section

namespace Cert.Tour

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- A program of device `c`, and what it is proved to end in. -/
abbrev runs (c : Dev nD) {α : Type} (p : Code F α) (Q : α → sProp 𝕄) : sProp 𝕄 :=
  wp frame (wpE (defs₀ (F := F)) 𝒱₀ (c : Thread nD τ) none) Set.univ p Q

theorem run_end {c : Dev nD} {α : Type} (a : α) (Q : α → sProp 𝕄) : Q a ⊢ runs c (.ret a) Q := by
  unfold runs
  rw [wp_ret]
  iintro H
  imodintro
  iexact H

/-! ## What every device knows -/

variable (m : (ℓ : Loc nD τ sig) → Buf (Elt F) ℓ) (K : Dev nD × Part → ℕ) (KS : Dev nD × Fin 4 → ℕ)

/-- The invariants of all the cells and shelves, that every cell started, and the levels. -/
def world : sProp 𝕄 :=
  iprop((bigSep Finset.univ fun a : Dev nD × Part => cellInv ER (rd m) (K a) (cell a.1 a.2))
    ∗ (bigSep Finset.univ fun a : Dev nD × Part => reached ER (cell a.1 a.2) 0)
    ∗ (bigSep Finset.univ fun a : Dev nD × Fin 4 => inv (KS a) (shelf a))
    ∗ levAts L lv)

instance world_persistent : Persistent (world m K KS) := by unfold world; infer_instance

theorem world_cell (c : Dev nD) (p : Part) : world m K KS ⊢ cellInv ER (rd m) (K (c, p)) (cell c p) := by
  unfold world
  iintro ⟨H, -, -, -⟩
  iapply (sep_elim (Finset.mem_univ ((c, p) : Dev nD × Part))) $$ H
theorem world_start (c : Dev nD) (p : Part) : world m K KS ⊢ reached ER (cell c p) 0 := by
  unfold world
  iintro ⟨-, H, -, -⟩
  iapply (sep_elim (Finset.mem_univ ((c, p) : Dev nD × Part))) $$ H
theorem world_shelf (c : Dev nD) (q : Fin 4) : world m K KS ⊢ inv (KS (c, q)) (shelf (c, q)) := by
  unfold world
  iintro ⟨-, -, H, -⟩
  iapply (sep_elim (Finset.mem_univ ((c, q) : Dev nD × Fin 4))) $$ H
/-- A device may wait where everything it owes is above. -/
theorem world_wait (c : Dev nD) (p : Part) (i : ℕ) (O : CellTallies nD τ sig ℕ) (hi : i < 40) (hO : Above (lvOf p i) O) :
    world m K KS ⊢ MayWait (c : Thread nD τ) (semOf p) i O := by
  unfold world
  iintro ⟨-, -, -, H⟩
  iapply (may_wait c (semOf p) i O hi (by rw [lv_eq]; exact hO)) $$ H

/-- What `c` owes, at whatever it waited for. -/
def owing (c : Dev nD) (O : CellTallies nD τ sig ℕ) : sProp 𝕄 := iprop(∃ W : Waits sig ℕ, owes (c : Thread nD τ) O W)

/-! ## The slots -/

theorem slot_set (b : Memref sig .tc .vmem S2x128x2048 .bf16) (s : Fin 2) :
    (b.access (lit s).rows).set = (bufAt b (lit s)).view.set := (View.set_reshape _ _).symm

section
variable {c : Dev nD} {α : Type} {Q : α → sProp (MT nD τ sig ℕ (Elt F) ℕ UU ℕ)} (b : Memref sig .tc .vmem S2x128x2048 .bf16) (s : Fin 2)

/-- Reading a slot that holds `V` reads `V`. -/
theorem run_read (V : Vec F S1x128x2048 .bf16) {hl : b.view.LoadsAt (lit s).rows.toLoadRect} {k : Vec F S1x128x2048 .bf16 → Code F α} :
    holds c b s V ⊢ iprop((holds c b s V -∗ runs c (k V) Q) -∗ runs c (.op (.load b (lit s).rows.toLoadRect hl) k) Q) := by
  unfold holds
  iintro ⟨%f, %hf, H⟩ Hk
  subst hf
  iapply (wp_load_rect 𝒱₀ (c : Thread nD τ) none Set.univ (m := b) (r := (lit s).rows) (S := (bufAt b (lit s)).view.set) (f := f)
    (slot_set b s).subset) $$ [H]
  · iexact H
  iintro H
  iapply Hk
  iexists f
  isplitr; · ipureintro; rfl
  iexact H

/-- Reading a slot reads something. -/
theorem run_read_free {hl : b.view.LoadsAt (lit s).rows.toLoadRect} {k : Vec F S1x128x2048 .bf16 → Code F α} :
    free c b s ⊢ iprop((∀ V, free c b s -∗ runs c (k V) Q) -∗ runs c (.op (.load b (lit s).rows.toLoadRect hl) k) Q) := by
  unfold free
  iintro ⟨%f, H⟩ Hk
  iapply (wp_load_rect 𝒱₀ (c : Thread nD τ) none Set.univ (m := b) (r := (lit s).rows) (S := (bufAt b (lit s)).view.set) (f := f)
    (slot_set b s).subset) $$ [H]
  · iexact H
  iintro H
  iapply Hk
  iexists f
  iexact H

/-- Filling a slot. -/
theorem run_fill (V : Vec F S1x128x2048 .bf16) {hx : (b.access (lit s).rows).Stores Finset.univ} {hm : (Finset.univ : Finset (lit s).rows.shape.Idx) = Finset.univ ∨ ∀ a, (lit s).rows.stride a = 1} {k : PUnit → Code F α} :
    free c b s ⊢ iprop((holds c b s V -∗ runs c (k ⟨⟩) Q) -∗ runs c (.op (.store b (lit s).rows V Finset.univ hx hm) k) Q) := by
  unfold free
  iintro ⟨%f, H⟩ Hk
  iapply (wp_store 𝒱₀ (c : Thread nD τ) none Set.univ (m := b) (r := (lit s).rows) (S := (bufAt b (lit s)).view.set) (f := f)
    ((View.setOn_univ _).trans (slot_set b s)).subset) $$ [H]
  · iexact H
  iintro H
  iapply Hk
  unfold holds
  iexists _
  isplitr
  · ipureintro; exact View.read_write_univ (v := b.access (lit s).rows) f V
  iexact H

end

/-- What a transfer between two views carries, each read in another shape: the contents. -/
theorem carry {sp sp' : Space} {s s' : Shape} {e : EltTy} (v : View sig .tc sp s e) (w : View sig .tc sp' s e) (h : s'.numel = s.numel)
    (fs : v.ty.Contents (Elt F)) (fd : w.ty.Contents (Elt F)) :
    w.read (Elt F) ((w.reshape s' h).write (Elt F) fd ((v.reshape s' h).read (Elt F) fs) Finset.univ) = v.read (Elt F) fs := by
  rw [View.write_reshape_univ, View.read_write_univ]
  funext x
  show v.read (Elt F) fs (Shape.reshapeEquiv h ((Shape.reshapeEquiv h).symm x)) = _
  rw [Equiv.apply_symm_apply]

/-! ## The operands -/

abbrev xPts (c : Dev nD) : sProp 𝕄 := xM.view.loc (c : Thread nD τ) ↦{fullShare} (xstg m c)
abbrev wPts (c : Dev nD) : sProp 𝕄 := wM.view.loc (c : Thread nD τ) ↦{fullShare} (wstg m c)

section
variable {c : Dev nD} {α : Type} {Q : α → sProp (MT nD τ sig ℕ (Elt F) ℕ UU ℕ)}

theorem run_x (d : Dev nD) {hl : (xM : Memref sig .tc .vmem S4096x128 .bf16).view.LoadsAt (rowsOf d).rect.toLoadRect} {k : Vec F S128x128 .bf16 → Code F α} :
    xPts m c ⊢ iprop((xPts m c -∗ runs c (k (xr m c d)) Q) -∗ runs c (.op (.load xM (rowsOf d).rect.toLoadRect hl) k) Q) :=
  wp_load_rect 𝒱₀ (c : Thread nD τ) none Set.univ (m := xM) (r := (rowsOf d).rect) (f := xstg m c) (Finset.subset_univ _)
theorem run_w (q : Fin 4) {hl : (wM : Memref sig .tc .vmem S128x8192 .bf16).view.LoadsAt (cols q).toLoadRect} {k : Vec F S128x2048 .bf16 → Code F α} :
    wPts m c ⊢ iprop((wPts m c -∗ runs c (k (wc m c q)) Q) -∗ runs c (.op (.load wM (cols q).toLoadRect hl) k) Q) :=
  wp_load_rect 𝒱₀ (c : Thread nD τ) none Set.univ (m := wM) (r := cols q) (f := wstg m c) (Finset.subset_univ _)
end

/-! ## Sending and waiting -/

section
variable {c : Dev nD} {α : Type} {Q : α → sProp (MT nD τ sig ℕ (Elt F) ℕ UU ℕ)} (q : Fin 4) (h : ℕ)

/-- The transfer of step `h`. -/
theorem run_send (s : Fin 2) (hs : s = slot h) (hh : h < 31) (O : CellTallies nD τ sig ℕ) (d : Dev nD) (hd : d = dn q c) {hsc hsrc hdst hsem} {k : PUnit → Code F α} :
    iprop(world m K KS ∗ holds c (lane q).sb s (sent m q h c) ∗ free (dn q c) (lane q).rb s
        ∗ owing c (O + tallyAt (recvCell (dn q c) q h) h N)
        ∗ (dutyTok ER (sendCell c q h) (h / 2) 0 ∗ dutyTok ER (recvCell (dn q c) q h) (h / 2) 0)
        ∗ reached ER (sendCell c q h) (h / 2) ∗ reached ER (recvCell (dn q c) q h) (h / 2))
      ⊢ iprop(((cred (tallyAt (sendCell c q h) 0 N) ∗ owing c O) -∗ runs c (k ⟨⟩) Q)
          -∗ runs c (.op (.enqueueDma (bufAt (lane q).sb (lit s))
              (.remote (Dev.tc d) (bufAt (lane q).rb (lit s)) (.dma (semAt (lane q).ss (lit s))) hsc)
              (.dma (semAt (lane q).rs (lit s))) hsrc hdst hsem) k) Q) := by
  subst hd hs
  unfold owing
  iintro ⟨#Hw, Hs, Hd, ⟨%W, HO⟩, ⟨Ht₁, Ht₂⟩, #Hr₁, #Hr₂⟩ Hk
  ihave #Hi₁ := (world_cell m K KS c (.sd q (slot h))) $$ Hw
  ihave #Hi₂ := (world_cell m K KS (dn q c) (.rv q (slot h))) $$ Hw
  unfold holds free
  icases Hs with ⟨%fs, %hfs, Hs⟩
  icases Hd with ⟨%fd, Hd⟩
  iapply (Rounds.wp_send_pointsTo 𝒱₀ ER (rd m) (c : Thread nD τ) none (c' := (dn q c : Thread nD τ))
    (src := bufAt (lane q).sb (lit (slot h))) (dst := bufAt (lane q).rb (lit (slot h)))
    (sS := .dma (semAt (lane q).ss (lit (slot h)))) (sem := .dma (semAt (lane q).rs (lit (slot h))))
    (κ₁ := K (c, .sd q (slot h))) (κ₂ := K (dn q c, .rv q (slot h)))
    (r₁ := h / 2) (r₂ := h / 2) (d₁ := 0) (d₂ := 0) (fs := fs) (fd := fd)
    ((duties_send m c q h hh).symm ▸ Finset.mem_singleton_self 0) ((duties_recv m (dn q c) q h hh).symm ▸ Finset.mem_singleton_self 0)
    h 0 N (N_rb q (slot h)) (amount_eq m c (.sd q (slot h)) (h / 2) 0) (amount_eq m (dn q c) (.rv q (slot h)) (h / 2) 0) O rfl (W := W)
    (by
      refine BIBase.Entails.trans ?_ (Entails.of_eq (payload_send m c q 0 h).symm)
      unfold free
      iintro H; iexists fs; iexact H)
    (by
      refine BIBase.Entails.trans ?_ (Entails.of_eq (payload_recv m (dn q c) q 0 h).symm)
      rw [up_dn]
      unfold holds
      iintro H; iexists _
      isplitr
      · ipureintro; exact (carry ((lane q).sb.access (lit (slot h)).rows) ((lane q).rb.access (lit (slot h)).rows) _ fs fd).trans hfs
      iexact H)) $$ [Hs Hd HO Ht₁ Ht₂]
  · isplitr; · iexact Hi₁
    isplitr; · iexact Hi₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

/-- The wait for the block of step `h` to land. -/
theorem run_land (s : Fin 2) (hs : s = slot h) (hh : h < 31) (O : CellTallies nD τ sig ℕ) (hO : Above (2 * h + 2) O) {hsrc hdst} {k : PUnit → Code F α} :
    iprop(world m K KS ∗ cred (tallyAt (recvCell c q h) h N) ∗ owing c O ∗ atPos ER (recvCell c q h) (h / 2) ∅ 0)
      ⊢ iprop(((owing c O ∗ atPos ER (recvCell c q h) (h / 2 + 1) ∅ 0 ∗ reached ER (recvCell c q h) (h / 2 + 1)
            ∗ holds c (lane q).rb s (sent m q h (up q c))) -∗ runs c (k ⟨⟩) Q)
          -∗ runs c (.op (.waitDma2 (semAt (lane q).rs (lit s)) (bufAt (lane q).sb (lit s))
              (bufAt (lane q).rb (lit s)) hsrc hdst) k) Q) := by
  subst hs
  unfold owing
  iintro ⟨#Hw, Hc, ⟨%W, HO⟩, Hat⟩ Hk
  ihave #Hi := (world_cell m K KS c (.rv q (slot h))) $$ Hw
  iapply (Rounds.wp_wait_rest_token 𝒱₀ ER (rd m) (c : Thread nD τ) none (κ := K (c, .rv q (slot h)))
      (sm := semOf (.rv q (slot h))) (k' := N)
      (by rw [← N_rb q (slot h)]; exact wpE_waitDma2_eq 𝒱₀ (c : Thread nD τ) none Set.univ) (Set.mem_univ _) h (O := O) (W := W) (R := h / 2) (m := 0) (T := ∅)
      (by rw [Nat.zero_add]; exact (expect_recv m c q h hh).symm)) $$ [Hc HO Hat]
  · isplitr; · iexact Hi
    isplitl [Hc]; · iexact Hc
    isplitl [HO]; · iexact HO
    isplitr
    · iapply (world_wait m K KS c (.rv q (slot h)) h O (by omega) hO); iexact Hw
    iexact Hat
  iintro ⟨HO, Hat, Hr, Hpay⟩
  iapply Hk
  isplitl [HO]; · iexists _; iexact HO
  isplitl [Hat]; · iexact Hat
  isplitl [Hr]; · iexact Hr
  iapply (Entails.of_eq (rest_recv m c q h hh)) $$ Hpay

/-- The wait for the block of step `h` to have been sent. -/
theorem run_sent (s : Fin 2) (hs : s = slot h) (hh : h < 31) (O : CellTallies nD τ sig ℕ) (hO : Above 0 O) {hsrc hdst} {k : PUnit → Code F α} :
    iprop(world m K KS ∗ cred (tallyAt (sendCell c q h) 0 N) ∗ owing c O ∗ atPos ER (sendCell c q h) (h / 2) ∅ 0)
      ⊢ iprop(((owing c O ∗ atPos ER (sendCell c q h) (h / 2 + 1) ∅ 0 ∗ reached ER (sendCell c q h) (h / 2 + 1)
            ∗ free c (lane q).sb s) -∗ runs c (k ⟨⟩) Q)
          -∗ runs c (.op (.waitDma2 (semAt (lane q).ss (lit s)) (bufAt (lane q).rb (lit s))
              (bufAt (lane q).sb (lit s)) hsrc hdst) k) Q) := by
  subst hs
  unfold owing
  iintro ⟨#Hw, Hc, ⟨%W, HO⟩, Hat⟩ Hk
  ihave #Hi := (world_cell m K KS c (.sd q (slot h))) $$ Hw
  iapply (Rounds.wp_wait_rest_token 𝒱₀ ER (rd m) (c : Thread nD τ) none (κ := K (c, .sd q (slot h)))
      (sm := semOf (.sd q (slot h))) (k' := N)
      (by rw [← N_sb q (slot h)]; exact wpE_waitDma2_eq 𝒱₀ (c : Thread nD τ) none Set.univ) (Set.mem_univ _) 0 (O := O) (W := W) (R := h / 2) (m := 0) (T := ∅)
      (by rw [Nat.zero_add]; exact (expect_send m c q h hh).symm)) $$ [Hc HO Hat]
  · isplitr; · iexact Hi
    isplitl [Hc]; · iexact Hc
    isplitl [HO]; · iexact HO
    isplitr
    · iapply (world_wait m K KS c (.sd q (slot h)) 0 O (by omega) hO); iexact Hw
    iexact Hat
  iintro ⟨HO, Hat, Hr, Hpay⟩
  iapply Hk
  isplitl [HO]; · iexists _; iexact HO
  isplitl [Hat]; · iexact Hat
  isplitl [Hr]; · iexact Hr
  iapply (Entails.of_eq (rest_send m c q h hh)) $$ Hpay

/-! ## Credits -/

/-- Where a device stands at its credit semaphore after `w` credits: which it has, with what they say. -/
def credits (c : Dev nD) (q : Fin 4) (w : ℕ) : sProp 𝕄 :=
  iprop(∃ T : Finset ℕ, ⌜T ⊆ Finset.range 29 ∧ w + (Finset.range 29 \ T).card ≤ 29⌝
    ∗ atPos ER (credCell c q) 0 T w ∗ bigSep T (put c q))

/-- Give a credit: the slot that landed at step `h` is free again. -/
theorem run_credit (s : Fin 2) (hs : s = slot h) (hh : h < 29) (O : CellTallies nD τ sig ℕ) (u : Dev nD) (hu : u = up q c) {k : PUnit → Code F α} :
    iprop(world m K KS ∗ owing c (O + tallyAt (credCell (up q c) q) h 1) ∗ dutyTok ER (credCell (up q c) q) 0 h
        ∗ putCount (up q c) q h ∗ free c (lane q).rb s ∗ reached ER (recvCell c q h) (h / 2 + 1))
      ⊢ iprop(((owing c O ∗ putCount (up q c) q (h + 1)) -∗ runs c (k ⟨⟩) Q)
          -∗ runs c (.op (.semSignal (Dev.tc u) (lane q).cr.sem (1#32).toInt) k) Q) := by
  subst hu hs
  unfold owing
  iintro ⟨#Hw, ⟨%W, HO⟩, Ht, Hp, Hf, Hr⟩ Hk
  ihave #Hi := (world_cell m K KS (up q c) (.cr q)) $$ Hw
  ihave #Hr0 := (world_start m K KS (up q c) (.cr q)) $$ Hw
  ihave #Hsh := (world_shelf m K KS (up q c) q) $$ Hw
  imod (shelf_put (up q c) q h) $$ [Hp Hf Hr] with ⟨Hp, Hput⟩
  · isplitr; · iexact Hsh
    isplitl [Hp]; · iexact Hp
    unfold again
    rw [dn_up]
    isplitl [Hf] <;> iassumption
  iapply (Rounds.wp_signal 𝒱₀ ER (rd m) (c : Thread nD τ) none (dst := (up q c : Thread nD τ)) (κ := K (up q c, .cr q)) (r := 0)
      (d := h) (by rw [show (((up q c : Dev nD) : Thread nD τ), SemLoc.reg (lane q).cr.sem) = credCell (up q c) q from rfl, duties_eq]; exact Finset.mem_range.2 hh)
      ((amount_eq m (up q c) (.cr q) 0 h).trans rfl) h O rfl) $$ [HO Ht Hput]
  · isplitr; · iexact Hi
    isplitl [HO]; · iexact HO
    isplitl [Ht]; · iexact Ht
    isplitl [Hput]
    · rw [show (((up q c : Dev nD) : Thread nD τ), SemLoc.reg (lane q).cr.sem) = credCell (up q c) q from rfl, payload_cred]
      iexact Hput
    iexact Hr0
  iintro HO
  iapply Hk
  isplitl [HO]; · iexists W; iexact HO
  iexact Hp

/-- Wait for the credit of step `w`: the far slot of that step is free again. -/
theorem run_owed (w : ℕ) (hw : w < 29) (O : CellTallies nD τ sig ℕ) (hO : Above (2 * w + 3) O) {k : PUnit → Code F α} :
    iprop(world m K KS ∗ cred (tallyAt (credCell c q) w 1) ∗ owing c O ∗ credits c q w ∗ takenCount c q w)
      ⊢ iprop(((owing c O ∗ credits c q (w + 1) ∗ takenCount c q (w + 1) ∗ again c q w) -∗ runs c (k ⟨⟩) Q)
          -∗ runs c (.op (.semWait (lane q).cr.sem (1#32).toInt) k) Q) := by
  unfold owing credits
  iintro ⟨#Hw, Hc, ⟨%W, HO⟩, ⟨%T, %hT, Hat, Hputs⟩, Htk⟩ Hk
  ihave #Hi := (world_cell m K KS c (.cr q)) $$ Hw
  ihave #Hsh := (world_shelf m K KS c q) $$ Hw
  iapply (Rounds.wp_wait 𝒱₀ ER (rd m) (c : Thread nD τ) none (κ := K (c, .cr q)) (sm := semOf (.cr q)) (k' := 1)
      (wpE_semWait_eq 𝒱₀ (c : Thread nD τ) none Set.univ) (Set.mem_univ _) (cr := Finsupp.single w 1) {(semOf (.cr q), w)}
      (O := O) (W := W) (R := 0) (m := w) (T := T)
      (Util.total_single _ _) (image_single_subset _ _ _)) $$ [Hc HO Hat]
  · isplitr; · iexact Hi
    isplitl [Hc]; · iexact Hc
    isplitl [HO]; · iexact HO
    isplitr
    · iapply (world_wait m K KS c (.cr q) w O (by omega) hO); iexact Hw
    iexact Hat
  iintro %S ⟨%hS, HO, Hat, Hnew⟩
  have hS' : T ⊆ S ∧ S ⊆ Finset.range 29 ∧ w + 1 + (Finset.range 29 \ S).card ≤ 29 := by
    obtain ⟨h1, h2, h3⟩ := hS
    have hd : (rd (F := F) m).duties ((c : Thread nD τ), semOf (.cr q)) 0 = Finset.range 29 := duties_eq m c (.cr q) 0
    have he : (rd (F := F) m).expect ((c : Thread nD τ), semOf (.cr q)) 0 = 29 := expect_eq m c (.cr q) 0
    rw [hd] at h2 h3; rw [he] at h3
    exact ⟨h1, h2, h3⟩
  obtain ⟨d, hdS, hdw⟩ : ∃ d ∈ S, w ≤ d := by
    by_contra hno
    push Not at hno
    have h1 : S ⊆ Finset.range w := fun d hd => Finset.mem_range.2 (hno d hd)
    have h2 := Finset.card_le_card h1
    have h3 := Finset.card_sdiff_add_card_eq_card hS'.2.1
    rw [Finset.card_range] at h2 h3
    omega
  ihave #Hall : bigSep S (put c q) $$ [Hputs Hnew]
  · ihave Hnew := (Entails.of_eq (bigSep_congr fun d _ => payload_cred m c q 0 d)) $$ Hnew
    iapply (Entails.of_eq (sep_split hS'.1).symm)
    isplitl [Hputs]; · iexact Hputs
    iexact Hnew
  ihave #Hd : put c q d $$ []
  · iapply (sep_elim hdS) $$ Hall
  imod (shelf_take c q w d hdw) $$ [Htk] with ⟨Htk, Ha⟩
  · isplitr; · iexact Hsh
    isplitl [Htk]; · iexact Htk
    iexact Hd
  iapply Hk
  isplitl [HO]; · iexists _; iexact HO
  isplitl [Hat]
  · iexists S
    isplitr; · ipureintro; exact hS'.2
    isplitl [Hat]; · iexact Hat
    iexact Hall
  isplitl [Htk]; · iexact Htk
  iexact Ha

end

end Cert.Tour

end
-- ==== Proof.Hops.lean ====
/-
# The steps of one stream

What a stream has on one device between its steps, and that each step of it — the first, the second, a later hop, the
last — goes from one such state to the next. Proved once for all four streams and all steps.
-/
module

public import proofs.«01_k».proof.Proof.Moves

@[expose] public section

noncomputable section

namespace Cert.Tour

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Part → ℕ) (KS : Dev nD × Fin 4 → ℕ)

/-! ## The states of a stream -/

/-- The right to wait for the block of step `h`; for the credit of step `k`. -/
def blockDue (c : Dev nD) (q : Fin 4) (h : ℕ) : sProp 𝕄 := cred (tallyAt (recvCell c q h) h N)
def creditDue (c : Dev nD) (q : Fin 4) (k : ℕ) : sProp 𝕄 := cred (tallyAt (credCell c q) k 1)
/-- The right to send the block of step `h`; to give the credit of step `k`. -/
def maySend (c : Dev nD) (q : Fin 4) (h : ℕ) : sProp 𝕄 :=
  iprop(dutyTok (ER (F := F)) (sendCell c q h) (h / 2) 0 ∗ dutyTok (ER (F := F)) (recvCell (dn q c) q h) (h / 2) 0)
def mayCredit (c : Dev nD) (q : Fin 4) (k : ℕ) : sProp 𝕄 := dutyTok (ER (F := F)) (credCell (up q c) q) 0 k

/-- A device's place at the cells of step `h` before its wait there. -/
def recvAt (c : Dev nD) (q : Fin 4) (h : ℕ) : sProp 𝕄 := atPos (ER (F := F)) (recvCell c q h) (h / 2) ∅ 0
def sendAt (c : Dev nD) (q : Fin 4) (h : ℕ) : sProp 𝕄 := atPos (ER (F := F)) (sendCell c q h) (h / 2) ∅ 0
/-- Step `h` is under way from `c`. -/
def sending (c : Dev nD) (q : Fin 4) (h : ℕ) : sProp 𝕄 := iprop(sendAt c q h ∗ cred (tallyAt (sendCell c q h) 0 N))

/-- The rights from step `a` on of what is to wait for, `b` for credits to wait for; `a'` and `b'` for what is to do. -/
def rights (c : Dev nD) (q : Fin 4) (a b a' b' : ℕ) : sProp 𝕄 :=
  iprop(bigSep (Finset.Ico a 31) (blockDue c q) ∗ bigSep (Finset.Ico b 29) (creditDue c q)
    ∗ bigSep (Finset.Ico a' 31) (maySend c q) ∗ bigSep (Finset.Ico b' 29) (mayCredit c q))

/-- Before the first step. -/
def early (c : Dev nD) (q : Fin 4) : sProp 𝕄 :=
  iprop(rights c q 0 0 0 0 ∗ putCount (up q c) q 0 ∗ takenCount c q 0 ∗ credits c q 0
    ∗ recvAt c q 0 ∗ recvAt c q 1 ∗ sendAt c q 0 ∗ sendAt c q 1 ∗ free c (lane q).sb 0 ∗ free c (lane q).sb 1)

/-- After the first step. -/
def begun (c : Dev nD) (q : Fin 4) : sProp 𝕄 :=
  iprop(rights c q 0 0 1 0 ∗ putCount (up q c) q 0 ∗ takenCount c q 0 ∗ credits c q 0
    ∗ recvAt c q 0 ∗ recvAt c q 1 ∗ sending c q 0 ∗ sendAt c q 1 ∗ free c (lane q).sb 1 ∗ free (dn q c) (lane q).rb 1)

/-- Before trip `k`: the steps up to `k + 1` are sent, those below `k` fully, and `k + 1` blocks have been read. After the
    last trip the last slot freed stays, with no credit given for it. -/
def mid (c : Dev nD) (q : Fin 4) (k : ℕ) : sProp 𝕄 :=
  iprop(rights c q (k + 1) k (k + 2) (k + 1) ∗ putCount (up q c) q (min (k + 1) 29) ∗ takenCount c q k ∗ credits c q k
    ∗ recvAt c q (k + 1) ∗ recvAt c q (k + 2) ∗ sending c q k ∗ sending c q (k + 1)
    ∗ (if k < 29 then iprop(emp) else free c (lane q).rb (slot k)))

/-- At the end: the buffers, and the semaphores at zero. -/
def done (c : Dev nD) (q : Fin 4) : sProp 𝕄 :=
  iprop((free c (lane q).sb 0 ∗ free c (lane q).sb 1) ∗ (free c (lane q).rb 0 ∗ free c (lane q).rb 1)
    ∗ semVal (cell c (.cr q)) 0 ∗ (semVal (cell c (.sd q 0)) 0 ∗ semVal (cell c (.sd q 1)) 0)
    ∗ (semVal (cell c (.rv q 0)) 0 ∗ semVal (cell c (.rv q 1)) 0))

omit [FloatOps F] in
theorem sep_first {a b : ℕ} (h : a < b) (Φ : ℕ → sProp 𝕄) :
    bigSep (Finset.Ico a b) Φ = iprop(Φ a ∗ bigSep (Finset.Ico (a + 1) b) Φ) := by
  rw [ico_first h, sep_insert (by simp)]

/-! ## A cell two steps on -/

section
variable (c : Dev nD) (q : Fin 4) (h : ℕ)

theorem half_two : (h + 2) / 2 = h / 2 + 1 := by omega
theorem recvCell_two : recvCell c q (h + 2) = recvCell c q h := by unfold recvCell; rw [slot_two]
theorem sendCell_two : sendCell c q (h + 2) = sendCell c q h := by unfold sendCell; rw [slot_two]
omit [FloatOps F] in
theorem recvAt_two : recvAt (F := F) c q (h + 2) = atPos (ER (F := F)) (recvCell c q h) (h / 2 + 1) ∅ 0 := by
  unfold recvAt; rw [recvCell_two, half_two]
omit [FloatOps F] in
theorem sendAt_two : sendAt (F := F) c q (h + 2) = atPos (ER (F := F)) (sendCell c q h) (h / 2 + 1) ∅ 0 := by
  unfold sendAt; rw [sendCell_two, half_two]
omit [FloatOps F] in
theorem again_two : again (F := F) c q h
    = iprop(free (dn q c) (lane q).rb (slot (h + 2)) ∗ reached (ER (F := F)) (recvCell (dn q c) q (h + 2)) ((h + 2) / 2)) := by
  unfold again; rw [slot_two, recvCell_two, half_two]
end

/-! ## The steps -/

section
variable {c : Dev nD} {Q : PUnit → sProp (MT nD τ sig ℕ (Elt F) ℕ UU ℕ)} (q : Fin 4) (O : CellTallies nD τ sig ℕ)

theorem run_first (R : Rows) (hR : R = rowsOf (chunk q 0 c)) (d : Dev nD) (hd : d = dn q c) :
    iprop(world m K KS ∗ early c q ∗ inbox (dn q c) q ∗ owing c (dues q c 0 0 + O) ∗ xPts m c ∗ wPts m c)
      ⊢ iprop(((begun c q ∗ owing c (dues q c 1 0 + O) ∗ xPts m c ∗ wPts m c) -∗ Q ⟨⟩)
          -∗ runs c (firstStep xM wM (lane q) q R d) Q) := by
  subst hR
  unfold firstStep early begun inbox rights
  simp only [Prog.lift, Prog.bind_op, Prog.bind_ret, Prog.pure_eq_ret]
  iintro ⟨#Hw, ⟨⟨Hbd, Hcd, Hms, Hmc⟩, Hp, Htk, Hcr, Hr0, Hr1, Hs0, Hs1, Hb0, Hb1⟩, ⟨Hi0, Hi1⟩, HO, Hx, Hwt⟩ Hk
  iapply (run_x m (chunk q 0 c)) $$ Hx
  iintro Hx
  iapply (run_w m q) $$ Hwt
  iintro Hwt
  iapply (run_read_free (lane q).sb 0) $$ Hb0
  iintro %V Hb0
  iapply (run_fill (lane q).sb 0) $$ Hb0
  iintro Hb0
  ihave Hms := (Entails.of_eq (sep_first (by decide) _)) $$ Hms
  icases Hms with ⟨Hm0, Hms⟩
  unfold maySend
  ihave #Hz₁ := (world_start m K KS c (.sd q (slot 0))) $$ Hw
  ihave #Hz₂ := (world_start m K KS (dn q c) (.rv q (slot 0))) $$ Hw
  rw [show dues q c 0 0 + O = (dues q c 1 0 + O) + tallyAt (recvCell (dn q c) q 0) 0 N by
    rw [dues_send q c 0 0 (by decide), add_right_comm]]
  iapply (run_send m K KS q 0 0 rfl (by decide) (dues q c 1 0 + O) d hd) $$ [Hb0 Hi0 HO Hm0]
  · isplitr; · iexact Hw
    isplitl [Hb0]; · iexact Hb0
    isplitl [Hi0]; · iexact Hi0
    isplitl [HO]; · iexact HO
    isplitl [Hm0]; · iexact Hm0
    isplitr; · iexact Hz₁
    iexact Hz₂
  iintro ⟨Hc0, HO⟩
  iapply (run_end PUnit.unit Q)
  iapply Hk
  isplitr [HO Hx Hwt]
  · isplitl [Hbd Hcd Hms Hmc]
    · isplitl [Hbd]; · iexact Hbd
      isplitl [Hcd]; · iexact Hcd
      isplitl [Hms]; · iexact Hms
      iexact Hmc
    isplitl [Hp]; · iexact Hp
    isplitl [Htk]; · iexact Htk
    isplitl [Hcr]; · iexact Hcr
    isplitl [Hr0]; · iexact Hr0
    isplitl [Hr1]; · iexact Hr1
    isplitl [Hs0 Hc0]
    · unfold sending
      isplitl [Hs0]; · iexact Hs0
      iexact Hc0
    isplitl [Hs1]; · iexact Hs1
    isplitl [Hb1]; · iexact Hb1
    iexact Hi1
  isplitl [HO]; · iexact HO
  isplitl [Hx]; · iexact Hx
  iexact Hwt

theorem run_second (R : Rows) (hR : R = rowsOf (chunk q 1 c)) (u d : Dev nD) (hu : u = up q c) (hd : d = dn q c) (hO : Above 2 O) :
    iprop(world m K KS ∗ begun c q ∗ owing c (dues q c 1 0 + O) ∗ xPts m c ∗ wPts m c)
      ⊢ iprop(((mid c q 0 ∗ owing c (dues q c 2 1 + O) ∗ xPts m c ∗ wPts m c) -∗ Q ⟨⟩)
          -∗ runs c (secondStep xM wM (lane q) q R u d) Q) := by
  subst hR
  unfold secondStep begun mid rights
  simp only [semSignalWord, Prog.lift, Prog.bind_op, Prog.bind_ret, Prog.pure_eq_ret]
  iintro ⟨#Hw, ⟨⟨Hbd, Hcd, Hms, Hmc⟩, Hp, Htk, Hcr, Hr0, Hr1, Hs0, Hs1, Hb1, Hi1⟩, HO, Hx, Hwt⟩ Hk
  iapply (run_x m (chunk q 1 c)) $$ Hx
  iintro Hx
  iapply (run_w m q) $$ Hwt
  iintro Hwt
  ihave Hbd := (Entails.of_eq (sep_first (by decide) _)) $$ Hbd
  icases Hbd with ⟨Hd0, Hbd⟩
  unfold blockDue recvAt
  iapply (run_land m K KS q 0 0 rfl (by decide) _ ((Above.dues 2 q c 1 0 (by decide) (by decide)).add hO)) $$ [Hd0 HO Hr0]
  · isplitr; · iexact Hw
    isplitl [Hd0]; · iexact Hd0
    isplitl [HO]; · iexact HO
    iexact Hr0
  iintro ⟨HO, Hr0, #Hrr, Hrb⟩
  iapply (run_read (lane q).rb 0) $$ Hrb
  iintro Hrb
  iapply (run_read_free (lane q).sb 1) $$ Hb1
  iintro %V Hb1
  iapply (run_fill (lane q).sb 1) $$ Hb1
  iintro Hb1
  ihave Hrb := (holds_free _ _ _ _) $$ Hrb
  ihave Hmc := (Entails.of_eq (sep_first (by decide) _)) $$ Hmc
  icases Hmc with ⟨Ht0, Hmc⟩
  unfold mayCredit
  rw [show dues q c 1 0 + O = (dues q c 1 1 + O) + tallyAt (credCell (up q c) q) 0 1 by
    rw [dues_credit q c 1 0 (by decide), add_right_comm]]
  iapply (run_credit m K KS q 0 0 rfl (by decide) (dues q c 1 1 + O) u hu) $$ [HO Ht0 Hp Hrb]
  · isplitr; · iexact Hw
    isplitl [HO]; · iexact HO
    isplitl [Ht0]; · iexact Ht0
    isplitl [Hp]; · iexact Hp
    isplitl [Hrb]; · iexact Hrb
    iexact Hrr
  iintro ⟨HO, Hp⟩
  ihave Hms := (Entails.of_eq (sep_first (by decide) _)) $$ Hms
  icases Hms with ⟨Hm1, Hms⟩
  unfold maySend
  ihave #Hz₁ := (world_start m K KS c (.sd q (slot 1))) $$ Hw
  ihave #Hz₂ := (world_start m K KS (dn q c) (.rv q (slot 1))) $$ Hw
  rw [show dues q c 1 1 + O = (dues q c 2 1 + O) + tallyAt (recvCell (dn q c) q 1) 1 N by
    rw [dues_send q c 1 1 (by decide), add_right_comm]]
  iapply (run_send m K KS q 1 1 rfl (by decide) (dues q c 2 1 + O) d hd) $$ [Hb1 Hi1 HO Hm1]
  · isplitr; · iexact Hw
    isplitl [Hb1]; · iexact Hb1
    isplitl [Hi1]; · iexact Hi1
    isplitl [HO]; · iexact HO
    isplitl [Hm1]; · iexact Hm1
    isplitr; · iexact Hz₁
    iexact Hz₂
  iintro ⟨Hc1, HO⟩
  iapply (run_end PUnit.unit Q)
  iapply Hk
  isplitr [HO Hx Hwt]
  · isplitl [Hbd Hcd Hms Hmc]
    · isplitl [Hbd]; · iexact Hbd
      isplitl [Hcd]; · iexact Hcd
      isplitl [Hms]; · iexact Hms
      iexact Hmc
    isplitl [Hp]; · iexact Hp
    isplitl [Htk]; · iexact Htk
    isplitl [Hcr]; · iexact Hcr
    isplitl [Hr1]; · iexact Hr1
    isplitl [Hr0]; · iexact Hr0
    isplitl [Hs0]; · iexact Hs0
    isplitl [Hs1 Hc1]
    · unfold sending
      isplitl [Hs1]; · iexact Hs1
      iexact Hc1
    rw [if_pos (by decide)]
    iempintro
  isplitl [HO]; · iexact HO
  isplitl [Hx]; · iexact Hx
  iexact Hwt

theorem run_hop (k : ℕ) (hk : k < 29) (R : Rows) (hR : R = rowsOf (chunk q (k + 2) c)) (g : BitVec 1) (hg : g = 1#1 ↔ k < 28)
    (σ σ' : Slot) (hσ : σ = lit (slot (k + 1))) (hσ' : σ' = lit (slot (k + 2))) (u d : Dev nD) (hu : u = up q c) (hd : d = dn q c)
    (hO : Above (2 * k + 4) O) :
    iprop(world m K KS ∗ mid c q k ∗ owing c (dues q c (k + 2) (k + 1) + O) ∗ xPts m c ∗ wPts m c)
      ⊢ iprop(((mid c q (k + 1) ∗ owing c (dues q c (k + 3) (k + 2) + O) ∗ xPts m c ∗ wPts m c) -∗ Q ⟨⟩)
          -∗ runs c (hopStep xM wM (lane q) q R g σ σ' u d) Q) := by
  subst hR hσ hσ'
  -- what the credit of this trip does, given or not
  have hcredit : ∀ p : Code F PUnit,
      iprop(world m K KS ∗ owing c (dues q c (k + 2) (k + 1) + O) ∗ bigSep (Finset.Ico (k + 1) 29) (mayCredit c q)
          ∗ putCount (up q c) q (min (k + 1) 29) ∗ free c (lane q).rb (slot (k + 1)) ∗ reached ER (recvCell c q (k + 1)) ((k + 1) / 2 + 1))
        ⊢ iprop(((owing c (dues q c (k + 2) (k + 2) + O) ∗ bigSep (Finset.Ico (k + 2) 29) (mayCredit c q)
              ∗ putCount (up q c) q (min (k + 2) 29)
              ∗ (if k + 1 < 29 then iprop(emp) else free c (lane q).rb (slot (k + 1)))) -∗ runs c p Q)
            -∗ runs c (if g = 1#1 then .op (.semSignal (Dev.tc u) (lane q).cr.sem (1#32).toInt) (fun _ => p) else p) Q) := by
    intro p
    by_cases hk' : k < 28
    · rw [if_pos (hg.2 hk'), show min (k + 1) 29 = k + 1 by omega, show min (k + 2) 29 = k + 1 + 1 by omega, if_pos (by omega)]
      iintro ⟨#Hw, HO, Hmc, Hp, Hf, Hr⟩ Hk
      ihave Hmc := (Entails.of_eq (sep_first (show k + 1 < 29 by omega) _)) $$ Hmc
      icases Hmc with ⟨Ht, Hmc⟩
      rw [show dues q c (k + 2) (k + 1) + O = (dues q c (k + 2) (k + 2) + O) + tallyAt (credCell (up q c) q) (k + 1) 1 by
        rw [dues_credit q c (k + 2) (k + 1) (by omega), add_right_comm]]
      unfold mayCredit
      iapply (run_credit m K KS q (k + 1) _ rfl (by omega) (dues q c (k + 2) (k + 2) + O) u hu) $$ [HO Ht Hp Hf Hr]
      · isplitr; · iexact Hw
        isplitl [HO]; · iexact HO
        isplitl [Ht]; · iexact Ht
        isplitl [Hp]; · iexact Hp
        isplitl [Hf]; · iexact Hf
        iexact Hr
      iintro ⟨HO, Hp⟩
      iapply Hk
      isplitl [HO]; · iexact HO
      isplitl [Hmc]; · iexact Hmc
      isplitl [Hp]; · iexact Hp
      iempintro
    · obtain rfl : k = 28 := by omega
      rw [if_neg (mt hg.1 hk'), if_neg (by decide)]
      iintro ⟨#Hw, HO, Hmc, Hp, Hf, Hr⟩ Hk
      iapply Hk
      isplitl [HO]; · iexact HO
      isplitl [Hmc]; · iexact Hmc
      isplitl [Hp]; · iexact Hp
      iexact Hf
  unfold hopStep mid rights
  simp only [semSignalWord, semWaitWord, Prog.lift, Prog.bind_op, Prog.bind_ret, Prog.pure_eq_ret]
  iintro ⟨#Hw, ⟨⟨Hbd, Hcd, Hms, Hmc⟩, Hp, Htk, Hcr, Hr0, Hr1, Hs0, Hs1, -⟩, HO, Hx, Hwt⟩ Hk
  iapply (run_x m (chunk q (k + 2) c)) $$ Hx
  iintro Hx
  iapply (run_w m q) $$ Hwt
  iintro Hwt
  ihave Hbd := (Entails.of_eq (sep_first (show k + 1 < 31 by omega) _)) $$ Hbd
  icases Hbd with ⟨Hd0, Hbd⟩
  iapply (run_land m K KS q (k + 1) _ rfl (by omega) _
    ((Above.dues (2 * (k + 1) + 2) q c (k + 2) (k + 1) (by omega) (by omega)).add (hO.mono (by omega)))) $$ [Hd0 HO Hr0]
  · isplitr; · iexact Hw
    isplitl [Hd0]; · unfold blockDue; iexact Hd0
    isplitl [HO]; · iexact HO
    unfold recvAt; iexact Hr0
  iintro ⟨HO, Hr0, #Hrr, Hrb⟩
  iapply (run_read (lane q).rb (slot (k + 1))) $$ Hrb
  iintro Hrb
  unfold sending
  icases Hs0 with ⟨Hs0, Hc0⟩
  iapply (run_sent m K KS q k (slot (k + 2)) (slot_two k) (by omega) _
    ((Above.dues 0 q c (k + 2) (k + 1) (by omega) (by omega)).add (hO.mono (by omega)))) $$ [Hc0 HO Hs0]
  · isplitr; · iexact Hw
    isplitl [Hc0]; · iexact Hc0
    isplitl [HO]; · iexact HO
    unfold sendAt; iexact Hs0
  iintro ⟨HO, Hs0, #Hsr, Hsb⟩
  iapply (run_read_free (lane q).sb (slot (k + 2))) $$ Hsb
  iintro %V Hsb
  iapply (run_fill (lane q).sb (slot (k + 2))) $$ Hsb
  iintro Hsb
  ihave Hrb := (holds_free _ _ _ _) $$ Hrb
  iapply (hcredit _) $$ [HO Hmc Hp Hrb]
  · isplitr; · iexact Hw
    isplitl [HO]; · iexact HO
    isplitl [Hmc]; · iexact Hmc
    isplitl [Hp]; · iexact Hp
    isplitl [Hrb]; · iexact Hrb
    iexact Hrr
  iintro ⟨HO, Hmc, Hp, Hkeep⟩
  ihave Hcd := (Entails.of_eq (sep_first hk _)) $$ Hcd
  icases Hcd with ⟨Hd1, Hcd⟩
  iapply (run_owed m K KS q k hk _
    ((Above.dues (2 * k + 3) q c (k + 2) (k + 2) (by omega) (by omega)).add (hO.mono (by omega)))) $$ [Hd1 HO Hcr Htk]
  · isplitr; · iexact Hw
    isplitl [Hd1]; · unfold creditDue; iexact Hd1
    isplitl [HO]; · iexact HO
    isplitl [Hcr]; · iexact Hcr
    iexact Htk
  iintro ⟨HO, Hcr, Htk, Hag⟩
  ihave Hag := (Entails.of_eq (again_two c q k)) $$ Hag
  icases Hag with ⟨Hfar, Hfr⟩
  ihave Hms := (Entails.of_eq (sep_first (show k + 2 < 31 by omega) _)) $$ Hms
  icases Hms with ⟨Hm, Hms⟩
  rw [show dues q c (k + 2) (k + 2) + O = (dues q c (k + 3) (k + 2) + O) + tallyAt (recvCell (dn q c) q (k + 2)) (k + 2) N by
    rw [dues_send q c (k + 2) (k + 2) (by omega), add_right_comm]]
  iapply (run_send m K KS q (k + 2) _ rfl (by omega) (dues q c (k + 3) (k + 2) + O) d hd) $$ [Hsb Hfar HO Hm Hfr]
  · isplitr; · iexact Hw
    isplitl [Hsb]; · iexact Hsb
    isplitl [Hfar]; · iexact Hfar
    isplitl [HO]; · iexact HO
    isplitl [Hm]; · unfold maySend; iexact Hm
    isplitr
    · rw [sendCell_two, half_two]; iexact Hsr
    iexact Hfr
  iintro ⟨Hc2, HO⟩
  iapply (run_end PUnit.unit Q)
  iapply Hk
  isplitr [HO Hx Hwt]
  · isplitl [Hbd Hcd Hms Hmc]
    · isplitl [Hbd]; · iexact Hbd
      isplitl [Hcd]; · iexact Hcd
      isplitl [Hms]; · iexact Hms
      iexact Hmc
    isplitl [Hp]; · iexact Hp
    isplitl [Htk]; · iexact Htk
    isplitl [Hcr]; · iexact Hcr
    isplitl [Hr1]; · iexact Hr1
    isplitl [Hr0]
    · rw [show k + 1 + 2 = (k + 1) + 2 from rfl, recvAt_two]; iexact Hr0
    isplitl [Hs1]; · iexact Hs1
    isplitl [Hs0 Hc2]
    · isplitl [Hs0]
      · rw [show k + 1 + 1 = k + 2 from rfl, sendAt_two]; iexact Hs0
      iexact Hc2
    iexact Hkeep
  isplitl [HO]; · iexact HO
  isplitl [Hx]; · iexact Hx
  iexact Hwt

/-- The result's buffer. -/
abbrev oPts (c : Dev nD) (f : (cc0_stg2_0 : Ref sig .tc).ty.Contents (Elt F)) : sProp 𝕄 := oM.view.loc (c : Thread nD τ) ↦{fullShare} f
/-- The result with the columns `q` in place. -/
def placed (q : Fin 4) (c : Dev nD) (f : (cc0_stg2_0 : Ref sig .tc).ty.Contents (Elt F)) : (cc0_stg2_0 : Ref sig .tc).ty.Contents (Elt F) :=
  (oM.access (cols q) : View sig .tc _ _ _).write (Elt F) f (total m q c) Finset.univ

theorem send_over (s : Fin 2) (r : ℕ) (hr : 31 ≤ 2 * r + s.val) : ∀ r', r ≤ r' → (rd (F := F) m).duties (cell c (.sd q s)) r' = ∅ :=
  fun r' h => by rw [duties_eq]; exact if_neg (by omega)
theorem recv_over (s : Fin 2) (r : ℕ) (hr : 31 ≤ 2 * r + s.val) : ∀ r', r ≤ r' → (rd (F := F) m).duties (cell c (.rv q s)) r' = ∅ :=
  fun r' h => by rw [duties_eq]; exact if_neg (by omega)

/-- A cell past its last round is closed. -/
theorem close (p : Part) (r : ℕ) (h : ∀ r', r ≤ r' → (rd (F := F) m).duties (cell c p) r' = ∅) :
    iprop(world m K KS ∗ atPos ER (cell c p) r ∅ 0) ⊢ iprop(|={Set.univ}=> semVal (cell c p) 0) := by
  iintro ⟨#Hw, H⟩
  ihave #Hi := (world_cell m K KS c p) $$ Hw
  iapply (Rounds.cell_close ER (rd m) (Set.mem_univ (K (c, p))) (fun h => h) (R := r) h)
  isplitr; · iexact Hi
  iexact H

/-- The credit semaphore is closed once every credit has been waited for. -/
theorem close_credits : iprop(world m K KS ∗ credits c q 29) ⊢ iprop(|={Set.univ}=> semVal (credCell c q) 0) := by
  unfold credits
  iintro ⟨#Hw, ⟨%T, %hT, Hat, -⟩⟩
  ihave #Hi := (world_cell m K KS c (.cr q)) $$ Hw
  imod (Rounds.fupd_skip ER (rd m) (κ := K (c, .cr q)) (g := credCell c q) (R := 0) (T := T) (m := 29) (Es := Set.univ)
    (by
      rw [duties_eq]
      show Finset.range 29 ⊆ T
      rw [← Finset.sdiff_eq_empty_iff_subset, ← Finset.card_eq_zero]
      omega)
    (expect_eq m c (.cr q) 0).symm (Set.mem_univ _)) $$ [Hat] with ⟨Hat, -⟩
  · isplitr; · iexact Hi
    iexact Hat
  iapply (close m K KS (.cr q) 1 fun r h => by rw [duties_eq]; exact if_neg (by omega))
  isplitr; · iexact Hw
  iexact Hat

theorem run_last (R : Rows) (hR : R = rowsOf (chunk q 31 c)) (f : (cc0_stg2_0 : Ref sig .tc).ty.Contents (Elt F)) :
    iprop(world m K KS ∗ mid c q 29 ∗ owing c 0 ∗ xPts m c ∗ wPts m c ∗ oPts c f)
      ⊢ iprop(((done c q ∗ owing c 0 ∗ xPts m c ∗ wPts m c ∗ oPts c (placed m q c f)) -∗ Q ⟨⟩)
          -∗ runs c (lastStep xM wM oM (lane q) q R) Q) := by
  subst hR
  unfold lastStep mid rights
  simp only [Prog.lift, Prog.bind_op, Prog.bind_ret, Prog.pure_eq_ret]
  iintro ⟨#Hw, ⟨⟨Hbd, Hcd, Hms, Hmc⟩, Hp, Htk, Hcr, Hr0, Hr1, Hs0, Hs1, Hkeep⟩, HO, Hx, Hwt, Ho⟩ Hk
  iapply (run_x m (chunk q 31 c)) $$ Hx
  iintro Hx
  iapply (run_w m q) $$ Hwt
  iintro Hwt
  ihave Hbd := (Entails.of_eq (sep_first (show 29 + 1 < 31 by decide) _)) $$ Hbd
  icases Hbd with ⟨Hd0, -⟩
  iapply (run_land m K KS q 30 0 rfl (by decide) 0 (Above.zero _)) $$ [Hd0 HO Hr0]
  · isplitr; · iexact Hw
    isplitl [Hd0]; · unfold blockDue; iexact Hd0
    isplitl [HO]; · iexact HO
    unfold recvAt; iexact Hr0
  iintro ⟨HO, Hr0, -, Hrb⟩
  iapply (run_read (lane q).rb 0) $$ Hrb
  iintro Hrb
  iapply (wp_load_rect 𝒱₀ (c : Thread nD τ) none Set.univ (m := oM) (r := cols q) (S := Finset.univ) (f := f) (Finset.subset_univ _)) $$ Ho
  iintro Ho
  iapply (wp_store 𝒱₀ (c : Thread nD τ) none Set.univ (m := oM) (r := cols q) (S := Finset.univ) (f := f) (Finset.subset_univ _)) $$ Ho
  iintro Ho
  unfold sending
  icases Hs0 with ⟨Hs0, Hc0⟩
  icases Hs1 with ⟨Hs1, Hc1⟩
  iapply (run_sent m K KS q 29 1 rfl (by decide) 0 (Above.zero _)) $$ [Hc0 HO Hs0]
  · isplitr; · iexact Hw
    isplitl [Hc0]; · iexact Hc0
    isplitl [HO]; · iexact HO
    unfold sendAt; iexact Hs0
  iintro ⟨HO, Hs0, -, Hb1⟩
  iapply (run_sent m K KS q 30 0 rfl (by decide) 0 (Above.zero _)) $$ [Hc1 HO Hs1]
  · isplitr; · iexact Hw
    isplitl [Hc1]; · iexact Hc1
    isplitl [HO]; · iexact HO
    unfold sendAt; iexact Hs1
  iintro ⟨HO, Hs1, -, Hb0⟩
  imod (close_credits m K KS q) $$ [Hcr] with Hz
  · isplitr; · iexact Hw
    iexact Hcr
  imod (close m K KS (.sd q (slot 29)) (29 / 2 + 1) (send_over m q (slot 29) _ (by decide))) $$ [Hs0] with Hz1
  · isplitr; · iexact Hw
    iexact Hs0
  imod (close m K KS (.sd q (slot 30)) (30 / 2 + 1) (send_over m q (slot 30) _ (by decide))) $$ [Hs1] with Hz0
  · isplitr; · iexact Hw
    iexact Hs1
  imod (close m K KS (.rv q (slot 30)) (30 / 2 + 1) (recv_over m q (slot 30) _ (by decide))) $$ [Hr0] with Hy0
  · isplitr; · iexact Hw
    iexact Hr0
  imod (close m K KS (.rv q (slot 31)) (31 / 2) (recv_over m q (slot 31) _ (by decide))) $$ [Hr1] with Hy1
  · isplitr; · iexact Hw
    unfold recvAt; iexact Hr1
  ihave Hrb := (holds_free _ _ _ _) $$ Hrb
  ihave Hkeep := (Entails.of_eq (if_neg (by decide : ¬ 29 < 29))) $$ Hkeep
  iapply (run_end PUnit.unit Q)
  iapply Hk
  unfold done
  isplitr [HO Hx Hwt Ho]
  · isplitl [Hb0 Hb1]
    · isplitl [Hb0]; · iexact Hb0
      iexact Hb1
    isplitl [Hrb Hkeep]
    · isplitl [Hrb]; · iexact Hrb
      iexact Hkeep
    isplitl [Hz]; · iexact Hz
    isplitl [Hz0 Hz1]
    · isplitl [Hz0]; · iexact Hz0
      iexact Hz1
    isplitl [Hy0]; · iexact Hy0
    iexact Hy1
  isplitl [HO]; · iexact HO
  isplitl [Hx]; · iexact Hx
  isplitl [Hwt]; · iexact Hwt
  iexact Ho

end

end Cert.Tour

end
-- ==== Proof.Body.lean ====
/-
# The kernel on one device

The four streams side by side: the barrier, the first and second steps, the loop by its invariant, the last steps.
-/
module

public import proofs.«01_k».proof.Proof.Hops

@[expose] public section

noncomputable section

namespace Cert.Tour

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Part → ℕ) (KS : Dev nD × Fin 4 → ℕ)

/-- The four streams in the order the kernel takes them. -/
def all (Φ : Fin 4 → sProp 𝕄) : sProp 𝕄 := iprop(Φ 0 ∗ Φ 2 ∗ Φ 1 ∗ Φ 3)

/-- What a device owes of the four. -/
def debt (c : Dev nD) (a b : ℕ) : CellTallies nD τ sig ℕ := dues 0 c a b + (dues 2 c a b + (dues 1 c a b + dues 3 c a b))

/-- What it owes at the start: the barrier's two signals too. -/
def O₀ (c : Dev nD) : CellTallies nD τ sig ℕ :=
  debt c 0 0 + tallyAt (barCell (next c)) 0 1 + tallyAt (barCell (prev c)) 0 1

theorem owing_eq {c : Dev nD} {O O' : CellTallies nD τ sig ℕ} (h : O = O') : owing (F := F) c O ⊢ owing c O' := by
  subst h; iintro H; iexact H

theorem devOf_eq (n : ℕ) (e : Dev nD) (h : n = e.val) : devOf n e h = e := Fin.ext h
theorem rows_of {o : Fin 2 → ℕ} {h : ∀ a, o a + S128x128.size a ≤ S4096x128.size a} {d : Dev nD} (he : o = rowsAt d) :
    (⟨o, h⟩ : Rows) = rowsOf d := by subst he; rfl

section
variable {c : Dev nD} {Q : PUnit → sProp (MT nD τ sig ℕ (Elt F) ℕ UU ℕ)}

/-! ## The barrier -/

theorem run_meet :
    iprop(world m K KS ∗ all (inbox c) ∗ owing c (O₀ c) ∗ dutyTok ER (barCell (prev c)) 0 0 ∗ dutyTok ER (barCell (next c)) 0 1
        ∗ cred (tallyAt (barCell c) 0 2) ∗ atPos ER (barCell c) 0 ∅ 0)
      ⊢ iprop(((all (fun q => inbox (dn q c) q) ∗ owing c (debt c 0 0) ∗ semVal (barCell c) 0) -∗ Q ⟨⟩) -∗ runs c (meet c) Q) := by
  unfold meet all owing
  rw [devOf_eq, devOf_eq]
  simp only [semSignalWord, semWaitWord, Prog.lift, Prog.bind_op, Prog.bind_ret, Prog.pure_eq_ret]
  iintro ⟨#Hw, ⟨Hb0, Hb2, Hb1, Hb3⟩, ⟨%W, HO⟩, Ht0, Ht1, Hc, Hat⟩ Hk
  ihave #Hi := (world_cell m K KS c .bar) $$ Hw
  ihave #Hip := (world_cell m K KS (prev c) .bar) $$ Hw
  ihave #Hin := (world_cell m K KS (next c) .bar) $$ Hw
  ihave #Hrp := (world_start m K KS (prev c) .bar) $$ Hw
  ihave #Hrn := (world_start m K KS (next c) .bar) $$ Hw
  iapply (Rounds.wp_signal 𝒱₀ ER (rd m) (c : Thread nD τ) none (dst := (prev c : Thread nD τ)) (sem := barS) (κ := K (prev c, .bar)) (r := 0) (d := 0)
      (by rw [show (((prev c : Dev nD) : Thread nD τ), SemLoc.reg barS) = barCell (prev c) from rfl, duties_eq]; decide)
      ((amount_eq m (prev c) .bar 0 0).trans rfl) 0 (debt c 0 0 + tallyAt (barCell (next c)) 0 1) rfl) $$ [HO Ht0 Hb0 Hb1]
  · isplitr; · iexact Hip
    isplitl [HO]; · iexact HO
    isplitl [Ht0]; · iexact Ht0
    isplitl [Hb0 Hb1]
    · rw [show (((prev c : Dev nD) : Thread nD τ), SemLoc.reg barS) = barCell (prev c) from rfl, payload_eq]
      unfold payOf barPay
      rw [if_pos rfl, show dn 0 (prev c) = c from next_prev c, show dn 1 (prev c) = c from next_prev c]
      isplitl [Hb0]; · iexact Hb0
      iexact Hb1
    iexact Hrp
  iintro HO
  iapply (Rounds.wp_signal 𝒱₀ ER (rd m) (c : Thread nD τ) none (dst := (next c : Thread nD τ)) (sem := barS) (κ := K (next c, .bar)) (r := 0) (d := 1)
      (by rw [show (((next c : Dev nD) : Thread nD τ), SemLoc.reg barS) = barCell (next c) from rfl, duties_eq]; decide)
      ((amount_eq m (next c) .bar 0 1).trans rfl) 0 (debt c 0 0) rfl) $$ [HO Ht1 Hb2 Hb3]
  · isplitr; · iexact Hin
    isplitl [HO]; · iexact HO
    isplitl [Ht1]; · iexact Ht1
    isplitl [Hb2 Hb3]
    · rw [show (((next c : Dev nD) : Thread nD τ), SemLoc.reg barS) = barCell (next c) from rfl, payload_eq]
      unfold payOf barPay
      rw [if_neg (by decide), show dn 2 (next c) = c from prev_next c, show dn 3 (next c) = c from prev_next c]
      isplitl [Hb2]; · iexact Hb2
      iexact Hb3
    iexact Hrn
  iintro HO
  iapply (Rounds.wp_wait_rest_token 𝒱₀ ER (rd m) (c : Thread nD τ) none (κ := K (c, .bar)) (sm := semOf .bar) (k' := 2)
      (wpE_semWait_eq 𝒱₀ (c : Thread nD τ) none Set.univ) (Set.mem_univ _) 0 (O := debt c 0 0) (W := W) (R := 0) (m := 0) (T := ∅)
      (by rw [expect_eq]; rfl)) $$ [Hc HO Hat]
  · isplitr; · iexact Hi
    isplitl [Hc]; · iexact Hc
    isplitl [HO]; · iexact HO
    isplitr
    · iapply (world_wait m K KS c .bar 0 (debt c 0 0) (by decide)
        (((Above.dues 1 0 c 0 0 (by decide) (by decide)).add ((Above.dues 1 2 c 0 0 (by decide) (by decide)).add
          ((Above.dues 1 1 c 0 0 (by decide) (by decide)).add (Above.dues 1 3 c 0 0 (by decide) (by decide))))))); iexact Hw
    iexact Hat
  iintro ⟨HO, Hat, -, Hpay⟩
  ihave Hp := (Entails.of_eq (rest_bar m c)) $$ Hpay
  icases Hp with ⟨⟨Hi0, Hi1⟩, ⟨Hi2, Hi3⟩⟩
  imod (close m K KS .bar (0 + 1) fun r h => by rw [duties_eq]; exact if_neg (by omega)) $$ [Hat] with Hz
  · isplitr; · iexact Hw
    iexact Hat
  iapply (run_end PUnit.unit Q)
  iapply Hk
  isplitl [Hi0 Hi1 Hi2 Hi3]
  · isplitl [Hi0]; · iexact Hi0
    isplitl [Hi2]; · iexact Hi2
    isplitl [Hi1]; · iexact Hi1
    iexact Hi3
  isplitl [HO]; · iexists _; iexact HO
  iexact Hz

/-! ## The first steps, the second steps -/

theorem run_firsts :
    iprop(world m K KS ∗ all (early c) ∗ all (fun q => inbox (dn q c) q) ∗ owing c (debt c 0 0) ∗ xPts m c ∗ wPts m c)
      ⊢ iprop(((all (begun c) ∗ owing c (debt c 1 0) ∗ xPts m c ∗ wPts m c) -∗ Q ⟨⟩) -∗ runs c (firsts xM wM lane c) Q) := by
  unfold firsts all debt
  iintro ⟨#Hw, ⟨He0, He2, He1, He3⟩, ⟨Hi0, Hi2, Hi1, Hi3⟩, HO, Hx, Hwt⟩ Hk
  unfold runs
  rw [wp_bind]
  iapply (run_first m K KS 0 _ _ (rows_of (rows_first c).1) _ (devOf_eq _ _ _)) $$ [He0 Hi0 HO Hx Hwt]
  · isplitr; · iexact Hw
    isplitl [He0]; · iexact He0
    isplitl [Hi0]; · iexact Hi0
    isplitl [HO]; · iexact HO
    isplitl [Hx]; · iexact Hx
    iexact Hwt
  iintro ⟨He0, HO, Hx, Hwt⟩
  rw [wp_bind]
  ihave HO := (owing_eq (O' := dues 2 c 0 0 + (dues 0 c 1 0 + (dues 1 c 0 0 + dues 3 c 0 0))) (by ac_rfl)) $$ HO
  iapply (run_first m K KS 2 _ _ (rows_of (rows_first c).2) _ (devOf_eq _ _ _)) $$ [He2 Hi2 HO Hx Hwt]
  · isplitr; · iexact Hw
    isplitl [He2]; · iexact He2
    isplitl [Hi2]; · iexact Hi2
    isplitl [HO]; · iexact HO
    isplitl [Hx]; · iexact Hx
    iexact Hwt
  iintro ⟨He2, HO, Hx, Hwt⟩
  rw [wp_bind]
  ihave HO := (owing_eq (O' := dues 1 c 0 0 + (dues 0 c 1 0 + (dues 2 c 1 0 + dues 3 c 0 0))) (by ac_rfl)) $$ HO
  iapply (run_first m K KS 1 _ _ (rows_of (rows_first c).1) _ (devOf_eq _ _ _)) $$ [He1 Hi1 HO Hx Hwt]
  · isplitr; · iexact Hw
    isplitl [He1]; · iexact He1
    isplitl [Hi1]; · iexact Hi1
    isplitl [HO]; · iexact HO
    isplitl [Hx]; · iexact Hx
    iexact Hwt
  iintro ⟨He1, HO, Hx, Hwt⟩
  ihave HO := (owing_eq (O' := dues 3 c 0 0 + (dues 0 c 1 0 + (dues 2 c 1 0 + dues 1 c 1 0))) (by ac_rfl)) $$ HO
  iapply (run_first m K KS 3 _ _ (rows_of (rows_first c).2) _ (devOf_eq _ _ _)) $$ [He3 Hi3 HO Hx Hwt]
  · isplitr; · iexact Hw
    isplitl [He3]; · iexact He3
    isplitl [Hi3]; · iexact Hi3
    isplitl [HO]; · iexact HO
    isplitl [Hx]; · iexact Hx
    iexact Hwt
  iintro ⟨He3, HO, Hx, Hwt⟩
  ihave HO := (owing_eq (O' := dues 0 c 1 0 + (dues 2 c 1 0 + (dues 1 c 1 0 + dues 3 c 1 0))) (by ac_rfl)) $$ HO
  iapply Hk
  isplitl [He0 He1 He2 He3]
  · isplitl [He0]; · iexact He0
    isplitl [He2]; · iexact He2
    isplitl [He1]; · iexact He1
    iexact He3
  isplitl [HO]; · iexact HO
  isplitl [Hx]; · iexact Hx
  iexact Hwt

/-- What is owed of three streams, each before or after its step. -/
theorem above_three (n : ℕ) (c : Dev nD) (p q r : Fin 4) (a b a' b' a'' b'' : ℕ) (h : n < 2 * a + 2 ∧ n < 2 * b + 3)
    (h' : n < 2 * a' + 2 ∧ n < 2 * b' + 3) (h'' : n < 2 * a'' + 2 ∧ n < 2 * b'' + 3) :
    Above n (dues p c a b + (dues q c a' b' + dues r c a'' b'')) :=
  (Above.dues n p c a b h.1 h.2).add ((Above.dues n q c a' b' h'.1 h'.2).add (Above.dues n r c a'' b'' h''.1 h''.2))

theorem run_seconds :
    iprop(world m K KS ∗ all (begun c) ∗ owing c (debt c 1 0) ∗ xPts m c ∗ wPts m c)
      ⊢ iprop(((all (mid c · 0) ∗ owing c (debt c 2 1) ∗ xPts m c ∗ wPts m c) -∗ Q ⟨⟩) -∗ runs c (seconds xM wM lane c) Q) := by
  unfold seconds all debt
  iintro ⟨#Hw, ⟨He0, He2, He1, He3⟩, HO, Hx, Hwt⟩ Hk
  unfold runs
  rw [wp_bind]
  iapply (run_second m K KS 0 _ _ (rows_of (rows_second c).1) _ _ (devOf_eq _ _ _) (devOf_eq _ _ _)
    (above_three 2 c 2 1 3 1 0 1 0 1 0 (by decide) (by decide) (by decide))) $$ [He0 HO Hx Hwt]
  · isplitr; · iexact Hw
    isplitl [He0]; · iexact He0
    isplitl [HO]; · iexact HO
    isplitl [Hx]; · iexact Hx
    iexact Hwt
  iintro ⟨He0, HO, Hx, Hwt⟩
  rw [wp_bind]
  ihave HO := (owing_eq (O' := dues 2 c 1 0 + (dues 0 c 2 1 + (dues 1 c 1 0 + dues 3 c 1 0))) (by ac_rfl)) $$ HO
  iapply (run_second m K KS 2 _ _ (rows_of (rows_second c).2) _ _ (devOf_eq _ _ _) (devOf_eq _ _ _)
    (above_three 2 c 0 1 3 2 1 1 0 1 0 (by decide) (by decide) (by decide))) $$ [He2 HO Hx Hwt]
  · isplitr; · iexact Hw
    isplitl [He2]; · iexact He2
    isplitl [HO]; · iexact HO
    isplitl [Hx]; · iexact Hx
    iexact Hwt
  iintro ⟨He2, HO, Hx, Hwt⟩
  rw [wp_bind]
  ihave HO := (owing_eq (O' := dues 1 c 1 0 + (dues 0 c 2 1 + (dues 2 c 2 1 + dues 3 c 1 0))) (by ac_rfl)) $$ HO
  iapply (run_second m K KS 1 _ _ (rows_of (rows_second c).1) _ _ (devOf_eq _ _ _) (devOf_eq _ _ _)
    (above_three 2 c 0 2 3 2 1 2 1 1 0 (by decide) (by decide) (by decide))) $$ [He1 HO Hx Hwt]
  · isplitr; · iexact Hw
    isplitl [He1]; · iexact He1
    isplitl [HO]; · iexact HO
    isplitl [Hx]; · iexact Hx
    iexact Hwt
  iintro ⟨He1, HO, Hx, Hwt⟩
  ihave HO := (owing_eq (O' := dues 3 c 1 0 + (dues 0 c 2 1 + (dues 2 c 2 1 + dues 1 c 2 1))) (by ac_rfl)) $$ HO
  iapply (run_second m K KS 3 _ _ (rows_of (rows_second c).2) _ _ (devOf_eq _ _ _) (devOf_eq _ _ _)
    (above_three 2 c 0 2 1 2 1 2 1 2 1 (by decide) (by decide) (by decide))) $$ [He3 HO Hx Hwt]
  · isplitr; · iexact Hw
    isplitl [He3]; · iexact He3
    isplitl [HO]; · iexact HO
    isplitl [Hx]; · iexact Hx
    iexact Hwt
  iintro ⟨He3, HO, Hx, Hwt⟩
  ihave HO := (owing_eq (O' := dues 0 c 2 1 + (dues 2 c 2 1 + (dues 1 c 2 1 + dues 3 c 2 1))) (by ac_rfl)) $$ HO
  iapply Hk
  isplitl [He0 He1 He2 He3]
  · isplitl [He0]; · iexact He0
    isplitl [He2]; · iexact He2
    isplitl [He1]; · iexact He1
    iexact He3
  isplitl [HO]; · iexact HO
  isplitl [Hx]; · iexact Hx
  iexact Hwt

/-! ## The loop -/

/-- Before trip `k`. -/
def before (c : Dev nD) (k : ℕ) : sProp 𝕄 :=
  iprop(world m K KS ∗ all (mid c · k) ∗ owing c (debt c (k + 2) (k + 1)) ∗ xPts m c ∗ wPts m c)

theorem run_trip (k : Fin k0_t1_loop.trips) :
    before m K KS c k.val ⊢ runs c (trip xM wM lane c k) (fun _ => before m K KS c (k.val + 1)) := by
  have hk : k.val < 29 := trips_eq ▸ k.isLt
  unfold before trip all debt
  iintro ⟨#Hw, ⟨He0, He2, He1, He3⟩, HO, Hx, Hwt⟩
  unfold runs
  rw [wp_bind]
  iapply (run_hop m K KS 0 _ k.val hk _ (rows_of (rows_hop c k).1) _ (credit_cond k).1 _ _ (Slot.eq_lit _) (Slot.eq_lit _) _ _
    (devOf_eq _ _ _) (devOf_eq _ _ _) (above_three (2 * k.val + 4) c 2 1 3 (k.val + 2) (k.val + 1) (k.val + 2) (k.val + 1) (k.val + 2) (k.val + 1) (by omega) (by omega) (by omega))) $$ [He0 HO Hx Hwt]
  · isplitr; · iexact Hw
    isplitl [He0]; · iexact He0
    isplitl [HO]; · iexact HO
    isplitl [Hx]; · iexact Hx
    iexact Hwt
  iintro ⟨He0, HO, Hx, Hwt⟩
  rw [wp_bind]
  ihave HO := (owing_eq (O' := dues 2 c (k.val + 2) (k.val + 1) + (dues 0 c (k.val + 3) (k.val + 2)
    + (dues 1 c (k.val + 2) (k.val + 1) + dues 3 c (k.val + 2) (k.val + 1)))) (by ac_rfl)) $$ HO
  iapply (run_hop m K KS 2 _ k.val hk _ (rows_of (rows_hop c k).2) _ (credit_cond k).2.1 _ _ (Slot.eq_lit _) (Slot.eq_lit _) _ _
    (devOf_eq _ _ _) (devOf_eq _ _ _) (above_three (2 * k.val + 4) c 0 1 3 (k.val + 3) (k.val + 2) (k.val + 2) (k.val + 1) (k.val + 2) (k.val + 1) (by omega) (by omega) (by omega))) $$ [He2 HO Hx Hwt]
  · isplitr; · iexact Hw
    isplitl [He2]; · iexact He2
    isplitl [HO]; · iexact HO
    isplitl [Hx]; · iexact Hx
    iexact Hwt
  iintro ⟨He2, HO, Hx, Hwt⟩
  rw [wp_bind]
  ihave HO := (owing_eq (O' := dues 1 c (k.val + 2) (k.val + 1) + (dues 0 c (k.val + 3) (k.val + 2)
    + (dues 2 c (k.val + 3) (k.val + 2) + dues 3 c (k.val + 2) (k.val + 1)))) (by ac_rfl)) $$ HO
  iapply (run_hop m K KS 1 _ k.val hk _ (rows_of (rows_hop c k).1) _ (credit_cond k).2.2.1 _ _ (Slot.eq_lit _) (Slot.eq_lit _) _ _
    (devOf_eq _ _ _) (devOf_eq _ _ _) (above_three (2 * k.val + 4) c 0 2 3 (k.val + 3) (k.val + 2) (k.val + 3) (k.val + 2) (k.val + 2) (k.val + 1) (by omega) (by omega) (by omega))) $$ [He1 HO Hx Hwt]
  · isplitr; · iexact Hw
    isplitl [He1]; · iexact He1
    isplitl [HO]; · iexact HO
    isplitl [Hx]; · iexact Hx
    iexact Hwt
  iintro ⟨He1, HO, Hx, Hwt⟩
  ihave HO := (owing_eq (O' := dues 3 c (k.val + 2) (k.val + 1) + (dues 0 c (k.val + 3) (k.val + 2)
    + (dues 2 c (k.val + 3) (k.val + 2) + dues 1 c (k.val + 3) (k.val + 2)))) (by ac_rfl)) $$ HO
  iapply (run_hop m K KS 3 _ k.val hk _ (rows_of (rows_hop c k).2) _ (credit_cond k).2.2.2 _ _ (Slot.eq_lit _) (Slot.eq_lit _) _ _
    (devOf_eq _ _ _) (devOf_eq _ _ _) (above_three (2 * k.val + 4) c 0 2 1 (k.val + 3) (k.val + 2) (k.val + 3) (k.val + 2) (k.val + 3) (k.val + 2) (by omega) (by omega) (by omega))) $$ [He3 HO Hx Hwt]
  · isplitr; · iexact Hw
    isplitl [He3]; · iexact He3
    isplitl [HO]; · iexact HO
    isplitl [Hx]; · iexact Hx
    iexact Hwt
  iintro ⟨He3, HO, Hx, Hwt⟩
  ihave HO := (owing_eq (O' := dues 0 c (k.val + 1 + 2) (k.val + 1 + 1) + (dues 2 c (k.val + 1 + 2) (k.val + 1 + 1)
    + (dues 1 c (k.val + 1 + 2) (k.val + 1 + 1) + dues 3 c (k.val + 1 + 2) (k.val + 1 + 1)))) (by ac_rfl)) $$ HO
  isplitr; · iexact Hw
  isplitl [He0 He1 He2 He3]
  · isplitl [He0]; · iexact He0
    isplitl [He2]; · iexact He2
    isplitl [He1]; · iexact He1
    iexact He3
  isplitl [HO]; · iexact HO
  isplitl [Hx]; · iexact Hx
  iexact Hwt

theorem run_loop {α : Type} {Q' : α → sProp 𝕄} (p : Code F α) :
    before m K KS c 0 ⊢ iprop((before m K KS c 29 -∗ runs c p Q')
      -∗ runs c (Scf.Loop.for k0_t1_loop k0_t1_ok ⟨⟩ (fun k _ => trip xM wM lane c k) >>= fun _ => p) Q') := by
  iintro HI Hk
  iapply (Scf.wp_for_bind frame (wpE (defs₀ (F := F)) 𝒱₀ (c : Thread nD τ) none) Set.univ k0_t1_loop.lb k0_t1_loop.ub k0_t1_loop.st k0_t1_ok
    PUnit.unit (fun k _ => trip xM wM lane c k) (fun k _ => before m K KS c k) (fun k _ => run_trip m K KS k) (kk := fun _ => p)) $$ [HI]
  · iexact HI
  iintro %u HI
  iapply Hk
  rw [show (29 : ℕ) = Scf.trips k0_t1_loop.lb k0_t1_loop.ub k0_t1_loop.st from trips_eq.symm]
  iexact HI

/-! ## The last steps -/

/-- The result a device ends with, from what the buffer held. -/
def filled (c : Dev nD) (f : (cc0_stg2_0 : Ref sig .tc).ty.Contents (Elt F)) : (cc0_stg2_0 : Ref sig .tc).ty.Contents (Elt F) :=
  placed m 3 c (placed m 1 c (placed m 2 c (placed m 0 c f)))

theorem run_lasts (f : (cc0_stg2_0 : Ref sig .tc).ty.Contents (Elt F)) :
    iprop(world m K KS ∗ all (mid c · 29) ∗ owing c 0 ∗ xPts m c ∗ wPts m c ∗ oPts c f)
      ⊢ iprop(((all (done c) ∗ owing c 0 ∗ xPts m c ∗ wPts m c ∗ oPts c (filled m c f)) -∗ Q ⟨⟩) -∗ runs c (lasts xM wM oM lane c) Q) := by
  unfold lasts all filled
  iintro ⟨#Hw, ⟨He0, He2, He1, He3⟩, HO, Hx, Hwt, Ho⟩ Hk
  unfold runs
  rw [wp_bind]
  iapply (run_last m K KS 0 _ (rows_of (rows_last c).1)) $$ [He0 HO Hx Hwt Ho]
  · isplitr; · iexact Hw
    isplitl [He0]; · iexact He0
    isplitl [HO]; · iexact HO
    isplitl [Hx]; · iexact Hx
    isplitl [Hwt]; · iexact Hwt
    iexact Ho
  iintro ⟨He0, HO, Hx, Hwt, Ho⟩
  rw [wp_bind]
  iapply (run_last m K KS 2 _ (rows_of (rows_last c).2)) $$ [He2 HO Hx Hwt Ho]
  · isplitr; · iexact Hw
    isplitl [He2]; · iexact He2
    isplitl [HO]; · iexact HO
    isplitl [Hx]; · iexact Hx
    isplitl [Hwt]; · iexact Hwt
    iexact Ho
  iintro ⟨He2, HO, Hx, Hwt, Ho⟩
  rw [wp_bind]
  iapply (run_last m K KS 1 _ (rows_of (rows_last c).1)) $$ [He1 HO Hx Hwt Ho]
  · isplitr; · iexact Hw
    isplitl [He1]; · iexact He1
    isplitl [HO]; · iexact HO
    isplitl [Hx]; · iexact Hx
    isplitl [Hwt]; · iexact Hwt
    iexact Ho
  iintro ⟨He1, HO, Hx, Hwt, Ho⟩
  iapply (run_last m K KS 3 _ (rows_of (rows_last c).2)) $$ [He3 HO Hx Hwt Ho]
  · isplitr; · iexact Hw
    isplitl [He3]; · iexact He3
    isplitl [HO]; · iexact HO
    isplitl [Hx]; · iexact Hx
    isplitl [Hwt]; · iexact Hwt
    iexact Ho
  iintro ⟨He3, HO, Hx, Hwt, Ho⟩
  iapply Hk
  isplitl [He0 He1 He2 He3]
  · isplitl [He0]; · iexact He0
    isplitl [He2]; · iexact He2
    isplitl [He1]; · iexact He1
    iexact He3
  isplitl [HO]; · iexact HO
  isplitl [Hx]; · iexact Hx
  isplitl [Hwt]; · iexact Hwt
  iexact Ho

theorem dues_over (q : Fin 4) (c : Dev nD) : dues q c 31 30 = 0 := by
  unfold dues; rw [Finset.Ico_self, Finset.Ico_eq_empty_of_le (by decide), Finset.sum_empty, Finset.sum_empty, add_zero]
theorem debt_over (c : Dev nD) : debt c 31 30 = 0 := by
  unfold debt; rw [dues_over, dues_over, dues_over, dues_over, add_zero, add_zero, add_zero]

/-- The whole kernel on device `c`. -/
theorem run_program (f : (cc0_stg2_0 : Ref sig .tc).ty.Contents (Elt F)) :
    iprop(world m K KS ∗ all (early c) ∗ all (inbox c)
        ∗ (dutyTok ER (barCell (prev c)) 0 0 ∗ dutyTok ER (barCell (next c)) 0 1 ∗ cred (tallyAt (barCell c) 0 2) ∗ atPos ER (barCell c) 0 ∅ 0)
        ∗ owing c (O₀ c) ∗ xPts m c ∗ wPts m c ∗ oPts c f)
      ⊢ iprop(((all (done c) ∗ semVal (barCell c) 0 ∗ owing c 0 ∗ xPts m c ∗ wPts m c ∗ oPts c (filled m c f)) -∗ Q ⟨⟩)
          -∗ runs c (program xM wM oM lane) Q) := by
  unfold program
  simp only [Prog.lift, Prog.bind_op, Prog.bind_ret]
  iintro ⟨#Hw, He, Hb, ⟨Ht0, Ht1, Hc, Hat⟩, HO, Hx, Hwt, Ho⟩ Hk
  unfold runs
  rw [wp_deviceId, wp_bind]
  iapply (run_meet m K KS) $$ [Hb HO Ht0 Ht1 Hc Hat]
  · isplitr; · iexact Hw
    isplitl [Hb]; · iexact Hb
    isplitl [HO]; · iexact HO
    isplitl [Ht0]; · iexact Ht0
    isplitl [Ht1]; · iexact Ht1
    isplitl [Hc]; · iexact Hc
    iexact Hat
  iintro ⟨Hb, HO, Hz⟩
  rw [wp_bind]
  iapply (run_firsts m K KS) $$ [He Hb HO Hx Hwt]
  · isplitr; · iexact Hw
    isplitl [He]; · iexact He
    isplitl [Hb]; · iexact Hb
    isplitl [HO]; · iexact HO
    isplitl [Hx]; · iexact Hx
    iexact Hwt
  iintro ⟨He, HO, Hx, Hwt⟩
  rw [wp_bind]
  iapply (run_seconds m K KS) $$ [He HO Hx Hwt]
  · isplitr; · iexact Hw
    isplitl [He]; · iexact He
    isplitl [HO]; · iexact HO
    isplitl [Hx]; · iexact Hx
    iexact Hwt
  iintro ⟨He, HO, Hx, Hwt⟩
  iapply (run_loop m K KS) $$ [He HO Hx Hwt]
  · unfold before
    isplitr; · iexact Hw
    isplitl [He]; · iexact He
    isplitl [HO]; · iexact HO
    isplitl [Hx]; · iexact Hx
    iexact Hwt
  unfold before
  iintro ⟨-, He, HO, Hx, Hwt⟩
  ihave HO := (owing_eq (debt_over c)) $$ HO
  iapply (run_lasts m K KS f) $$ [He HO Hx Hwt Ho]
  · isplitr; · iexact Hw
    isplitl [He]; · iexact He
    isplitl [HO]; · iexact HO
    isplitl [Hx]; · iexact Hx
    isplitl [Hwt]; · iexact Hwt
    iexact Ho
  iintro ⟨He, HO, Hx, Hwt, Ho⟩
  iapply Hk
  isplitl [He]; · iexact He
  isplitl [Hz]; · iexact Hz
  isplitl [HO]; · iexact HO
  isplitl [Hx]; · iexact Hx
  isplitl [Hwt]; · iexact Hwt
  iexact Ho

end

end Cert.Tour

end
-- ==== Proof.Deal.lean ====
/-
# The start: what is made, and how it is dealt out

The ghost state as made belongs to the cells; the devices that pay a cell's duties are its neighbours. So it is dealt
round: what belongs to a landing cell goes to the device that sends there, what belongs to a credit cell or a
shelf to the device that fills it. The dues of all the devices together are each device's own waits.
-/
module

public import proofs.«01_k».proof.Proof.Body

@[expose] public section

noncomputable section

namespace Cert.Tour

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families over the semaphores and the streams -/

/-- The semaphores the kernel has as its own: all but the barrier. -/
abbrev Own : Type := Fin 4 ⊕ (Fin 4 × Fin 2) ⊕ (Fin 4 × Fin 2)

def ownPart : Own → Part
  | .inl q => .cr q
  | .inr (.inl a) => .sd a.1 a.2
  | .inr (.inr a) => .rv a.1 a.2

def partOwn : Unit ⊕ Own ≃ Part where
  toFun | .inl _ => .bar | .inr k => ownPart k
  invFun | .bar => .inl () | .cr q => .inr (.inl q) | .sd q s => .inr (.inr (.inl (q, s))) | .rv q s => .inr (.inr (.inr (q, s)))
  left_inv := by rintro (_ | _ | _ | _) <;> rfl
  right_inv := by rintro (_ | _ | _ | _) <;> rfl

theorem semOf_injective : Function.Injective semOf := fun p p' h => by
  have := congrArg partOf h
  rw [part_semOf, part_semOf] at this
  exact Option.some.inj this

def osem (k : Own) : SemLoc sig := semOf (ownPart k)

theorem own_injective : Function.Injective ownPart := fun k k' h => Sum.inr_injective (partOwn.injective (a₁ := .inr k) (a₂ := .inr k') h)

theorem ownSemFacts : Pipeline.OwnSemFacts cfg0.spec osem :=
  ⟨by decide, semOf_injective.comp own_injective, by decide⟩

omit [FloatOps F] in
theorem four_eq (Φ : Fin 4 → sProp 𝕄) : bigSep Finset.univ Φ = all Φ :=
  bigSep_univ_eq_bigSepL [0, 2, 1, 3] (by decide) (by decide) Φ

/-- A stream's five semaphores. -/
def five (Φ : Part → sProp 𝕄) (q : Fin 4) : sProp 𝕄 :=
  iprop(Φ (.cr q) ∗ (Φ (.sd q 0) ∗ Φ (.sd q 1)) ∗ (Φ (.rv q 0) ∗ Φ (.rv q 1)))

omit [FloatOps F] in
theorem own_eq (Φ : Part → sProp 𝕄) : bigSep Finset.univ (fun k : Own => Φ (ownPart k)) = bigSep Finset.univ (five Φ) := by
  rw [bigSep_univ_sum, bigSep_univ_sum, bigSep_univ_prod, bigSep_univ_prod]
  unfold five
  rw [bigSep_sep', bigSep_sep']
  exact congrArg₂ _ rfl (congrArg₂ _ (bigSep_congr fun q _ => bigSep_univ_two _) (bigSep_congr fun q _ => bigSep_univ_two _))

omit [FloatOps F] in
theorem parts_eq (Φ : Part → sProp 𝕄) : bigSep Finset.univ Φ = iprop(Φ .bar ∗ bigSep Finset.univ (five Φ)) := by
  rw [bigSep_univ_equiv partOwn, bigSep_univ_sum, bigSep_univ_of_subsingleton (), ← own_eq]; rfl

omit [FloatOps F] in
/-- A family over devices and streams, dealt one spot on or back along each stream. -/
theorem deal_dn (Φ : Dev nD → Fin 4 → sProp 𝕄) :
    (bigSep Finset.univ fun c => bigSep Finset.univ fun q => Φ c q) = bigSep Finset.univ fun c => bigSep Finset.univ fun q => Φ (dn q c) q := by
  rw [bigSep_univ_comm, bigSep_univ_comm (fun c q => Φ (dn q c) q)]
  exact bigSep_congr fun q _ => bigSep_univ_equiv (shift q) fun c => Φ c q
omit [FloatOps F] in
theorem deal_up (Φ : Dev nD → Fin 4 → sProp 𝕄) :
    (bigSep Finset.univ fun c => bigSep Finset.univ fun q => Φ c q) = bigSep Finset.univ fun c => bigSep Finset.univ fun q => Φ (up q c) q := by
  rw [bigSep_univ_comm, bigSep_univ_comm (fun c q => Φ (up q c) q)]
  exact bigSep_congr fun q _ => bigSep_univ_equiv (shift q).symm fun c => Φ c q

theorem ico_univ (n : ℕ) : Finset.Ico 0 n = (Finset.univ : Finset (Fin n)).map Fin.valEmbedding := by
  ext i
  simp only [Finset.mem_Ico, Finset.mem_map, Finset.mem_univ, true_and, Fin.valEmbedding_apply]
  exact ⟨fun h => ⟨⟨i, h.2⟩, rfl⟩, fun ⟨j, hj⟩ => ⟨Nat.zero_le i, hj ▸ j.isLt⟩⟩

omit [FloatOps F] in
theorem steps_eq (n : ℕ) (Φ : ℕ → sProp 𝕄) : bigSep Finset.univ (fun h : Fin n => Φ h.val) = bigSep (Finset.Ico 0 n) Φ := by
  rw [ico_univ, bigSep_map]; rfl

/-! ## The duty tokens as made -/

/-- A device's: its barrier's two, and by streams those of its sends, of what lands, and of its credits. -/
abbrev Tok : Type := Fin 2 ⊕ (Fin 4 × (Fin 31 ⊕ Fin 31 ⊕ Fin 29))

def tokOf : Dev nD × Tok → GSem nD τ sig × ℕ × ℕ
  | (c, .inl d) => (barCell c, 0, d.val)
  | (c, .inr (q, .inl h)) => (sendCell c q h.val, h.val / 2, 0)
  | (c, .inr (q, .inr (.inl h))) => (recvCell c q h.val, h.val / 2, 0)
  | (c, .inr (q, .inr (.inr k))) => (credCell c q, 0, k.val)

/-- The part a token is of, and its other numbers. -/
def tokPart : Tok → Part × ℕ × ℕ
  | .inl d => (.bar, 0, d.val)
  | .inr (q, .inl h) => (.sd q (slot h.val), h.val / 2, 0)
  | .inr (q, .inr (.inl h)) => (.rv q (slot h.val), h.val / 2, 0)
  | .inr (q, .inr (.inr k)) => (.cr q, 0, k.val)

theorem tokOf_eq : ∀ a : Dev nD × Tok, tokOf a = (cell a.1 (tokPart a.2).1, (tokPart a.2).2)
  | (c, .inl d) => rfl
  | (c, .inr (q, .inl h)) => rfl
  | (c, .inr (q, .inr (.inl h))) => rfl
  | (c, .inr (q, .inr (.inr k))) => rfl

theorem step_eq {h h' : Fin 31} (hs : slot h.val = slot h'.val) (hd : h.val / 2 = h'.val / 2) : h = h' := by
  have := congrArg Fin.val hs
  have e : h.val % 2 = h'.val % 2 := this
  exact Fin.ext (by omega)

theorem tokPart_injective : Function.Injective tokPart := by
  rintro (d | ⟨q, h | h | k⟩) (d' | ⟨q', h' | h' | k'⟩) e <;> simp only [tokPart, Prod.mk.injEq, reduceCtorEq, false_and, Part.sd.injEq, Part.rv.injEq, Part.cr.injEq] at e
  · rw [Fin.ext e.2.2]
  · rw [e.1.1, step_eq e.1.2 e.2.1]
  · rw [e.1.1, step_eq e.1.2 e.2.1]
  · rw [e.1, Fin.ext e.2.2]

theorem tokOf_injective : Function.Injective tokOf := fun a a' e => by
  rw [tokOf_eq, tokOf_eq] at e
  obtain ⟨e1, e2⟩ := Prod.ext_iff.1 e
  have hc : a.1 = a'.1 := congrArg (fun g : GSem nD τ sig => g.1.1) e1
  have hp : (tokPart a.2).1 = (tokPart a'.2).1 := semOf_injective (congrArg Prod.snd e1)
  exact Prod.ext hc (tokPart_injective (Prod.ext hp e2))

theorem cell_injective : Function.Injective fun a : Dev nD × Part => cell a.1 a.2 := fun a a' e =>
  Prod.ext (congrArg (fun g : GSem nD τ sig => g.1.1) e) (semOf_injective (congrArg Prod.snd e))

def allCells : Finset (GSem nD τ sig) := Finset.univ.map ⟨_, cell_injective⟩
def allToks : Finset (GSem nD τ sig × ℕ × ℕ) := Finset.univ.map ⟨_, tokOf_injective⟩

def u₀ : UU :=
  (initOf (Pipeline.cells cfgs cellOf_inj) (Pipeline.launchToks cfgs cellOf_inj), (initOf allCells allToks, initOf Finset.univ ∅))

variable (m : (ℓ : Loc nD τ sig) → Buf (Elt F) ℓ)

/-- The tokens of the cells of `c`. -/
def sendToks (c : Dev nD) (q : Fin 4) : sProp 𝕄 := bigSep (Finset.Ico 0 31) fun h => dutyTok (ER (F := F)) (sendCell c q h) (h / 2) 0
def recvToks (c : Dev nD) (q : Fin 4) : sProp 𝕄 := bigSep (Finset.Ico 0 31) fun h => dutyTok (ER (F := F)) (recvCell c q h) (h / 2) 0
def credToks (c : Dev nD) (q : Fin 4) : sProp 𝕄 := bigSep (Finset.Ico 0 29) fun k => dutyTok (ER (F := F)) (credCell c q) 0 k

/-- The shelf of stream `q` at `c` as made. -/
def shelfMade (c : Dev nD) (q : Fin 4) : sProp 𝕄 :=
  iprop(roundAuth (EC (F := F)) ((c, q), false) 0 ∅ 0 ∗ roundAuth (EC (F := F)) ((c, q), true) 0 ∅ 0)

def places (c : Dev nD) : Part → sProp 𝕄 := fun p => atPos (ER (F := F)) (cell c p) 0 ∅ 0

/-- All that is made for device `c`. -/
def made (c : Dev nD) : sProp 𝕄 :=
  iprop((bigSep Finset.univ fun p => roundState ER (rd m) (cell c p) 0) ∗ (bigSep Finset.univ fun p => reached (ER (F := F)) (cell c p) 0)
    ∗ bigSep Finset.univ (places c)
    ∗ (dutyTok (ER (F := F)) (barCell c) 0 0 ∗ dutyTok (ER (F := F)) (barCell c) 0 1)
    ∗ bigSep Finset.univ (sendToks c) ∗ bigSep Finset.univ (recvToks c) ∗ bigSep Finset.univ (credToks c)
    ∗ bigSep Finset.univ (shelfMade c) ∗ bigSep Finset.univ (fun q => putCount c q 0) ∗ bigSep Finset.univ (fun q => takenCount c q 0))

omit [FloatOps F] in
theorem toks_eq : bigSep allToks (fun x => (dutyTok ER x.1 x.2.1 x.2.2 : sProp 𝕄))
    = bigSep Finset.univ fun c : Dev nD => iprop((dutyTok (ER (F := F)) (barCell c) 0 0 ∗ dutyTok (ER (F := F)) (barCell c) 0 1)
        ∗ bigSep Finset.univ (sendToks c) ∗ bigSep Finset.univ (recvToks c) ∗ bigSep Finset.univ (credToks c)) := by
  unfold allToks
  rw [bigSep_map, bigSep_univ_prod]
  refine bigSep_congr fun c _ => ?_
  rw [bigSep_univ_sum, bigSep_univ_prod, bigSep_univ_two]
  rw [← bigSep_sep', ← bigSep_sep']
  refine congrArg₂ _ rfl (bigSep_congr fun q _ => ?_)
  rw [bigSep_univ_sum, bigSep_univ_sum]
  unfold sendToks recvToks credToks
  rw [← steps_eq 31, ← steps_eq 31, ← steps_eq 29]
  rfl

omit [FloatOps F] in
theorem own_two (a : UA) (b : UB) : (BI.own (embR (a, b)) : sProp 𝕄) ⊢ iprop(BI.own (ER a) ∗ BI.own (EC b)) := own_pair_emb embR a b

theorem made_intro : (ownU u₀ : sProp 𝕄)
    ⊢ |={Set.univ}=> iprop(BI.own (EP (initOf (Pipeline.cells cfgs cellOf_inj) (Pipeline.launchToks cfgs cellOf_inj))) ∗ bigSep Finset.univ (made m)) := by
  have hX (Φ : GSem nD τ sig → sProp 𝕄) : bigSep allCells Φ = bigSep Finset.univ fun c : Dev nD => bigSep Finset.univ fun p : Part => Φ (cell c p) := by
    unfold allCells; rw [bigSep_map, bigSep_univ_prod]; rfl
  have hS (Φ : Shelf → sProp 𝕄) : bigSep Finset.univ Φ
      = bigSep Finset.univ fun c : Dev nD => bigSep Finset.univ fun q : Fin 4 => iprop(Φ ((c, q), false) ∗ Φ ((c, q), true)) := by
    rw [bigSep_univ_prod, bigSep_univ_prod]
    exact bigSep_congr fun c _ => bigSep_congr fun q _ => bigSep_univ_eq_bigSepL [false, true] (by decide) (by decide) _
  have hI : (bigSep Finset.univ fun g : Shelf => initState (EC (F := F)) g) ⊢ (bigSep Finset.univ fun g : Shelf => roundAuth EC g 0 ∅ 0 : sProp 𝕄) :=
    bigSep_mono fun g _ => by
      unfold initState
      show iprop(roundAuth (EC (F := F)) g 0 ∅ 0 ∗ ledgerAuth (EC (F := F)) g 0 ∅ _) ⊢ (roundAuth EC g 0 ∅ 0 : sProp 𝕄)
      iintro ⟨H, -⟩
      iexact H
  unfold u₀
  iintro Hu
  ihave H := (ownU_pair _ _) $$ Hu
  icases H with ⟨HP, HX⟩
  ihave H := (own_two _ _) $$ HX
  icases H with ⟨HA, HB⟩
  imod (Rounds.fund ER (rd m) allCells allToks) $$ HA with ⟨Hst, Hr, Hat, Htok⟩
  imod (Rounds.fund_init EC Finset.univ ∅) $$ HB with ⟨Hin, -, Hpl, -⟩
  imodintro
  isplitl [HP]; · iexact HP
  ihave Hst := (Entails.of_eq (hX fun g => roundState ER (rd m) g 0)) $$ Hst
  ihave Hr := (Entails.of_eq (hX fun g => reached ER g 0)) $$ Hr
  ihave Hat := (Entails.of_eq (hX fun g => atPos ER g 0 ∅ 0)) $$ Hat
  ihave Htok := (Entails.of_eq toks_eq) $$ Htok
  ihave Hin := hI $$ Hin
  ihave Hin := (Entails.of_eq (hS fun g => roundAuth EC g 0 ∅ 0)) $$ Hin
  ihave Hpl := (Entails.of_eq (hS fun g => atPos EC g 0 ∅ 0)) $$ Hpl
  ihave Hpl := (Entails.of_eq (bigSep_congr fun c _ => bigSep_sep' Finset.univ (fun q => putCount (F := F) c q 0) (fun q => takenCount c q 0))) $$ Hpl
  unfold made shelfMade places
  simp only [bigSep_sep']
  icases Htok with ⟨Hb, Hs, Hv, Hc⟩
  icases Hpl with ⟨Hp, Ht⟩
  isplitl [Hst]; · iexact Hst
  isplitl [Hr]; · iexact Hr
  isplitl [Hat]; · iexact Hat
  isplitl [Hb]; · iexact Hb
  isplitl [Hs]; · iexact Hs
  isplitl [Hv]; · iexact Hv
  isplitl [Hc]; · iexact Hc
  isplitl [Hin]; · iexact Hin
  isplitl [Hp]; · iexact Hp
  iexact Ht

/-! ## The global step -/

/-- What is dealt to `c` of stream `q`. -/
def dealt (c : Dev nD) (q : Fin 4) : sProp 𝕄 :=
  iprop(bigSep (Finset.Ico 0 31) (maySend c q) ∗ bigSep (Finset.Ico 0 29) (mayCredit c q)
    ∗ putCount (up q c) q 0 ∗ takenCount c q 0 ∗ five (places c) q)

/-- And of the barrier. -/
def barDealt (c : Dev nD) : sProp 𝕄 :=
  iprop(dutyTok (ER (F := F)) (barCell (prev c)) 0 0 ∗ dutyTok (ER (F := F)) (barCell (next c)) 0 1 ∗ atPos (ER (F := F)) (barCell c) 0 ∅ 0)

/-- The invariants, and that every cell started. -/
def known (K : Dev nD × Part → ℕ) (KS : Dev nD × Fin 4 → ℕ) : sProp 𝕄 :=
  iprop((bigSep Finset.univ fun a : Dev nD × Part => cellInv ER (rd m) (K a) (cell a.1 a.2))
    ∗ (bigSep Finset.univ fun a : Dev nD × Part => reached ER (cell a.1 a.2) 0)
    ∗ (bigSep Finset.univ fun a : Dev nD × Fin 4 => inv (KS a) (shelf a)))

instance known_persistent (K : Dev nD × Part → ℕ) (KS : Dev nD × Fin 4 → ℕ) : BI.Persistent (known m K KS) := by unfold known; infer_instance

def hand (c : Dev nD) : sProp 𝕄 := iprop(∃ K KS, known m K KS ∗ bigSep Finset.univ (dealt c) ∗ barDealt c)

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_eq (c : Dev nD) :
    iprop(unscopedSems0 c ∗ Pipeline.ownSems0 (Ix := ℕ) (Name := ℕ) (U := UU) (Lvl := ℕ) (Val := Elt F) (τ := τ) osem c)
      = (bigSep Finset.univ fun p : Part => semVal (cell c p) 0 : sProp 𝕄) := by
  rw [bigSep_univ_equiv partOwn, bigSep_univ_sum, bigSep_univ_of_subsingleton (), unscopedSems0_eq]; rfl

omit [FloatOps F] in
theorem shelf_intro (c : Dev nD) (q : Fin 4) : shelfMade (F := F) c q ⊢ shelf (c, q) := by
  unfold shelfMade shelf
  iintro ⟨H1, H2⟩
  iexists 0, 0
  isplitr; · ipureintro; exact Nat.le_refl 0
  isplitl [H1]; · iexact H1
  isplitl [H2]; · iexact H2
  rw [Finset.Ico_self, bigSep_empty]
  iempintro

omit [FloatOps F] in
theorem dealt_eq : (bigSep Finset.univ fun c : Dev nD => bigSep Finset.univ (dealt (F := F) c))
    = iprop(((bigSep Finset.univ fun c : Dev nD => bigSep Finset.univ (sendToks (F := F) c)) ∗ (bigSep Finset.univ fun c : Dev nD => bigSep Finset.univ (recvToks (F := F) c)))
      ∗ (bigSep Finset.univ fun c : Dev nD => bigSep Finset.univ (credToks (F := F) c))
      ∗ (bigSep Finset.univ fun c : Dev nD => bigSep Finset.univ fun q => putCount (F := F) c q 0)
      ∗ (bigSep Finset.univ fun c : Dev nD => bigSep Finset.univ fun q => takenCount (F := F) c q 0)
      ∗ (bigSep Finset.univ fun c : Dev nD => bigSep Finset.univ (five (places (F := F) c)))) := by
  rw [deal_dn (recvToks (F := F)), deal_up (credToks (F := F)), deal_up fun c q => putCount (F := F) c q 0]
  simp only [← bigSep_sep']
  refine bigSep_congr fun c _ => bigSep_congr fun q _ => ?_
  unfold dealt sendToks recvToks credToks
  rw [← bigSep_sep']
  rfl

omit [FloatOps F] in
theorem barDealt_eq : (bigSep Finset.univ (barDealt (F := F)))
    = iprop((bigSep Finset.univ fun c : Dev nD => dutyTok (ER (F := F)) (barCell c) 0 0) ∗ (bigSep Finset.univ fun c : Dev nD => dutyTok (ER (F := F)) (barCell c) 0 1)
      ∗ bigSep Finset.univ fun c : Dev nD => atPos (ER (F := F)) (barCell c) 0 ∅ 0) := by
  rw [bigSep_univ_equiv (shift 2) fun c : Dev nD => dutyTok (ER (F := F)) (barCell c) 0 0,
    bigSep_univ_equiv (shift 0) fun c : Dev nD => dutyTok (ER (F := F)) (barCell c) 0 1]
  unfold barDealt
  rw [bigSep_sep', bigSep_sep']
  rfl

theorem hand_intro (K : Dev nD × Part → ℕ) (KS : Dev nD × Fin 4 → ℕ) (c : Dev nD) :
    iprop(known m K KS ∗ bigSep Finset.univ (dealt c) ∗ barDealt c) ⊢ hand m c := by
  unfold hand
  iintro H
  iexists K, KS
  iexact H

/-- A thing all know beside what each has. -/
theorem each_knows {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem cells_alloc :
    iprop((bigSep Finset.univ fun c : Dev nD => bigSep Finset.univ fun p : Part => semVal (cell c p) 0)
        ∗ (bigSep Finset.univ fun c : Dev nD => bigSep Finset.univ fun p : Part => roundState ER (rd m) (cell c p) 0))
      ⊢ (|={Set.univ}=> ∃ K : Dev nD × Part → ℕ, bigSep Finset.univ fun a : Dev nD × Part => cellInv ER (rd m) (K a) (cell a.1 a.2) : sProp 𝕄) := by
  have h : iprop((bigSep Finset.univ fun c : Dev nD => bigSep Finset.univ fun p : Part => semVal (cell c p) 0)
        ∗ (bigSep Finset.univ fun c : Dev nD => bigSep Finset.univ fun p : Part => roundState ER (rd m) (cell c p) 0))
      ⊢ (bigSep Finset.univ fun a : Dev nD × Part => body ER (rd m) (cell a.1 a.2) : sProp 𝕄) := by
    rw [← bigSep_univ_prod (fun a : Dev nD × Part => (semVal (cell a.1 a.2) 0 : sProp 𝕄)),
      ← bigSep_univ_prod (fun a : Dev nD × Part => (roundState ER (rd m) (cell a.1 a.2) 0 : sProp 𝕄)), ← bigSep_sep']
    exact bigSep_mono fun a _ => Rounds.body_intro ER (rd m) (cell a.1 a.2)
  iintro H
  ihave H := h $$ H
  imod (invs_alloc (fun a : Dev nD × Part => body ER (rd m) (cell a.1 a.2))) $$ H with ⟨%K, -, H⟩
  imodintro
  iexists K
  iexact H

omit [FloatOps F] in
theorem shelves_alloc :
    (bigSep Finset.univ fun c : Dev nD => bigSep Finset.univ (shelfMade (F := F) c))
      ⊢ (|={Set.univ}=> ∃ KS : Dev nD × Fin 4 → ℕ, bigSep Finset.univ fun a : Dev nD × Fin 4 => inv (KS a) (shelf a) : sProp 𝕄) := by
  have h : (bigSep Finset.univ fun c : Dev nD => bigSep Finset.univ (shelfMade (F := F) c)) ⊢ (bigSep Finset.univ fun a : Dev nD × Fin 4 => shelf a : sProp 𝕄) := by
    rw [bigSep_univ_prod]
    exact bigSep_mono fun c _ => bigSep_mono fun q _ => shelf_intro c q
  iintro H
  ihave H := h $$ H
  imod (invs_alloc (fun a : Dev nD × Fin 4 => shelf (F := F) a)) $$ H with ⟨%K, -, H⟩
  imodintro
  iexists K
  iexact H

theorem deal_all : (bigSep Finset.univ fun c => iprop(Pipeline.ownSems0 (Ix := ℕ) (Name := ℕ) (U := UU) (Lvl := ℕ) (Val := Elt F) (τ := τ) osem c ∗ unscopedSems0 c ∗ made m c) : sProp 𝕄)
    ⊢ |={Set.univ}=> bigSep Finset.univ (hand m) := by
  have hs : iprop((bigSep Finset.univ fun c : Dev nD => (unscopedSems0 c : sProp 𝕄))
        ∗ bigSep Finset.univ fun c : Dev nD => Pipeline.ownSems0 (Ix := ℕ) (Name := ℕ) (U := UU) (Lvl := ℕ) (Val := Elt F) (τ := τ) osem c)
      = (bigSep Finset.univ fun c : Dev nD => bigSep Finset.univ fun p : Part => semVal (cell c p) 0 : sProp 𝕄) := by
    rw [← bigSep_sep']; exact bigSep_congr fun c _ => sems_eq c
  have hp : (bigSep Finset.univ fun c : Dev nD => bigSep Finset.univ (places (F := F) c))
      = iprop((bigSep Finset.univ fun c : Dev nD => atPos (ER (F := F)) (barCell c) 0 ∅ 0) ∗ bigSep Finset.univ fun c : Dev nD => bigSep Finset.univ (five (places (F := F) c))) := by
    rw [← bigSep_sep']; exact bigSep_congr fun c _ => parts_eq _
  have hr : (bigSep Finset.univ fun c : Dev nD => bigSep Finset.univ fun p : Part => (reached ER (cell c p) 0 : sProp 𝕄))
      = bigSep Finset.univ fun a : Dev nD × Part => reached ER (cell a.1 a.2) 0 :=
    (bigSep_univ_prod (fun a : Dev nD × Part => (reached ER (cell a.1 a.2) 0 : sProp 𝕄))).symm
  unfold made
  rw [bigSep_sep', bigSep_sep', bigSep_sep', bigSep_sep', bigSep_sep', bigSep_sep', bigSep_sep', bigSep_sep', bigSep_sep', bigSep_sep', bigSep_sep', bigSep_sep']
  iintro ⟨Hos, Hus, Hst, Hr, Hat, ⟨Hb0, Hb1⟩, Hs, Hv, Hc, Hsh, Hp, Ht⟩
  ihave Hsem := (Entails.of_eq hs) $$ [Hos Hus]
  · isplitl [Hus] <;> iassumption
  ihave Hat := (Entails.of_eq hp) $$ Hat
  icases Hat with ⟨Hab, Hat⟩
  ihave #Hr := (Entails.of_eq hr) $$ Hr
  imod (cells_alloc m) $$ [Hsem Hst] with ⟨%K, #HK⟩
  · isplitl [Hsem] <;> iassumption
  imod shelves_alloc $$ Hsh with ⟨%KS, #HKS⟩
  imodintro
  ihave Hd := (Entails.of_eq dealt_eq.symm) $$ [Hs Hv Hc Hp Ht Hat]
  · isplitl [Hs Hv]
    · isplitl [Hs] <;> iassumption
    isplitl [Hc]; · iexact Hc
    isplitl [Hp]; · iexact Hp
    isplitl [Ht] <;> iassumption
  ihave Hb := (Entails.of_eq barDealt_eq.symm) $$ [Hb0 Hb1 Hab]
  · isplitl [Hb0]; · iexact Hb0
    isplitl [Hb1] <;> iassumption
  iapply (each_knows (R := known m K KS) fun c _ => hand_intro m K KS c)
  isplitr
  · unfold known
    isplitr; · iexact HK
    isplitr; · iexact Hr
    iexact HKS
  rw [bigSep_sep']
  isplitl [Hd] <;> iassumption

/-! ## The credit at the start -/

/-- What device `c` will wait for. -/
def waits (c : Dev nD) : CellTallies nD τ sig ℕ :=
  tallyAt (barCell c) 0 2 + ∑ q : Fin 4, ((∑ h ∈ Finset.Ico 0 31, tallyAt (recvCell c q h) h N) + ∑ k ∈ Finset.Ico 0 29, tallyAt (credCell c q) k 1)

theorem debt_sum (c : Dev nD) : debt c 0 0 = ∑ q : Fin 4, dues q c 0 0 := by
  rw [Fin.sum_univ_four]; unfold debt; ac_rfl

theorem sum_dn {A : Type} [AddCommMonoid A] (f : Dev nD → Fin 4 → A) : ∑ c, ∑ q, f (dn q c) q = ∑ c, ∑ q, f c q := by
  rw [Finset.sum_comm, Finset.sum_comm (f := fun c q => f c q)]
  exact Finset.sum_congr rfl fun q _ => Equiv.sum_comp (shift q) fun c => f c q
theorem sum_up {A : Type} [AddCommMonoid A] (f : Dev nD → Fin 4 → A) : ∑ c, ∑ q, f (up q c) q = ∑ c, ∑ q, f c q := by
  rw [Finset.sum_comm, Finset.sum_comm (f := fun c q => f c q)]
  exact Finset.sum_congr rfl fun q _ => Equiv.sum_comp (shift q).symm fun c => f c q

theorem owed_waits : (∑ c, O₀ c) = ∑ c, waits c := by
  have h1 : (∑ c, tallyAt (barCell (next c)) 0 1 : CellTallies nD τ sig ℕ) = ∑ c, tallyAt (barCell c) 0 1 :=
    Equiv.sum_comp (shift 0) fun c => (tallyAt (barCell c) 0 1 : CellTallies nD τ sig ℕ)
  have h2 : (∑ c, tallyAt (barCell (prev c)) 0 1 : CellTallies nD τ sig ℕ) = ∑ c, tallyAt (barCell c) 0 1 :=
    Equiv.sum_comp (shift 2) fun c => (tallyAt (barCell c) 0 1 : CellTallies nD τ sig ℕ)
  have h3 : (∑ c, debt c 0 0) = ∑ c : Dev nD, ∑ q : Fin 4, ((∑ h ∈ Finset.Ico 0 31, tallyAt (recvCell c q h) h N) + ∑ k ∈ Finset.Ico 0 29, tallyAt (credCell c q) k 1) := by
    simp only [debt_sum, dues, Finset.sum_add_distrib]
    rw [sum_dn (fun c q => ∑ h ∈ Finset.Ico 0 31, (tallyAt (recvCell c q h) h N : CellTallies nD τ sig ℕ)),
      sum_up (fun c q => ∑ k ∈ Finset.Ico 0 29, (tallyAt (credCell c q) k 1 : CellTallies nD τ sig ℕ))]
  have h4 : ∀ c : Dev nD, (tallyAt (barCell c) 0 2 : CellTallies nD τ sig ℕ) = tallyAt (barCell c) 0 1 + tallyAt (barCell c) 0 1 := fun c => (tallyAt_add _ _ 1 1).symm
  unfold O₀ waits
  simp only [Finset.sum_add_distrib, h1, h2, h3, h4]
  ac_rfl

/-- All of it at the cells of `c`. -/
def At (c : Dev nD) (O : CellTallies nD τ sig ℕ) : Prop := ∀ g, O g ≠ 0 → g.1 = (c.tc : Thread nD τ)

theorem At.add {c : Dev nD} {O O' : CellTallies nD τ sig ℕ} (h : At c O) (h' : At c O') : At c (O + O') := fun g hg => by
  by_cases h0 : O g = 0
  · exact h' g fun h1 => hg (by rw [Pi.add_apply, h0, h1, add_zero])
  · exact h g h0
theorem At.sum {A : Type} [DecidableEq A] {c : Dev nD} (s : Finset A) {O : A → CellTallies nD τ sig ℕ} (h : ∀ i, At c (O i)) : At c (∑ i ∈ s, O i) := by
  induction s using Finset.induction_on with
  | empty => exact fun g hg => absurd rfl hg
  | insert a s ha ih => rw [Finset.sum_insert ha]; exact (h a).add ih
theorem At.tally (c : Dev nD) (p : Part) (i k : ℕ) : At c (tallyAt (cell c p) i k) := fun g hg => by
  by_contra hne
  exact hg (tallyAt_ne_cell (fun e => hne (by rw [e])) i k)

theorem waits_at (c : Dev nD) : At c (waits c) :=
  (At.tally c .bar 0 2).add (At.sum _ fun q => (At.sum _ fun h => At.tally c (.rv q (slot h)) h N).add (At.sum _ fun k => At.tally c (.cr q) k 1))

omit [FloatOps F] in
theorem credit_start (c : Dev nD) : (Pipeline.launchCred O₀ c : sProp 𝕄)
    = iprop(cred (tallyAt (barCell c) 0 2) ∗ bigSep Finset.univ fun q => iprop(bigSep (Finset.Ico 0 31) (blockDue c q) ∗ bigSep (Finset.Ico 0 29) (creditDue c q))) := by
  have h (A B : CellTallies nD τ sig ℕ) : (cred (A + B) : sProp 𝕄) = iprop(cred A ∗ cred B) := BI.Entails.antisymm (cred_add _ _).1 (cred_add _ _).2
  rw [Pipeline.launchCred_of_sum O₀ waits owed_waits waits_at]
  unfold waits
  rw [h, Pipeline.cred_finsetSum]
  refine congrArg₂ _ rfl (bigSep_congr fun q _ => ?_)
  rw [h, Pipeline.cred_finsetSum, Pipeline.cred_finsetSum]
  rfl

end Cert.Tour

end
-- ==== Proof.Launch.lean ====
/-
# The run

The library's launch theorem at the kernel's one call: what the launch hands each device is what its body starts
from, and what the body ends with is what the launch asks back. `run_main` is the result: the run ends, every
semaphore is zero, and every window's array is known.
-/
module

public import proofs.«01_k».proof.Proof.Deal
public import proofs.«01_k».proof.Proof.Gen.KernelIdeal.Launch
public import proofs.«01_k».proof.Proof.Gen.KernelIdeal.Points
public import Idealize.ShloMosaic.Lib.Pipeline.CollectiveSegs

@[expose] public section

noncomputable section

namespace Cert.Tour

open Cert.KernelIdeal Cert.KernelIdeal.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## A buffer as its two slots -/

section
variable (b : Memref sig .tc .vmem S2x128x2048 .bf16)

theorem slots_apart : Disjoint (bufAt b (lit 0)).view.set (bufAt b (lit 1)).view.set := by
  rw [← slot_set, ← slot_set]
  show Disjoint (b.view.slice (lit 0).rows).set (b.view.slice (lit 1).rows).set
  rw [View.set_slice, View.set_slice]
  exact (Finset.disjoint_map _).2 (Rect.disjoint_of_separated _ _ (0 : Fin 3) (Or.inl (Or.inr (by decide))))

theorem slots_cover (hb : b.view.set = Finset.univ) : (bufAt b (lit 0)).view.set ∪ (bufAt b (lit 1)).view.set = Finset.univ := by
  rw [← slot_set, ← slot_set]
  have h : (lit 0).rows.set ∪ (lit 1).rows.set = Finset.univ := by
    refine Finset.eq_univ_of_forall fun i => ?_
    have h0 := (i 0).isLt
    have h1 := (i 1).isLt
    have h2 := (i 2).isLt
    have hi : (i 0).val = 0 ∨ (i 0).val = 1 := by
      have : (i 0).val < 2 := h0
      omega
    rcases hi with hi | hi
    · refine Finset.mem_union_left _ (Rect.mem_set_unit.2 fun a => ?_)
      fin_cases a
      · exact ⟨Nat.zero_le _, by show (i 0).val < 0 + 1; omega⟩
      · exact ⟨Nat.zero_le _, by show (i 1).val < 0 + 128; have : (i 1).val < 128 := h1; omega⟩
      · exact ⟨Nat.zero_le _, by show (i 2).val < 0 + 2048; have : (i 2).val < 2048 := h2; omega⟩
    · refine Finset.mem_union_right _ (Rect.mem_set_unit.2 fun a => ?_)
      fin_cases a
      · exact ⟨by show 1 ≤ (i 0).val; omega, by show (i 0).val < 1 + 1; omega⟩
      · exact ⟨Nat.zero_le _, by show (i 1).val < 0 + 128; have : (i 1).val < 128 := h1; omega⟩
      · exact ⟨Nat.zero_le _, by show (i 2).val < 0 + 2048; have : (i 2).val < 2048 := h2; omega⟩
  show (b.view.slice (lit 0).rows).set ∪ (b.view.slice (lit 1).rows).set = _
  rw [View.set_slice, View.set_slice, ← Finset.map_union, h, ← hb]
  rfl

omit [FloatOps F] in
theorem slots_of (hb : b.view.set = Finset.univ) (c : Dev nD) :
    iprop(∃ f : Buf (Elt F) (b.view.loc (c : Thread nD τ)), b.view.loc (c : Thread nD τ) ↦{fullShare} f) ⊢ (iprop(free c b 0 ∗ free c b 1) : sProp 𝕄) := by
  unfold free
  iintro ⟨%f, H⟩
  have h : (b.view.loc (c : Thread nD τ) ↦{fullShare} f : sProp 𝕄)
      ⊢ iprop((b.view.loc (c : Thread nD τ) ↦[(bufAt b (lit 0)).view.set]{fullShare} f) ∗ b.view.loc (c : Thread nD τ) ↦[(bufAt b (lit 1)).view.set]{fullShare} f) := by
    have e : (b.view.loc (c : Thread nD τ) ↦{fullShare} f : sProp 𝕄)
        = (b.view.loc (c : Thread nD τ) ↦[(bufAt b (lit 0)).view.set ∪ (bufAt b (lit 1)).view.set]{fullShare} f) := by rw [slots_cover b hb]
    exact (Entails.of_eq e).trans (pointsTo_union (slots_apart b)).1
  ihave H := h $$ H
  icases H with ⟨H0, H1⟩
  isplitl [H0]
  · iexists f; iexact H0
  · iexists f; iexact H1

omit [FloatOps F] in
theorem of_slots (hb : b.view.set = Finset.univ) (c : Dev nD) :
    (iprop(free c b 0 ∗ free c b 1) : sProp 𝕄) ⊢ iprop(∃ f : Buf (Elt F) (b.view.loc (c : Thread nD τ)), b.view.loc (c : Thread nD τ) ↦{fullShare} f) := by
  unfold free
  iintro ⟨⟨%f, H0⟩, ⟨%g, H1⟩⟩
  have h : iprop((b.view.loc (c : Thread nD τ) ↦[(bufAt b (lit 0)).view.set]{fullShare} f) ∗ b.view.loc (c : Thread nD τ) ↦[(bufAt b (lit 1)).view.set]{fullShare} g)
      ⊢ (b.view.loc (c : Thread nD τ) ↦{fullShare} ((bufAt b (lit 1)).view.set.piecewise g f) : sProp 𝕄) := by
    have e : (b.view.loc (c : Thread nD τ) ↦[(bufAt b (lit 0)).view.set ∪ (bufAt b (lit 1)).view.set]{fullShare} ((bufAt b (lit 1)).view.set.piecewise g f) : sProp 𝕄)
        = (b.view.loc (c : Thread nD τ) ↦{fullShare} ((bufAt b (lit 1)).view.set.piecewise g f)) := by rw [slots_cover b hb]
    exact (pointsTo_join (slots_apart b)).trans (Entails.of_eq e)
  iexists ((bufAt b (lit 1)).view.set.piecewise g f)
  iapply h
  isplitl [H0] <;> iassumption

end

theorem lane_sb_whole : ∀ q : Fin 4, (lane q).sb.view.set = Finset.univ
  | 0 => View.set_whole _ | 1 => View.set_whole _ | 2 => View.set_whole _ | 3 => View.set_whole _
theorem lane_rb_whole : ∀ q : Fin 4, (lane q).rb.view.set = Finset.univ
  | 0 => View.set_whole _ | 1 => View.set_whole _ | 2 => View.set_whole _ | 3 => View.set_whole _

/-- Both slots of the buffer to send from. -/
def outbox (c : Dev nD) (q : Fin 4) : sProp 𝕄 := iprop(free c (lane q).sb 0 ∗ free c (lane q).sb 1)

omit [FloatOps F] in
theorem boxes_of (c : Dev nD) : (Pipeline.scopedRest (Ix := ℕ) (Name := ℕ) (U := UU) (Lvl := ℕ) (Val := Elt F) cfg0.spec c : sProp 𝕄)
    ⊢ iprop(all (outbox c) ∗ all (inbox c)) := by
  rw [scopedRest0_eq]
  iintro ⟨H0, H1, H2, H3, H4, H5, H6, H7⟩
  unfold all outbox inbox
  have h0 : iprop(∃ f : Buf (Elt F) ((c : Thread nD τ).loc cc0_scratch0), ((c : Thread nD τ).loc cc0_scratch0) ↦{fullShare} f) ⊢ (iprop(free c (lane 0).sb 0 ∗ free c (lane 0).sb 1) : sProp 𝕄) := slots_of (lane 0).sb (lane_sb_whole 0) c
  ihave H0 := h0 $$ H0
  have h1 : iprop(∃ f : Buf (Elt F) ((c : Thread nD τ).loc cc0_scratch1), ((c : Thread nD τ).loc cc0_scratch1) ↦{fullShare} f) ⊢ (iprop(free c (lane 1).sb 0 ∗ free c (lane 1).sb 1) : sProp 𝕄) := slots_of (lane 1).sb (lane_sb_whole 1) c
  ihave H1 := h1 $$ H1
  have h2 : iprop(∃ f : Buf (Elt F) ((c : Thread nD τ).loc cc0_scratch2), ((c : Thread nD τ).loc cc0_scratch2) ↦{fullShare} f) ⊢ (iprop(free c (lane 2).sb 0 ∗ free c (lane 2).sb 1) : sProp 𝕄) := slots_of (lane 2).sb (lane_sb_whole 2) c
  ihave H2 := h2 $$ H2
  have h3 : iprop(∃ f : Buf (Elt F) ((c : Thread nD τ).loc cc0_scratch3), ((c : Thread nD τ).loc cc0_scratch3) ↦{fullShare} f) ⊢ (iprop(free c (lane 3).sb 0 ∗ free c (lane 3).sb 1) : sProp 𝕄) := slots_of (lane 3).sb (lane_sb_whole 3) c
  ihave H3 := h3 $$ H3
  have h4 : iprop(∃ f : Buf (Elt F) ((c : Thread nD τ).loc cc0_scratch4), ((c : Thread nD τ).loc cc0_scratch4) ↦{fullShare} f) ⊢ (iprop(free c (lane 0).rb 0 ∗ free c (lane 0).rb 1) : sProp 𝕄) := slots_of (lane 0).rb (lane_rb_whole 0) c
  ihave H4 := h4 $$ H4
  have h5 : iprop(∃ f : Buf (Elt F) ((c : Thread nD τ).loc cc0_scratch5), ((c : Thread nD τ).loc cc0_scratch5) ↦{fullShare} f) ⊢ (iprop(free c (lane 1).rb 0 ∗ free c (lane 1).rb 1) : sProp 𝕄) := slots_of (lane 1).rb (lane_rb_whole 1) c
  ihave H5 := h5 $$ H5
  have h6 : iprop(∃ f : Buf (Elt F) ((c : Thread nD τ).loc cc0_scratch6), ((c : Thread nD τ).loc cc0_scratch6) ↦{fullShare} f) ⊢ (iprop(free c (lane 2).rb 0 ∗ free c (lane 2).rb 1) : sProp 𝕄) := slots_of (lane 2).rb (lane_rb_whole 2) c
  ihave H6 := h6 $$ H6
  have h7 : iprop(∃ f : Buf (Elt F) ((c : Thread nD τ).loc cc0_scratch7), ((c : Thread nD τ).loc cc0_scratch7) ↦{fullShare} f) ⊢ (iprop(free c (lane 3).rb 0 ∗ free c (lane 3).rb 1) : sProp 𝕄) := slots_of (lane 3).rb (lane_rb_whole 3) c
  ihave H7 := h7 $$ H7
  isplitl [H0 H1 H2 H3]
  · isplitl [H0]; · iexact H0
    isplitl [H2]; · iexact H2
    isplitl [H1]; · iexact H1
    iexact H3
  · isplitl [H4]; · iexact H4
    isplitl [H6]; · iexact H6
    isplitl [H5]; · iexact H5
    iexact H7

omit [FloatOps F] in
theorem of_boxes (c : Dev nD) : iprop(all (outbox c) ∗ all (inbox c))
    ⊢ (Pipeline.scopedRest (Ix := ℕ) (Name := ℕ) (U := UU) (Lvl := ℕ) (Val := Elt F) cfg0.spec c : sProp 𝕄) := by
  rw [scopedRest0_eq]
  unfold all outbox inbox
  iintro ⟨⟨H0, H2, H1, H3⟩, ⟨H4, H6, H5, H7⟩⟩
  have h0 : (iprop(free c (lane 0).sb 0 ∗ free c (lane 0).sb 1) : sProp 𝕄) ⊢ iprop(∃ f : Buf (Elt F) ((c : Thread nD τ).loc cc0_scratch0), ((c : Thread nD τ).loc cc0_scratch0) ↦{fullShare} f) := of_slots (lane 0).sb (lane_sb_whole 0) c
  ihave H0 := h0 $$ H0
  have h1 : (iprop(free c (lane 1).sb 0 ∗ free c (lane 1).sb 1) : sProp 𝕄) ⊢ iprop(∃ f : Buf (Elt F) ((c : Thread nD τ).loc cc0_scratch1), ((c : Thread nD τ).loc cc0_scratch1) ↦{fullShare} f) := of_slots (lane 1).sb (lane_sb_whole 1) c
  ihave H1 := h1 $$ H1
  have h2 : (iprop(free c (lane 2).sb 0 ∗ free c (lane 2).sb 1) : sProp 𝕄) ⊢ iprop(∃ f : Buf (Elt F) ((c : Thread nD τ).loc cc0_scratch2), ((c : Thread nD τ).loc cc0_scratch2) ↦{fullShare} f) := of_slots (lane 2).sb (lane_sb_whole 2) c
  ihave H2 := h2 $$ H2
  have h3 : (iprop(free c (lane 3).sb 0 ∗ free c (lane 3).sb 1) : sProp 𝕄) ⊢ iprop(∃ f : Buf (Elt F) ((c : Thread nD τ).loc cc0_scratch3), ((c : Thread nD τ).loc cc0_scratch3) ↦{fullShare} f) := of_slots (lane 3).sb (lane_sb_whole 3) c
  ihave H3 := h3 $$ H3
  have h4 : (iprop(free c (lane 0).rb 0 ∗ free c (lane 0).rb 1) : sProp 𝕄) ⊢ iprop(∃ f : Buf (Elt F) ((c : Thread nD τ).loc cc0_scratch4), ((c : Thread nD τ).loc cc0_scratch4) ↦{fullShare} f) := of_slots (lane 0).rb (lane_rb_whole 0) c
  ihave H4 := h4 $$ H4
  have h5 : (iprop(free c (lane 1).rb 0 ∗ free c (lane 1).rb 1) : sProp 𝕄) ⊢ iprop(∃ f : Buf (Elt F) ((c : Thread nD τ).loc cc0_scratch5), ((c : Thread nD τ).loc cc0_scratch5) ↦{fullShare} f) := of_slots (lane 1).rb (lane_rb_whole 1) c
  ihave H5 := h5 $$ H5
  have h6 : (iprop(free c (lane 2).rb 0 ∗ free c (lane 2).rb 1) : sProp 𝕄) ⊢ iprop(∃ f : Buf (Elt F) ((c : Thread nD τ).loc cc0_scratch6), ((c : Thread nD τ).loc cc0_scratch6) ↦{fullShare} f) := of_slots (lane 2).rb (lane_rb_whole 2) c
  ihave H6 := h6 $$ H6
  have h7 : (iprop(free c (lane 3).rb 0 ∗ free c (lane 3).rb 1) : sProp 𝕄) ⊢ iprop(∃ f : Buf (Elt F) ((c : Thread nD τ).loc cc0_scratch7), ((c : Thread nD τ).loc cc0_scratch7) ↦{fullShare} f) := of_slots (lane 3).rb (lane_rb_whole 3) c
  ihave H7 := h7 $$ H7
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The result -/

/-- Where a column of the result is within its block of columns, and which block that is. -/
def within (i : S128x8192.Idx) : S128x2048.Idx := fun a => match a with
  | ⟨0, _⟩ => (⟨(i 0).val, (i 0).isLt⟩ : Fin 128)
  | ⟨1, _⟩ => (⟨(i 1).val % 2048, Nat.mod_lt _ (by decide)⟩ : Fin 2048)
def blockOf (i : S128x8192.Idx) : Fin 4 := ⟨(i 1).val / 2048, by have : (i 1).val < 8192 := (i 1).isLt; omega⟩

/-- Device `c`'s result. -/
def outC (c : Dev nD) : (cc0_stg2_0 : Ref sig .tc).ty.Contents (Elt F) :=
  fun i : S128x8192.Idx => total m (blockOf i) c (within i)

theorem emb_within (i : S128x8192.Idx) : (cols (blockOf i)).emb (within i) = i := by
  funext a
  refine Fin.ext ?_
  rw [Rect.emb_apply]
  fin_cases a
  · show 0 + 1 * (i 0).val = (i 0).val
    omega
  · show 2048 * ((i 1).val / 2048) + 1 * ((i 1).val % 2048) = (i 1).val
    omega

theorem block_of_mem (q : Fin 4) (i : S128x8192.Idx) (h : i ∈ (cols q).set) : blockOf i = q := by
  have h1 := (Rect.mem_set_unit.1 h) 1
  have h2 : 2048 * q.val ≤ (i 1).val := h1.1
  have h3 : (i 1).val < 2048 * q.val + 2048 := h1.2
  exact Fin.ext (by show (i 1).val / 2048 = q.val; omega)

omit [FloatOps F] in
theorem write_in (q : Fin 4) (f : (cc0_stg2_0 : Ref sig .tc).ty.Contents (Elt F)) (w : Vec F S128x2048 .f32) (j : S128x2048.Idx) :
    (oM.access (cols q) : View sig .tc _ _ _).write (Elt F) f w Finset.univ ((cols q).emb j) = w j :=
  View.write_emb_of_mem (v := oM.access (cols q)) (Val := Elt F) f w (Finset.mem_univ j)

omit [FloatOps F] in
theorem write_out (q : Fin 4) (f : (cc0_stg2_0 : Ref sig .tc).ty.Contents (Elt F)) (w : Vec F S128x2048 .f32) (i : S128x8192.Idx) (h : blockOf i ≠ q) :
    (oM.access (cols q) : View sig .tc _ _ _).write (Elt F) f w Finset.univ i = f i :=
  View.write_of_not_mem (v := oM.access (cols q)) (Val := Elt F) f w Finset.univ fun hm => h (by
    obtain ⟨j, -, hj⟩ := Finset.mem_map.1 hm
    refine block_of_mem q i ?_
    have : (cols q).emb j = i := hj
    rw [← this]
    exact (cols q).toLoadRect.idx_mem j)

theorem placed_out (q : Fin 4) (c : Dev nD) (f : (cc0_stg2_0 : Ref sig .tc).ty.Contents (Elt F)) (i : S128x8192.Idx) (h : blockOf i ≠ q) :
    placed m q c f i = f i := write_out q f (total m q c) i h

theorem placed_in (q : Fin 4) (c : Dev nD) (f : (cc0_stg2_0 : Ref sig .tc).ty.Contents (Elt F)) (i : S128x8192.Idx) (h : blockOf i = q) :
    placed m q c f i = outC m c i := by
  have e := write_in q f (total m q c) (within i)
  subst h
  rw [emb_within] at e
  exact e

theorem filled_eq (c : Dev nD) (f : (cc0_stg2_0 : Ref sig .tc).ty.Contents (Elt F)) : filled m c f = outC m c := by
  funext i
  unfold filled
  by_cases h3 : blockOf i = 3
  · exact placed_in m 3 c _ i h3
  rw [placed_out m 3 c _ i h3]
  by_cases h1 : blockOf i = 1
  · exact placed_in m 1 c _ i h1
  rw [placed_out m 1 c _ i h1]
  by_cases h2 : blockOf i = 2
  · exact placed_in m 2 c _ i h2
  rw [placed_out m 2 c _ i h2]
  refine placed_in m 0 c _ i ?_
  revert h1 h2 h3
  generalize blockOf i = q
  revert q
  decide

/-! ## What the body starts from and ends with -/

/-- What the launch hands to device `c`, its buffers aside. -/
def start (c : Dev nD) : sProp 𝕄 :=
  iprop(hand m c
    ∗ (cred (tallyAt (barCell c) 0 2) ∗ bigSep Finset.univ fun q => iprop(bigSep (Finset.Ico 0 31) (blockDue c q) ∗ bigSep (Finset.Ico 0 29) (creditDue c q)))
    ∗ levAts L lv)

def atStart (c : Dev nD) : sProp 𝕄 :=
  iprop(∃ K KS, world m K KS ∗ all (early c) ∗ all (inbox c)
    ∗ (dutyTok ER (barCell (prev c)) 0 0 ∗ dutyTok ER (barCell (next c)) 0 1 ∗ cred (tallyAt (barCell c) 0 2) ∗ atPos ER (barCell c) 0 ∅ 0))
def atEnd (c : Dev nD) : sProp 𝕄 := iprop(all (done (F := F) c) ∗ semVal (barCell c) 0)

omit [FloatOps F] in
theorem early_intro (c : Dev nD) (q : Fin 4) :
    iprop(dealt (F := F) c q ∗ (bigSep (Finset.Ico 0 31) (blockDue c q) ∗ bigSep (Finset.Ico 0 29) (creditDue c q)) ∗ outbox c q) ⊢ early c q := by
  unfold dealt early rights credits outbox five
  iintro ⟨⟨Hs, Hc, Hp, Ht, Hk, ⟨Hs0, Hs1⟩, ⟨Hr0, Hr1⟩⟩, ⟨Hb, Hd⟩, ⟨Ho0, Ho1⟩⟩
  isplitl [Hs Hc Hb Hd]
  · isplitl [Hb]; · iexact Hb
    isplitl [Hd]; · iexact Hd
    isplitl [Hs] <;> iassumption
  isplitl [Hp]; · iexact Hp
  isplitl [Ht]; · iexact Ht
  isplitl [Hk]
  · iexists ∅
    isplitr; · ipureintro; exact ⟨Finset.empty_subset _, by decide⟩
    isplitl [Hk]; · iapply (Entails.of_eq (show places (F := F) c (.cr q) = atPos ER (credCell c q) 0 ∅ 0 from rfl)); iexact Hk
    rw [bigSep_empty]
    iempintro
  isplitl [Hr0]; · iapply (Entails.of_eq (show places (F := F) c (.rv q 0) = recvAt c q 0 from rfl)); iexact Hr0
  isplitl [Hr1]; · iapply (Entails.of_eq (show places (F := F) c (.rv q 1) = recvAt c q 1 from rfl)); iexact Hr1
  isplitl [Hs0]; · iapply (Entails.of_eq (show places (F := F) c (.sd q 0) = sendAt c q 0 from rfl)); iexact Hs0
  isplitl [Hs1]; · iapply (Entails.of_eq (show places (F := F) c (.sd q 1) = sendAt c q 1 from rfl)); iexact Hs1
  isplitl [Ho0] <;> iassumption

omit [FloatOps F] in
theorem earlies (c : Dev nD) :
    iprop(bigSep Finset.univ (dealt (F := F) c)
        ∗ (bigSep Finset.univ fun q => iprop(bigSep (Finset.Ico 0 31) (blockDue c q) ∗ bigSep (Finset.Ico 0 29) (creditDue c q))) ∗ all (outbox c)) ⊢ all (early c) := by
  rw [← four_eq, ← four_eq, ← bigSep_sep', ← bigSep_sep']
  exact bigSep_mono fun q _ => early_intro c q

theorem at_start (c : Dev nD) : iprop(start m c ∗ Pipeline.scopedRest cfg0.spec c) ⊢ atStart m c := by
  unfold start atStart hand known barDealt world
  iintro ⟨⟨⟨%K, %KS, ⟨HK, HR, HS⟩, Hd, ⟨Ht0, Ht1, Hat⟩⟩, ⟨Hcb, Hcr⟩, Hlev⟩, Hbuf⟩
  ihave Hbuf := (boxes_of (F := F) c) $$ Hbuf
  icases Hbuf with ⟨Ho, Hi⟩
  iexists K, KS
  isplitl [HK HR HS Hlev]
  · isplitl [HK]; · iexact HK
    isplitl [HR]; · iexact HR
    isplitl [HS]; · iexact HS
    iexact Hlev
  isplitl [Hd Hcr Ho]
  · iapply (earlies (F := F) c)
    isplitl [Hd]; · iexact Hd
    isplitl [Hcr] <;> iassumption
  isplitl [Hi]; · iexact Hi
  isplitl [Ht0]; · iexact Ht0
  isplitl [Ht1]; · iexact Ht1
  isplitl [Hcb] <;> iassumption

omit [FloatOps F] in
theorem done_split (c : Dev nD) (q : Fin 4) : done (F := F) c q ⊢ iprop((outbox c q ∗ inbox c q) ∗ five (fun p => semVal (cell c p) 0) q) := by
  unfold done outbox inbox five
  iintro ⟨Ho, Hi, Hs⟩
  isplitl [Ho Hi]
  · isplitl [Ho] <;> iassumption
  iexact Hs

omit [FloatOps F] in
theorem at_end (c : Dev nD) : (atEnd (F := F) c) ⊢ iprop(unscopedSems0 c ∗ Pipeline.ownSems0 osem c ∗ Pipeline.scopedRest cfg0.spec c) := by
  have h : all (done (F := F) c) ⊢ iprop((all (outbox c) ∗ all (inbox c)) ∗ bigSep Finset.univ (five fun p => semVal (cell c p) 0)) := by
    rw [← four_eq, ← four_eq, ← four_eq, ← bigSep_sep', ← bigSep_sep']
    exact bigSep_mono fun q _ => done_split c q
  have hs : (bigSep Finset.univ (five fun p => semVal (cell c p) 0) : sProp 𝕄)
      ⊢ Pipeline.ownSems0 (Ix := ℕ) (Name := ℕ) (U := UU) (Lvl := ℕ) (Val := Elt F) (τ := τ) osem c := by
    rw [← own_eq]; exact Entails.of_eq rfl
  unfold atEnd
  rw [unscopedSems0_eq]
  iintro ⟨Hd, Hb⟩
  ihave Hd := h $$ Hd
  icases Hd with ⟨Hbuf, Hs⟩
  isplitl [Hb]; · iexact Hb
  isplitl [Hs]; · iapply hs; iexact Hs
  iapply (of_boxes (F := F) c)
  iexact Hbuf

/-! ## The call's data -/

variable (ρ : Dev nD → PrngReg)

def s₀ : MemSt nD τ sig (Elt F) := ⟨m, fun _ => 0, ρ⟩

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outC m c
  Φ t := match t with
    | ⟨0, _⟩ => atStart m c
    | ⟨_ + 1, _⟩ => atEnd c
  q _ := fullShare
  owed t := match t with
    | ⟨0, _⟩ => O₀ c
    | ⟨_ + 1, _⟩ => 0

omit [FloatOps F] in
theorem owns_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(atStart m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(atEnd c ∗ (dats m ρ 0 c).owesAt 0 t0_0.succ ∗ stg c cc0_stg0_0 (xstg m c) ∗ stg c cc0_stg1_0 (wstg m c) ∗ stg c cc0_stg2_0 (outC m c))

theorem before_x (c : Dev nD) (d) : (dats m ρ 0 c).before (0 : Fin 3) t0_0 d = xstg m c := by
  unfold Dat.before; rw [if_pos (fetch0_0 t0_0)]; rfl
theorem before_w (c : Dev nD) (d) : (dats m ρ 0 c).before (1 : Fin 3) t0_0 d = wstg m c := by
  unfold Dat.before; rw [if_pos (fetch0_1 t0_0)]; rfl

theorem run_body (c : Dev nD) : bodyPre m ρ c ⊢ runs c (program xM wM oM lane) (fun _ => bodyPost m ρ c) := by
  unfold bodyPre atStart Dat.owesAt Pipeline.owesWithin
  iintro ⟨⟨%K, %KS, Hw, He, Hi, Hb⟩, ⟨%W, %hW, HO⟩, ⟨%d0, %g0, %hg0, Hx⟩, ⟨%d1, %g1, %hg1, Hwt⟩, ⟨%d2, %g2, %hg2, Ho⟩⟩
  rw [before_x m ρ c d0] at hg0
  rw [before_w m ρ c d1] at hg1
  subst hg0 hg1
  iapply (run_program m K KS g2) $$ [Hw He Hi Hb HO Hx Hwt Ho]
  · isplitl [Hw]; · iexact Hw
    isplitl [He]; · iexact He
    isplitl [Hi]; · iexact Hi
    isplitl [Hb]; · iexact Hb
    isplitl [HO]; · unfold owing; iexists W; iexact HO
    isplitl [Hx]; · iexact Hx
    isplitl [Hwt] <;> iassumption
  rw [filled_eq m c g2]
  iintro ⟨Hd, Hb, HO, Hx, Hwt, Ho⟩
  unfold bodyPost atEnd owing Dat.owesAt Pipeline.owesWithin
  icases HO with ⟨%W', HO⟩
  isplitl [Hd Hb]
  · isplitl [Hd] <;> iassumption
  isplitl [HO]
  · iexists W'
    isplitr; · ipureintro; exact fun _ _ => Or.inl trivial
    iexact HO
  isplitl [Hx]
  · iexists _; isplitr; · (ipureintro; rfl)
    iexact Hx
  isplitl [Hwt]
  · iexists _; isplitr; · (ipureintro; rfl)
    iexact Hwt
  iexists _; isplitr; · (ipureintro; rfl)
  iexact Ho

omit [FloatOps F] in
theorem three_eq (Φ : Fin cfg0.W → sProp 𝕄) : bigSep Finset.univ Φ = iprop(Φ (0 : Fin 3) ∗ Φ (1 : Fin 3) ∗ Φ (2 : Fin 3)) := bigSep_W0 Φ

set_option maxRecDepth 4000 in
theorem body_obligation (c : Dev nD) : BodyObligation (dats (F := F) m ρ 0 c) (defs₀ (F := F)) 𝒱₀ 0 Set.univ := fun t => by
  rw [fin_N0 t, three_eq, three_eq]
  simp only [owns_eq]
  show bodyPre m ρ c ⊢ wp frame (wpE (defs₀ (F := F)) 𝒱₀ c none) Set.univ (bodyAt0 (F := F) t0_0) (fun _ => bodyPost m ρ c)
  have e : bodyAt0 (F := F) t0_0 = program xM wM oM lane := body_eq _ _ _ _ _ _ lane
  rw [e]
  exact run_body m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ hand m c)
      ⊢ |={Set.univ}=> iprop(start m c ∗ emp) := by
  rw [credit_start]
  iintro ⟨-, Hlev, Hcr, -, HG⟩
  imodintro
  unfold start
  isplitl
  · isplitl [HG]; · iexact HG
    isplitl [Hcr]; · iexact Hcr
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = atStart m c from rfl]
  iintro ⟨Hs, -, Hr⟩
  iapply (at_start m c)
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = atEnd c from rfl]
  exact at_end c

theorem stage_level (c : Dev nD) (w : Fin cfg0.W) (s : Fin ((cfg0.win w).nbuf)) : lv ((c : Thread nD τ), .dma ((cfg0.win w).sem s)) 0 = 0 := by
  have : partOf (.dma ((cfg0.win w).sem s)) = none := by
    revert s; revert w; decide
  unfold lv
  rw [this]; rfl

theorem start_above (c : Dev nD) : Above 0 (O₀ c) :=
  ((((Above.dues 0 0 c 0 0 (by decide) (by decide)).add ((Above.dues 0 2 c 0 0 (by decide) (by decide)).add
    ((Above.dues 0 1 c 0 0 (by decide) (by decide)).add (Above.dues 0 3 c 0 0 (by decide) (by decide)))))).add
      (Above.tally _ .bar 0 1 (by decide) (by decide))).add (Above.tally _ .bar 0 1 (by decide) (by decide))

theorem stage_waits (c : Dev nD) : (levAts L lv : sProp 𝕄) ⊢ Pipeline.cellsWaits cfgs (dats m ρ) 0 0 c :=
  Pipeline.cellsWaits_intro cfgs (dats m ρ) 0 0 c fun w s t => may_wait c _ 0 _ (by decide) (by
    rw [stage_level c w s]
    rcases t with ⟨_ | _, ht⟩
    · exact start_above c
    · exact Above.zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values, the 32 devices' run ends, with every window's array known
    and every semaphore zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := made m) (G' := hand m) (u₀ := u₀) (hu₀ := made_intro m) (hglob := deal_all m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.Tour

end
-- ==== Proof.Value.lean ====
/-
# The value of the result

Over the ideal values a rounding does nothing and a sum may be taken in any order. So what a device sends on at step `h`
of a stream is the sum of `h + 1` devices' products for one block of rows, and what a device ends with is the sum of all
32 devices' products for its own block, cut off below at zero. Each device's product covers 128 of the 4096 terms of the
whole product's inner sum; together they are that sum.
-/
module

public import proofs.«01_k».proof.Proof.Launch
public import proofs.«01_k».proof.Proof.Gen.ReferenceIdeal.Run
public import Idealize.ShloMosaic.Lib.ValueIdx
public import Idealize.ShloMosaic.Lib.Pointwise
public import Idealize.ShloMosaic.Lib.Layout
public import Idealize.ShloMosaic.Lib.Pipeline.ValueKit

@[expose] public section

noncomputable section

namespace Cert.Tour

open Cert.KernelIdeal Cert.KernelIdeal.Gen
open Idealize.ShloMosaic
open Idealize.ShloMosaic.TcCoe
open Idealize.SL Idealize.SL.Sem

/-! ## What the result array ends with -/

section
variable {F : FTy → Type} [FloatOps F]
variable (m : (ℓ : Loc nD τ sig) → Buf (Elt F) ℓ) (ρ : Dev nD → PrngReg)

/-- The result window is the whole array and is written back once, so the array ends as the kernel leaves the window. -/
theorem finalA_out (c : Dev nD) : finalA m ρ c (2 : Fin 3) = outC m c := by
  refine (dats m ρ 0 c).arrAt_eq_of_after_last (2 : Fin 3) (0 : Fin 1) ⟨by decide +kernel, fun t _ => Subsingleton.elim (α := Fin 1) t 0, by decide +kernel⟩ _ fun j => ?_
  rfl
end

/-! ## The payloads at an index -/

/-- A device's product: its block of rows of x times its block of columns of w. -/
def dotOf (a : Vec Ideal S128x128 .bf16) (b : Vec Ideal S128x2048 .bf16) (r : Fin 128) (n : Fin 2048) : EReal :=
  ∑ k : Fin 128, a (ix2 r k) * b (ix2 k n)

theorem pay_first (a : Vec Ideal S128x128 .bf16) (b : Vec Ideal S128x2048 .bf16) (r : Fin 128) (n : Fin 2048) :
    k0_pay8 a b (ix3 0 r n) = dotOf a b r n := by
  unfold k0_pay8 dotOf
  pointwise

theorem pay_next (a : Vec Ideal S128x128 .bf16) (b : Vec Ideal S128x2048 .bf16) (v : Vec Ideal S1x128x2048 .bf16)
    (r : Fin 128) (n : Fin 2048) : k0_pay7 a b v (ix3 0 r n) = v (ix3 0 r n) + dotOf a b r n := by
  unfold k0_pay7 dotOf
  pointwise

theorem pay_last (a : Vec Ideal S128x128 .bf16) (b : Vec Ideal S128x2048 .bf16) (v : Vec Ideal S1x128x2048 .bf16)
    (r : Fin 128) (n : Fin 2048) : k0_pay25 a b v (ix2 r n) = max (v (ix3 0 r n) + dotOf a b r n) 0 := by
  unfold k0_pay25 dotOf
  pointwise

/-! ## The sums that travel -/

variable (m : (ℓ : Loc nD τ sig) → Buf (Elt Ideal) ℓ)

/-- Device `e`'s product for the block of rows of device `d` and the columns `q`. -/
def part (q : Fin 4) (d : Dev nD) (r : Fin 128) (n : Fin 2048) (e : Dev nD) : EReal := dotOf (xr m e d) (wc m e q) r n

/-- What is sent at step `h` is the sum of the products of the sender and the `h` devices before it. -/
theorem sent_sum (q : Fin 4) (r : Fin 128) (n : Fin 2048) (h : ℕ) : ∀ c : Dev nD,
    sent m q h c (ix3 0 r n) = ∑ j ∈ Finset.range (h + 1), part m q (chunk q h c) r n ((up q)^[j] c) := by
  induction h with
  | zero =>
    intro c
    rw [Finset.sum_range_one]
    exact pay_first _ _ _ _
  | succ h ih =>
    intro c
    rw [Finset.sum_range_succ']
    refine (pay_next _ _ _ _ _).trans ?_
    rw [ih, chunk_up]
    rfl

/-- A device ends with the sum of all devices' products for its own block of rows, cut off below at zero. -/
theorem total_sum (q : Fin 4) (c : Dev nD) (r : Fin 128) (n : Fin 2048) :
    total m q c (ix2 r n) = max (∑ e : Dev nD, part m q c r n e) 0 := by
  refine (pay_last _ _ _ _ _).trans ?_
  rw [sent_sum, chunk_up, chunk_last]
  have hb : Function.Bijective fun j : Fin 32 => (up q)^[j.val] c := Finite.injective_iff_bijective.mp (walk_injective q c)
  rw [← hb.sum_comp (fun e => part m q c r n e), Fin.sum_univ_eq_sum_range (fun j => part m q c r n ((up q)^[j] c)) 32,
    Finset.sum_range_succ' (fun j => part m q c r n ((up q)^[j] c)) 31]
  rfl

/-! ## The whole product in 32 parts -/

/-- Term `k` of device `e` in the whole inner sum, and row `r` of device `d` in the whole result. -/
def at128 (e : Dev nD) (k : Fin 128) : Fin 4096 := ⟨128 * e.val + k.val, by have := e.isLt; have : e.val < 32 := e.isLt; omega⟩
/-- Column `n` of the columns `q`. -/
def at2048 (q : Fin 4) (n : Fin 2048) : Fin 8192 := ⟨2048 * q.val + n.val, by omega⟩

/-- A sum over 4096 terms, taken 128 at a time. -/
theorem sum_in_parts (f : Fin 4096 → EReal) : ∑ K : Fin 4096, f K = ∑ e : Dev nD, ∑ k : Fin 128, f (at128 e k) := by
  rw [← Fintype.sum_prod_type' (fun (e : Fin 32) (k : Fin 128) => f (at128 e k))]
  refine (Equiv.sum_comp (finProdFinEquiv (m := 32) (n := 128)) (fun K : Fin 4096 => f K)).symm.trans ?_
  refine Finset.sum_congr rfl fun p _ => congrArg f (Fin.ext ?_)
  show p.2.val + 128 * p.1.val = 128 * p.1.val + p.2.val
  omega

variable (X : (⟨2, ![4096, 4096]⟩ : Shape).Idx → EReal) (W : (⟨2, ![4096, 8192]⟩ : Shape).Idx → EReal)

/-- The devices hold their parts of the whole operands: device `e` has 128 columns of `X` and the same 128 rows of `W`. -/
def Dealt : Prop := ∀ c : Dev nD,
  m ((c : Thread nD τ).loc main_arg0) = Layout.block ⟨2, ![4096, 128]⟩ ⟨2, ![4096, 4096]⟩ 1 32 c X
  ∧ m ((c : Thread nD τ).loc main_arg1) = Layout.block ⟨2, ![128, 8192]⟩ ⟨2, ![4096, 8192]⟩ 0 32 c W

variable {m X W}

theorem xr_whole (h : Dealt m X W) (e d : Dev nD) (r k : Fin 128) : xr m e d (ix2 r k) = X (ix2 (at128 d r) (at128 e k)) := by
  unfold xr xstg
  rw [(h e).1]
  refine congrArg X (funext fun a => Fin.ext ?_)
  fin_cases a
  · show 0 + 1 * (128 * d.val + 1 * r.val) = 128 * d.val + r.val
    omega
  · show e.val * 128 + (0 + 1 * (0 + 1 * k.val)) = 128 * e.val + k.val
    omega

theorem wc_whole (h : Dealt m X W) (e : Dev nD) (q : Fin 4) (k : Fin 128) (n : Fin 2048) :
    wc m e q (ix2 k n) = W (ix2 (at128 e k) (at2048 q n)) := by
  unfold wc wstg
  rw [(h e).2]
  refine congrArg W (funext fun a => Fin.ext ?_)
  fin_cases a
  · show e.val * 128 + (0 + 1 * (0 + 1 * k.val)) = 128 * e.val + k.val
    omega
  · show 0 + 1 * (2048 * q.val + 1 * n.val) = 2048 * q.val + n.val
    omega

/-- All devices' products add up to the whole product. -/
theorem parts_sum (h : Dealt m X W) (q : Fin 4) (d : Dev nD) (r : Fin 128) (n : Fin 2048) :
    ∑ e : Dev nD, part m q d r n e = ∑ K : Fin 4096, X (ix2 (at128 d r) K) * W (ix2 K (at2048 q n)) := by
  rw [sum_in_parts]
  refine Finset.sum_congr rfl fun e _ => ?_
  unfold part dotOf
  refine Finset.sum_congr rfl fun k _ => ?_
  rw [xr_whole h, wc_whole h]

/-! ## The reference's result -/

/-- What the reference computes from the whole operands, as its run states it. -/
def refOut (X : FVec Ideal Cert.ReferenceIdeal.S4096x4096 .bf16)
    (W : FVec Ideal Cert.ReferenceIdeal.S4096x8192 .bf16) :
    FVec Ideal Cert.ReferenceIdeal.S4096x8192 .f32 :=
  maximumf (extf .f32 (truncf .bf16 (Host.dotGeneral Cert.ReferenceIdeal.dot_S4096x4096_S4096x8192_S4096x8192_1_0_0_1_n_n none X W)
    Cert.ReferenceIdeal.Gen.bitsLt_bf16_f32) Cert.ReferenceIdeal.Gen.bitsLt_bf16_f32)
    (broadcastInDim Cert.ReferenceIdeal.S4096x8192 ![] Cert.ReferenceIdeal.Gen.bcast_S_S4096x8192 (constant Cert.ReferenceIdeal.S_ .f32 0x00000000#32))

theorem refOut_at (i : Fin 4096) (n : Fin 8192) :
    refOut X W (ix2 i n) = max (∑ K : Fin 4096, X (ix2 i K) * W (ix2 K n)) 0 := by
  unfold refOut
  pointwise

/-- Each device's result is its block of 128 rows of the reference's. -/
theorem result_block (h : Dealt m X W) (c : Dev nD) :
    outC m c = Layout.block ⟨2, ![128, 8192]⟩ ⟨2, ![4096, 8192]⟩ 0 32 c (refOut X W) := by
  funext i
  have hi : (i 1).val < 8192 := (i 1).isLt
  have hl : outC m c i = total m (blockOf i) c (ix2 ⟨(i 0).val, (i 0).isLt⟩ ⟨(i 1).val % 2048, Nat.mod_lt _ (by decide)⟩) :=
    congrArg (total m (blockOf i) c) (funext fun a => by fin_cases a <;> rfl)
  have hr : Layout.block ⟨2, ![128, 8192]⟩ ⟨2, ![4096, 8192]⟩ 0 32 c (refOut X W) (by decide) i
      = refOut X W (ix2 (at128 c ⟨(i 0).val, (i 0).isLt⟩) ⟨(i 1).val, hi⟩) := by
    refine congrArg (refOut X W) (funext fun a => Fin.ext ?_)
    fin_cases a
    · show c.val * 128 + (i 0).val = 128 * c.val + (i 0).val
      omega
    · rfl
  rw [hl, hr, total_sum, parts_sum h, refOut_at]
  have hn : at2048 (blockOf i) ⟨(i 1).val % 2048, Nat.mod_lt _ (by decide)⟩ = ⟨(i 1).val, hi⟩ :=
    Fin.ext (by show 2048 * ((i 1).val / 2048) + (i 1).val % 2048 = (i 1).val; omega)
  rw [hn]

end Cert.Tour

end
-- ==== Proof.lean ====
/-
# The claims

The kernel runs from any memory and leaves its arguments alone and every semaphore at zero (`run_main`, over any float
values, so it is used at the bit-exact floats and at the ideal ones); the reference runs (generated); and over the ideal
values each device's result is its block of rows of the reference's (`value`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem

/-- The kernel's run, read off its windows: the result, the arguments as they were, every semaphore at zero. -/
theorem kernel_run {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_v1) = Cert.Tour.outC m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h =>
    ⟨fun c => ⟨(h.1 c (2 : Fin 3)).trans (Cert.Tour.finalA_out m ρ c), (h.1 c (0 : Fin 3)).trans (Cert.Tour.finalA_x m ρ c),
      (h.1 c (1 : Fin 3)).trans (Cert.Tour.finalA_w m ρ c)⟩, h.2⟩) (Cert.Tour.run_main m ρ)

/-- The kernel at the bit-exact floats: it ends without fault, its arguments kept, every semaphore at zero. -/
theorem frame_kernel : Cert.quiescent_Kernel := fun m ρ _ =>
  Cert.Tour.run_same _ _ ((θ_run Cert.KernelIdeal.defs _ _).mono (fun _ h => ⟨fun c => (h.1 c).2, h.2⟩) (kernel_run (F := Bits) m ρ))

/-- The same of the kernel over the ideal values. -/
theorem frame_kernelIdeal : Cert.quiescent_KernelIdeal := fun m ρ _ =>
  (θ_run Cert.KernelIdeal.defs _ _).mono (fun _ h => ⟨fun c => (h.1 c).2, h.2⟩) (kernel_run (F := Ideal) m ρ)

/-- The reference runs on its one device and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the ideal values each of the 32 devices ends with its block of 128 rows of what the reference computes. -/
theorem value : Cert.algebraic_KernelIdeal_ReferenceIdeal := fun m ρ m' ρ' _ h =>
  ⟨Cert.Tour.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ k c => ⟨(k.1 c).1.trans (Cert.Tour.result_block h c), (k.1 c).2⟩) (kernel_run (F := Ideal) m ρ),
    (θ_run Cert.ReferenceIdeal.defs _ _).mono (fun _ k => k 0) (Cert.ReferenceIdeal.Value.run (F := Ideal) m' ρ')⟩

/-- All five claims. -/
theorem claim : Cert.Claim := ⟨Cert.Kernel.Gen.facts, Cert.KernelIdeal.Gen.facts, Cert.ReferenceIdeal.Gen.facts,
  frame_kernel, frame_kernelIdeal, frame_reference, trivial, value⟩

end Cert.Proof

end
